-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_diff_finite [hPre_diff_finite : Cert.Pre_diff_finite.Facts] (m : (ℓ : Loc Cert.DiffIdeal.nD Cert.DiffIdeal.τ Cert.DiffIdeal.sig) → Buf (Elt Ideal) ℓ) : Prop :=
  ∀ c : Dev Cert.DiffIdeal.nD,
    (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_diff_finite [hPre_diff_finite : Cert.Pre_diff_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MlaFfn (m : (ℓ : Loc Cert.MlaFfn.nD Cert.MlaFfn.τ Cert.MlaFfn.sig) → Buf (Elt Bits) ℓ) : Prop :=
  True

def Pre_MlaFfnIdeal (m : (ℓ : Loc Cert.MlaFfnIdeal.nD Cert.MlaFfnIdeal.τ Cert.MlaFfnIdeal.sig) → Buf (Elt Ideal) ℓ) : Prop :=
  True

def Pre_MlaFfnRefIdeal (m : (ℓ : Loc Cert.MlaFfnRefIdeal.nD Cert.MlaFfnRefIdeal.τ Cert.MlaFfnRefIdeal.sig) → Buf (Elt Ideal) ℓ) : Prop :=
  True

def Pre_EvenFfn (m : (ℓ : Loc Cert.EvenFfn.nD Cert.EvenFfn.τ Cert.EvenFfn.sig) → Buf (Elt Bits) ℓ) : Prop :=
  True

def Pre_EvenFfnIdeal (m : (ℓ : Loc Cert.EvenFfnIdeal.nD Cert.EvenFfnIdeal.τ Cert.EvenFfnIdeal.sig) → Buf (Elt Ideal) ℓ) : Prop :=
  True

def Pre_EvenFfnRefIdeal (m : (ℓ : Loc Cert.EvenFfnRefIdeal.nD Cert.EvenFfnRefIdeal.τ Cert.EvenFfnRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffIdeal_pre_diff_finite [hDiffIdeal : Cert.DiffIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_diff_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_DiffRefIdeal_pre_diff_finite [hDiffRefIdeal : Cert.DiffRefIdeal.Facts] [hPre_diff_finite : Cert.Pre_diff_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_diff_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_MlaFfn [hMlaFfn : Cert.MlaFfn.Facts] : Prop :=
  ∀ (m : (ℓ : Loc Cert.MlaFfn.nD Cert.MlaFfn.τ Cert.MlaFfn.sig) → Buf (Elt Bits) ℓ) (g : Dev Cert.MlaFfn.nD → PrngReg), Pre_MlaFfn m →
    θ_run (Cert.MlaFfn.defs (F := Bits)) (onTc (τ := Cert.MlaFfn.τ) (Cert.MlaFfn.main (F := Bits))) ⟨m, fun _ => 0, g⟩ (fun r => (∀ c : Dev Cert.MlaFfn.nD,
      r.2.mem ((c.tc : Thread Cert.MlaFfn.nD Cert.MlaFfn.τ).loc Cert.MlaFfn.main_arg0) = m ((c.tc : Thread Cert.MlaFfn.nD Cert.MlaFfn.τ).loc Cert.MlaFfn.main_arg0)
      ∧ r.2.mem ((c.tc : Thread Cert.MlaFfn.nD Cert.MlaFfn.τ).loc Cert.MlaFfn.main_arg1) = m ((c.tc : Thread Cert.MlaFfn.nD Cert.MlaFfn.τ).loc Cert.MlaFfn.main_arg1)
      ∧ r.2.mem ((c.tc : Thread Cert.MlaFfn.nD Cert.MlaFfn.τ).loc Cert.MlaFfn.main_arg2) = m ((c.tc : Thread Cert.MlaFfn.nD Cert.MlaFfn.τ).loc Cert.MlaFfn.main_arg2)
      ∧ r.2.mem ((c.tc : Thread Cert.MlaFfn.nD Cert.MlaFfn.τ).loc Cert.MlaFfn.main_arg3) = m ((c.tc : Thread Cert.MlaFfn.nD Cert.MlaFfn.τ).loc Cert.MlaFfn.main_arg3)
      ∧ r.2.mem ((c.tc : Thread Cert.MlaFfn.nD Cert.MlaFfn.τ).loc Cert.MlaFfn.main_arg4) = m ((c.tc : Thread Cert.MlaFfn.nD Cert.MlaFfn.τ).loc Cert.MlaFfn.main_arg4)
      ∧ r.2.mem ((c.tc : Thread Cert.MlaFfn.nD Cert.MlaFfn.τ).loc Cert.MlaFfn.main_arg5) = m ((c.tc : Thread Cert.MlaFfn.nD Cert.MlaFfn.τ).loc Cert.MlaFfn.main_arg5))
      ∧ r.2.sem = fun _ => 0)

def quiescent_MlaFfnIdeal [hMlaFfnIdeal : Cert.MlaFfnIdeal.Facts] : Prop :=
  ∀ (m : (ℓ : Loc Cert.MlaFfnIdeal.nD Cert.MlaFfnIdeal.τ Cert.MlaFfnIdeal.sig) → Buf (Elt Ideal) ℓ) (g : Dev Cert.MlaFfnIdeal.nD → PrngReg), Pre_MlaFfnIdeal m →
    θ_run (Cert.MlaFfnIdeal.defs (F := Ideal)) (onTc (τ := Cert.MlaFfnIdeal.τ) (Cert.MlaFfnIdeal.main (F := Ideal))) ⟨m, fun _ => 0, g⟩ (fun r => (∀ c : Dev Cert.MlaFfnIdeal.nD,
      r.2.mem ((c.tc : Thread Cert.MlaFfnIdeal.nD Cert.MlaFfnIdeal.τ).loc Cert.MlaFfnIdeal.main_arg0) = m ((c.tc : Thread Cert.MlaFfnIdeal.nD Cert.MlaFfnIdeal.τ).loc Cert.MlaFfnIdeal.main_arg0)
      ∧ r.2.mem ((c.tc : Thread Cert.MlaFfnIdeal.nD Cert.MlaFfnIdeal.τ).loc Cert.MlaFfnIdeal.main_arg1) = m ((c.tc : Thread Cert.MlaFfnIdeal.nD Cert.MlaFfnIdeal.τ).loc Cert.MlaFfnIdeal.main_arg1)
      ∧ r.2.mem ((c.tc : Thread Cert.MlaFfnIdeal.nD Cert.MlaFfnIdeal.τ).loc Cert.MlaFfnIdeal.main_arg2) = m ((c.tc : Thread Cert.MlaFfnIdeal.nD Cert.MlaFfnIdeal.τ).loc Cert.MlaFfnIdeal.main_arg2)
      ∧ r.2.mem ((c.tc : Thread Cert.MlaFfnIdeal.nD Cert.MlaFfnIdeal.τ).loc Cert.MlaFfnIdeal.main_arg3) = m ((c.tc : Thread Cert.MlaFfnIdeal.nD Cert.MlaFfnIdeal.τ).loc Cert.MlaFfnIdeal.main_arg3)
      ∧ r.2.mem ((c.tc : Thread Cert.MlaFfnIdeal.nD Cert.MlaFfnIdeal.τ).loc Cert.MlaFfnIdeal.main_arg4) = m ((c.tc : Thread Cert.MlaFfnIdeal.nD Cert.MlaFfnIdeal.τ).loc Cert.MlaFfnIdeal.main_arg4)
      ∧ r.2.mem ((c.tc : Thread Cert.MlaFfnIdeal.nD Cert.MlaFfnIdeal.τ).loc Cert.MlaFfnIdeal.main_arg5) = m ((c.tc : Thread Cert.MlaFfnIdeal.nD Cert.MlaFfnIdeal.τ).loc Cert.MlaFfnIdeal.main_arg5))
      ∧ r.2.sem = fun _ => 0)

def quiescent_MlaFfnRefIdeal [hMlaFfnRefIdeal : Cert.MlaFfnRefIdeal.Facts] : Prop :=
  ∀ (m : (ℓ : Loc Cert.MlaFfnRefIdeal.nD Cert.MlaFfnRefIdeal.τ Cert.MlaFfnRefIdeal.sig) → Buf (Elt Ideal) ℓ) (g : Dev Cert.MlaFfnRefIdeal.nD → PrngReg), Pre_MlaFfnRefIdeal m →
    θ_run (Cert.MlaFfnRefIdeal.defs (F := Ideal)) (onTc (τ := Cert.MlaFfnRefIdeal.τ) (Cert.MlaFfnRefIdeal.main (F := Ideal))) ⟨m, fun _ => 0, g⟩ (fun r => (∀ c : Dev Cert.MlaFfnRefIdeal.nD,
      r.2.mem ((c.tc : Thread Cert.MlaFfnRefIdeal.nD Cert.MlaFfnRefIdeal.τ).loc Cert.MlaFfnRefIdeal.main_arg0) = m ((c.tc : Thread Cert.MlaFfnRefIdeal.nD Cert.MlaFfnRefIdeal.τ).loc Cert.MlaFfnRefIdeal.main_arg0)
      ∧ r.2.mem ((c.tc : Thread Cert.MlaFfnRefIdeal.nD Cert.MlaFfnRefIdeal.τ).loc Cert.MlaFfnRefIdeal.main_arg1) = m ((c.tc : Thread Cert.MlaFfnRefIdeal.nD Cert.MlaFfnRefIdeal.τ).loc Cert.MlaFfnRefIdeal.main_arg1)
      ∧ r.2.mem ((c.tc : Thread Cert.MlaFfnRefIdeal.nD Cert.MlaFfnRefIdeal.τ).loc Cert.MlaFfnRefIdeal.main_arg2) = m ((c.tc : Thread Cert.MlaFfnRefIdeal.nD Cert.MlaFfnRefIdeal.τ).loc Cert.MlaFfnRefIdeal.main_arg2)
      ∧ r.2.mem ((c.tc : Thread Cert.MlaFfnRefIdeal.nD Cert.MlaFfnRefIdeal.τ).loc Cert.MlaFfnRefIdeal.main_arg3) = m ((c.tc : Thread Cert.MlaFfnRefIdeal.nD Cert.MlaFfnRefIdeal.τ).loc Cert.MlaFfnRefIdeal.main_arg3)
      ∧ r.2.mem ((c.tc : Thread Cert.MlaFfnRefIdeal.nD Cert.MlaFfnRefIdeal.τ).loc Cert.MlaFfnRefIdeal.main_arg4) = m ((c.tc : Thread Cert.MlaFfnRefIdeal.nD Cert.MlaFfnRefIdeal.τ).loc Cert.MlaFfnRefIdeal.main_arg4)
      ∧ r.2.mem ((c.tc : Thread Cert.MlaFfnRefIdeal.nD Cert.MlaFfnRefIdeal.τ).loc Cert.MlaFfnRefIdeal.main_arg5) = m ((c.tc : Thread Cert.MlaFfnRefIdeal.nD Cert.MlaFfnRefIdeal.τ).loc Cert.MlaFfnRefIdeal.main_arg5))
      ∧ r.2.sem = fun _ => 0)

def quiescent_EvenFfn [hEvenFfn : Cert.EvenFfn.Facts] : Prop :=
  ∀ (m : (ℓ : Loc Cert.EvenFfn.nD Cert.EvenFfn.τ Cert.EvenFfn.sig) → Buf (Elt Bits) ℓ) (g : Dev Cert.EvenFfn.nD → PrngReg), Pre_EvenFfn m →
    θ_run (Cert.EvenFfn.defs (F := Bits)) (onTc (τ := Cert.EvenFfn.τ) (Cert.EvenFfn.main (F := Bits))) ⟨m, fun _ => 0, g⟩ (fun r => (∀ c : Dev Cert.EvenFfn.nD,
      r.2.mem ((c.tc : Thread Cert.EvenFfn.nD Cert.EvenFfn.τ).loc Cert.EvenFfn.main_arg0) = m ((c.tc : Thread Cert.EvenFfn.nD Cert.EvenFfn.τ).loc Cert.EvenFfn.main_arg0)
      ∧ r.2.mem ((c.tc : Thread Cert.EvenFfn.nD Cert.EvenFfn.τ).loc Cert.EvenFfn.main_arg1) = m ((c.tc : Thread Cert.EvenFfn.nD Cert.EvenFfn.τ).loc Cert.EvenFfn.main_arg1)
      ∧ r.2.mem ((c.tc : Thread Cert.EvenFfn.nD Cert.EvenFfn.τ).loc Cert.EvenFfn.main_arg2) = m ((c.tc : Thread Cert.EvenFfn.nD Cert.EvenFfn.τ).loc Cert.EvenFfn.main_arg2)
      ∧ r.2.mem ((c.tc : Thread Cert.EvenFfn.nD Cert.EvenFfn.τ).loc Cert.EvenFfn.main_arg3) = m ((c.tc : Thread Cert.EvenFfn.nD Cert.EvenFfn.τ).loc Cert.EvenFfn.main_arg3)
      ∧ r.2.mem ((c.tc : Thread Cert.EvenFfn.nD Cert.EvenFfn.τ).loc Cert.EvenFfn.main_arg4) = m ((c.tc : Thread Cert.EvenFfn.nD Cert.EvenFfn.τ).loc Cert.EvenFfn.main_arg4)
      ∧ r.2.mem ((c.tc : Thread Cert.EvenFfn.nD Cert.EvenFfn.τ).loc Cert.EvenFfn.main_arg5) = m ((c.tc : Thread Cert.EvenFfn.nD Cert.EvenFfn.τ).loc Cert.EvenFfn.main_arg5)
      ∧ r.2.mem ((c.tc : Thread Cert.EvenFfn.nD Cert.EvenFfn.τ).loc Cert.EvenFfn.main_arg6) = m ((c.tc : Thread Cert.EvenFfn.nD Cert.EvenFfn.τ).loc Cert.EvenFfn.main_arg6))
      ∧ r.2.sem = fun _ => 0)

def quiescent_EvenFfnIdeal [hEvenFfnIdeal : Cert.EvenFfnIdeal.Facts] : Prop :=
  ∀ (m : (ℓ : Loc Cert.EvenFfnIdeal.nD Cert.EvenFfnIdeal.τ Cert.EvenFfnIdeal.sig) → Buf (Elt Ideal) ℓ) (g : Dev Cert.EvenFfnIdeal.nD → PrngReg), Pre_EvenFfnIdeal m →
    θ_run (Cert.EvenFfnIdeal.defs (F := Ideal)) (onTc (τ := Cert.EvenFfnIdeal.τ) (Cert.EvenFfnIdeal.main (F := Ideal))) ⟨m, fun _ => 0, g⟩ (fun r => (∀ c : Dev Cert.EvenFfnIdeal.nD,
      r.2.mem ((c.tc : Thread Cert.EvenFfnIdeal.nD Cert.EvenFfnIdeal.τ).loc Cert.EvenFfnIdeal.main_arg0) = m ((c.tc : Thread Cert.EvenFfnIdeal.nD Cert.EvenFfnIdeal.τ).loc Cert.EvenFfnIdeal.main_arg0)
      ∧ r.2.mem ((c.tc : Thread Cert.EvenFfnIdeal.nD Cert.EvenFfnIdeal.τ).loc Cert.EvenFfnIdeal.main_arg1) = m ((c.tc : Thread Cert.EvenFfnIdeal.nD Cert.EvenFfnIdeal.τ).loc Cert.EvenFfnIdeal.main_arg1)
      ∧ r.2.mem ((c.tc : Thread Cert.EvenFfnIdeal.nD Cert.EvenFfnIdeal.τ).loc Cert.EvenFfnIdeal.main_arg2) = m ((c.tc : Thread Cert.EvenFfnIdeal.nD Cert.EvenFfnIdeal.τ).loc Cert.EvenFfnIdeal.main_arg2)
      ∧ r.2.mem ((c.tc : Thread Cert.EvenFfnIdeal.nD Cert.EvenFfnIdeal.τ).loc Cert.EvenFfnIdeal.main_arg3) = m ((c.tc : Thread Cert.EvenFfnIdeal.nD Cert.EvenFfnIdeal.τ).loc Cert.EvenFfnIdeal.main_arg3)
      ∧ r.2.mem ((c.tc : Thread Cert.EvenFfnIdeal.nD Cert.EvenFfnIdeal.τ).loc Cert.EvenFfnIdeal.main_arg4) = m ((c.tc : Thread Cert.EvenFfnIdeal.nD Cert.EvenFfnIdeal.τ).loc Cert.EvenFfnIdeal.main_arg4)
      ∧ r.2.mem ((c.tc : Thread Cert.EvenFfnIdeal.nD Cert.EvenFfnIdeal.τ).loc Cert.EvenFfnIdeal.main_arg5) = m ((c.tc : Thread Cert.EvenFfnIdeal.nD Cert.EvenFfnIdeal.τ).loc Cert.EvenFfnIdeal.main_arg5)
      ∧ r.2.mem ((c.tc : Thread Cert.EvenFfnIdeal.nD Cert.EvenFfnIdeal.τ).loc Cert.EvenFfnIdeal.main_arg6) = m ((c.tc : Thread Cert.EvenFfnIdeal.nD Cert.EvenFfnIdeal.τ).loc Cert.EvenFfnIdeal.main_arg6))
      ∧ r.2.sem = fun _ => 0)

def quiescent_EvenFfnRefIdeal [hEvenFfnRefIdeal : Cert.EvenFfnRefIdeal.Facts] : Prop :=
  ∀ (m : (ℓ : Loc Cert.EvenFfnRefIdeal.nD Cert.EvenFfnRefIdeal.τ Cert.EvenFfnRefIdeal.sig) → Buf (Elt Ideal) ℓ) (g : Dev Cert.EvenFfnRefIdeal.nD → PrngReg), Pre_EvenFfnRefIdeal m →
    θ_run (Cert.EvenFfnRefIdeal.defs (F := Ideal)) (onTc (τ := Cert.EvenFfnRefIdeal.τ) (Cert.EvenFfnRefIdeal.main (F := Ideal))) ⟨m, fun _ => 0, g⟩ (fun r => (∀ c : Dev Cert.EvenFfnRefIdeal.nD,
      r.2.mem ((c.tc : Thread Cert.EvenFfnRefIdeal.nD Cert.EvenFfnRefIdeal.τ).loc Cert.EvenFfnRefIdeal.main_arg0) = m ((c.tc : Thread Cert.EvenFfnRefIdeal.nD Cert.EvenFfnRefIdeal.τ).loc Cert.EvenFfnRefIdeal.main_arg0)
      ∧ r.2.mem ((c.tc : Thread Cert.EvenFfnRefIdeal.nD Cert.EvenFfnRefIdeal.τ).loc Cert.EvenFfnRefIdeal.main_arg1) = m ((c.tc : Thread Cert.EvenFfnRefIdeal.nD Cert.EvenFfnRefIdeal.τ).loc Cert.EvenFfnRefIdeal.main_arg1)
      ∧ r.2.mem ((c.tc : Thread Cert.EvenFfnRefIdeal.nD Cert.EvenFfnRefIdeal.τ).loc Cert.EvenFfnRefIdeal.main_arg2) = m ((c.tc : Thread Cert.EvenFfnRefIdeal.nD Cert.EvenFfnRefIdeal.τ).loc Cert.EvenFfnRefIdeal.main_arg2)
      ∧ r.2.mem ((c.tc : Thread Cert.EvenFfnRefIdeal.nD Cert.EvenFfnRefIdeal.τ).loc Cert.EvenFfnRefIdeal.main_arg3) = m ((c.tc : Thread Cert.EvenFfnRefIdeal.nD Cert.EvenFfnRefIdeal.τ).loc Cert.EvenFfnRefIdeal.main_arg3)
      ∧ r.2.mem ((c.tc : Thread Cert.EvenFfnRefIdeal.nD Cert.EvenFfnRefIdeal.τ).loc Cert.EvenFfnRefIdeal.main_arg4) = m ((c.tc : Thread Cert.EvenFfnRefIdeal.nD Cert.EvenFfnRefIdeal.τ).loc Cert.EvenFfnRefIdeal.main_arg4)
      ∧ r.2.mem ((c.tc : Thread Cert.EvenFfnRefIdeal.nD Cert.EvenFfnRefIdeal.τ).loc Cert.EvenFfnRefIdeal.main_arg5) = m ((c.tc : Thread Cert.EvenFfnRefIdeal.nD Cert.EvenFfnRefIdeal.τ).loc Cert.EvenFfnRefIdeal.main_arg5)
      ∧ r.2.mem ((c.tc : Thread Cert.EvenFfnRefIdeal.nD Cert.EvenFfnRefIdeal.τ).loc Cert.EvenFfnRefIdeal.main_arg6) = m ((c.tc : Thread Cert.EvenFfnRefIdeal.nD Cert.EvenFfnRefIdeal.τ).loc Cert.EvenFfnRefIdeal.main_arg6))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4)
      ∧ r.2.mem ((c.tc : Thread Cert.EvenIn.nD Cert.EvenIn.τ).loc Cert.EvenIn.main_arg5) = m ((c.tc : Thread Cert.EvenIn.nD Cert.EvenIn.τ).loc Cert.EvenIn.main_arg5))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
      ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4)
      ∧ r.2.mem ((c.tc : Thread Cert.EvenInRefIdeal.nD Cert.EvenInRefIdeal.τ).loc Cert.EvenInRefIdeal.main_arg5) = m ((c.tc : Thread Cert.EvenInRefIdeal.nD Cert.EvenInRefIdeal.τ).loc Cert.EvenInRefIdeal.main_arg5))
      ∧ r.2.sem = fun _ => 0)

def preserves_Mla_MlaIdeal : Prop :=
  IdealRules.named_const.Statement Cert.MlaIdeal.κ "qscale" .f32 0x3DD53B95#32 (((Real.sqrt 192)⁻¹ * (Real.log 2)⁻¹ : ℝ) : EReal)

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v7)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v7) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v18) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Diff_DiffIdeal : Prop :=
  IdealRules.named_const.Statement Cert.DiffIdeal.κ "qscale" .f32 0x3E38AA3B#32 (((Real.sqrt 64)⁻¹ * (Real.log 2)⁻¹ : ℝ) : EReal)

def algebraic_DiffIdeal_DiffRefIdeal_pre_diff_finite [hDiffIdeal : Cert.DiffIdeal.Facts] [hDiffRefIdeal : Cert.DiffRefIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_diff_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)) →
    ∃ (v0 : (c : Dev Cert.DiffIdeal.nD) → Buf (Elt Ideal) ((c.tc : Thread Cert.DiffIdeal.nD Cert.DiffIdeal.τ).loc Cert.DiffIdeal.main_v9)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v9) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v55) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_MlaFfn_MlaFfnIdeal : Prop :=
  True

def algebraic_MlaFfnIdeal_MlaFfnRefIdeal [hMlaFfnIdeal : Cert.MlaFfnIdeal.Facts] [hMlaFfnRefIdeal : Cert.MlaFfnRefIdeal.Facts] : Prop :=
  ∀ (m : (ℓ : Loc Cert.MlaFfnIdeal.nD Cert.MlaFfnIdeal.τ Cert.MlaFfnIdeal.sig) → Buf (Elt Ideal) ℓ) (g : Dev Cert.MlaFfnIdeal.nD → PrngReg)
    (m' : (ℓ : Loc Cert.MlaFfnRefIdeal.nD Cert.MlaFfnRefIdeal.τ Cert.MlaFfnRefIdeal.sig) → Buf (Elt Ideal) ℓ) (g' : Dev Cert.MlaFfnRefIdeal.nD → PrngReg), Pre_MlaFfnIdeal m →
    (∀ c : Dev Cert.MlaFfnIdeal.nD,
      m' ((c.tc : Thread Cert.MlaFfnRefIdeal.nD Cert.MlaFfnRefIdeal.τ).loc Cert.MlaFfnRefIdeal.main_arg0) = m ((c.tc : Thread Cert.MlaFfnIdeal.nD Cert.MlaFfnIdeal.τ).loc Cert.MlaFfnIdeal.main_arg0)
      ∧ m' ((c.tc : Thread Cert.MlaFfnRefIdeal.nD Cert.MlaFfnRefIdeal.τ).loc Cert.MlaFfnRefIdeal.main_arg1) = m ((c.tc : Thread Cert.MlaFfnIdeal.nD Cert.MlaFfnIdeal.τ).loc Cert.MlaFfnIdeal.main_arg1)
      ∧ m' ((c.tc : Thread Cert.MlaFfnRefIdeal.nD Cert.MlaFfnRefIdeal.τ).loc Cert.MlaFfnRefIdeal.main_arg2) = m ((c.tc : Thread Cert.MlaFfnIdeal.nD Cert.MlaFfnIdeal.τ).loc Cert.MlaFfnIdeal.main_arg2)
      ∧ m' ((c.tc : Thread Cert.MlaFfnRefIdeal.nD Cert.MlaFfnRefIdeal.τ).loc Cert.MlaFfnRefIdeal.main_arg3) = m ((c.tc : Thread Cert.MlaFfnIdeal.nD Cert.MlaFfnIdeal.τ).loc Cert.MlaFfnIdeal.main_arg3)
      ∧ m' ((c.tc : Thread Cert.MlaFfnRefIdeal.nD Cert.MlaFfnRefIdeal.τ).loc Cert.MlaFfnRefIdeal.main_arg4) = m ((c.tc : Thread Cert.MlaFfnIdeal.nD Cert.MlaFfnIdeal.τ).loc Cert.MlaFfnIdeal.main_arg4)
      ∧ m' ((c.tc : Thread Cert.MlaFfnRefIdeal.nD Cert.MlaFfnRefIdeal.τ).loc Cert.MlaFfnRefIdeal.main_arg5) = m ((c.tc : Thread Cert.MlaFfnIdeal.nD Cert.MlaFfnIdeal.τ).loc Cert.MlaFfnIdeal.main_arg5)) →
    ∃ (v0 : (c : Dev Cert.MlaFfnIdeal.nD) → Buf (Elt Ideal) ((c.tc : Thread Cert.MlaFfnIdeal.nD Cert.MlaFfnIdeal.τ).loc Cert.MlaFfnIdeal.main_v5)),
      θ_run (Cert.MlaFfnIdeal.defs (F := Ideal)) (onTc (τ := Cert.MlaFfnIdeal.τ) (Cert.MlaFfnIdeal.main (F := Ideal))) ⟨m, fun _ => 0, g⟩ (fun r => ∀ c : Dev Cert.MlaFfnIdeal.nD,
          r.2.mem ((c.tc : Thread Cert.MlaFfnIdeal.nD Cert.MlaFfnIdeal.τ).loc Cert.MlaFfnIdeal.main_v5) = v0 c
          ∧ r.2.mem ((c.tc : Thread Cert.MlaFfnIdeal.nD Cert.MlaFfnIdeal.τ).loc Cert.MlaFfnIdeal.main_arg0) = m ((c.tc : Thread Cert.MlaFfnIdeal.nD Cert.MlaFfnIdeal.τ).loc Cert.MlaFfnIdeal.main_arg0)
          ∧ r.2.mem ((c.tc : Thread Cert.MlaFfnIdeal.nD Cert.MlaFfnIdeal.τ).loc Cert.MlaFfnIdeal.main_arg1) = m ((c.tc : Thread Cert.MlaFfnIdeal.nD Cert.MlaFfnIdeal.τ).loc Cert.MlaFfnIdeal.main_arg1)
          ∧ r.2.mem ((c.tc : Thread Cert.MlaFfnIdeal.nD Cert.MlaFfnIdeal.τ).loc Cert.MlaFfnIdeal.main_arg2) = m ((c.tc : Thread Cert.MlaFfnIdeal.nD Cert.MlaFfnIdeal.τ).loc Cert.MlaFfnIdeal.main_arg2)
          ∧ r.2.mem ((c.tc : Thread Cert.MlaFfnIdeal.nD Cert.MlaFfnIdeal.τ).loc Cert.MlaFfnIdeal.main_arg3) = m ((c.tc : Thread Cert.MlaFfnIdeal.nD Cert.MlaFfnIdeal.τ).loc Cert.MlaFfnIdeal.main_arg3)
          ∧ r.2.mem ((c.tc : Thread Cert.MlaFfnIdeal.nD Cert.MlaFfnIdeal.τ).loc Cert.MlaFfnIdeal.main_arg4) = m ((c.tc : Thread Cert.MlaFfnIdeal.nD Cert.MlaFfnIdeal.τ).loc Cert.MlaFfnIdeal.main_arg4)
          ∧ r.2.mem ((c.tc : Thread Cert.MlaFfnIdeal.nD Cert.MlaFfnIdeal.τ).loc Cert.MlaFfnIdeal.main_arg5) = m ((c.tc : Thread Cert.MlaFfnIdeal.nD Cert.MlaFfnIdeal.τ).loc Cert.MlaFfnIdeal.main_arg5))
      ∧ θ_run (Cert.MlaFfnRefIdeal.defs (F := Ideal)) (onTc (τ := Cert.MlaFfnRefIdeal.τ) (Cert.MlaFfnRefIdeal.main (F := Ideal))) ⟨m', fun _ => 0, g'⟩ (fun r => ∀ c : Dev Cert.MlaFfnRefIdeal.nD,
          r.2.mem ((c.tc : Thread Cert.MlaFfnRefIdeal.nD Cert.MlaFfnRefIdeal.τ).loc Cert.MlaFfnRefIdeal.main_v27) = v0 c
          ∧ r.2.mem ((c.tc : Thread Cert.MlaFfnRefIdeal.nD Cert.MlaFfnRefIdeal.τ).loc Cert.MlaFfnRefIdeal.main_arg0) = m' ((c.tc : Thread Cert.MlaFfnRefIdeal.nD Cert.MlaFfnRefIdeal.τ).loc Cert.MlaFfnRefIdeal.main_arg0)
          ∧ r.2.mem ((c.tc : Thread Cert.MlaFfnRefIdeal.nD Cert.MlaFfnRefIdeal.τ).loc Cert.MlaFfnRefIdeal.main_arg1) = m' ((c.tc : Thread Cert.MlaFfnRefIdeal.nD Cert.MlaFfnRefIdeal.τ).loc Cert.MlaFfnRefIdeal.main_arg1)
          ∧ r.2.mem ((c.tc : Thread Cert.MlaFfnRefIdeal.nD Cert.MlaFfnRefIdeal.τ).loc Cert.MlaFfnRefIdeal.main_arg2) = m' ((c.tc : Thread Cert.MlaFfnRefIdeal.nD Cert.MlaFfnRefIdeal.τ).loc Cert.MlaFfnRefIdeal.main_arg2)
          ∧ r.2.mem ((c.tc : Thread Cert.MlaFfnRefIdeal.nD Cert.MlaFfnRefIdeal.τ).loc Cert.MlaFfnRefIdeal.main_arg3) = m' ((c.tc : Thread Cert.MlaFfnRefIdeal.nD Cert.MlaFfnRefIdeal.τ).loc Cert.MlaFfnRefIdeal.main_arg3)
          ∧ r.2.mem ((c.tc : Thread Cert.MlaFfnRefIdeal.nD Cert.MlaFfnRefIdeal.τ).loc Cert.MlaFfnRefIdeal.main_arg4) = m' ((c.tc : Thread Cert.MlaFfnRefIdeal.nD Cert.MlaFfnRefIdeal.τ).loc Cert.MlaFfnRefIdeal.main_arg4)
          ∧ r.2.mem ((c.tc : Thread Cert.MlaFfnRefIdeal.nD Cert.MlaFfnRefIdeal.τ).loc Cert.MlaFfnRefIdeal.main_arg5) = m' ((c.tc : Thread Cert.MlaFfnRefIdeal.nD Cert.MlaFfnRefIdeal.τ).loc Cert.MlaFfnRefIdeal.main_arg5))

def preserves_EvenFfn_EvenFfnIdeal : Prop :=
  True

def algebraic_EvenFfnIdeal_EvenFfnRefIdeal [hEvenFfnIdeal : Cert.EvenFfnIdeal.Facts] [hEvenFfnRefIdeal : Cert.EvenFfnRefIdeal.Facts] : Prop :=
  ∀ (m : (ℓ : Loc Cert.EvenFfnIdeal.nD Cert.EvenFfnIdeal.τ Cert.EvenFfnIdeal.sig) → Buf (Elt Ideal) ℓ) (g : Dev Cert.EvenFfnIdeal.nD → PrngReg)
    (m' : (ℓ : Loc Cert.EvenFfnRefIdeal.nD Cert.EvenFfnRefIdeal.τ Cert.EvenFfnRefIdeal.sig) → Buf (Elt Ideal) ℓ) (g' : Dev Cert.EvenFfnRefIdeal.nD → PrngReg), Pre_EvenFfnIdeal m →
    (∀ c : Dev Cert.EvenFfnIdeal.nD,
      m' ((c.tc : Thread Cert.EvenFfnRefIdeal.nD Cert.EvenFfnRefIdeal.τ).loc Cert.EvenFfnRefIdeal.main_arg0) = m ((c.tc : Thread Cert.EvenFfnIdeal.nD Cert.EvenFfnIdeal.τ).loc Cert.EvenFfnIdeal.main_arg0)
      ∧ m' ((c.tc : Thread Cert.EvenFfnRefIdeal.nD Cert.EvenFfnRefIdeal.τ).loc Cert.EvenFfnRefIdeal.main_arg1) = m ((c.tc : Thread Cert.EvenFfnIdeal.nD Cert.EvenFfnIdeal.τ).loc Cert.EvenFfnIdeal.main_arg1)
      ∧ m' ((c.tc : Thread Cert.EvenFfnRefIdeal.nD Cert.EvenFfnRefIdeal.τ).loc Cert.EvenFfnRefIdeal.main_arg2) = m ((c.tc : Thread Cert.EvenFfnIdeal.nD Cert.EvenFfnIdeal.τ).loc Cert.EvenFfnIdeal.main_arg2)
      ∧ m' ((c.tc : Thread Cert.EvenFfnRefIdeal.nD Cert.EvenFfnRefIdeal.τ).loc Cert.EvenFfnRefIdeal.main_arg3) = m ((c.tc : Thread Cert.EvenFfnIdeal.nD Cert.EvenFfnIdeal.τ).loc Cert.EvenFfnIdeal.main_arg3)
      ∧ m' ((c.tc : Thread Cert.EvenFfnRefIdeal.nD Cert.EvenFfnRefIdeal.τ).loc Cert.EvenFfnRefIdeal.main_arg4) = m ((c.tc : Thread Cert.EvenFfnIdeal.nD Cert.EvenFfnIdeal.τ).loc Cert.EvenFfnIdeal.main_arg4)
      ∧ m' ((c.tc : Thread Cert.EvenFfnRefIdeal.nD Cert.EvenFfnRefIdeal.τ).loc Cert.EvenFfnRefIdeal.main_arg5) = m ((c.tc : Thread Cert.EvenFfnIdeal.nD Cert.EvenFfnIdeal.τ).loc Cert.EvenFfnIdeal.main_arg5)
      ∧ m' ((c.tc : Thread Cert.EvenFfnRefIdeal.nD Cert.EvenFfnRefIdeal.τ).loc Cert.EvenFfnRefIdeal.main_arg6) = m ((c.tc : Thread Cert.EvenFfnIdeal.nD Cert.EvenFfnIdeal.τ).loc Cert.EvenFfnIdeal.main_arg6)) →
    ∃ (v0 : (c : Dev Cert.EvenFfnIdeal.nD) → Buf (Elt Ideal) ((c.tc : Thread Cert.EvenFfnIdeal.nD Cert.EvenFfnIdeal.τ).loc Cert.EvenFfnIdeal.main_v6)),
      θ_run (Cert.EvenFfnIdeal.defs (F := Ideal)) (onTc (τ := Cert.EvenFfnIdeal.τ) (Cert.EvenFfnIdeal.main (F := Ideal))) ⟨m, fun _ => 0, g⟩ (fun r => ∀ c : Dev Cert.EvenFfnIdeal.nD,
          r.2.mem ((c.tc : Thread Cert.EvenFfnIdeal.nD Cert.EvenFfnIdeal.τ).loc Cert.EvenFfnIdeal.main_v6) = v0 c
          ∧ r.2.mem ((c.tc : Thread Cert.EvenFfnIdeal.nD Cert.EvenFfnIdeal.τ).loc Cert.EvenFfnIdeal.main_arg0) = m ((c.tc : Thread Cert.EvenFfnIdeal.nD Cert.EvenFfnIdeal.τ).loc Cert.EvenFfnIdeal.main_arg0)
          ∧ r.2.mem ((c.tc : Thread Cert.EvenFfnIdeal.nD Cert.EvenFfnIdeal.τ).loc Cert.EvenFfnIdeal.main_arg1) = m ((c.tc : Thread Cert.EvenFfnIdeal.nD Cert.EvenFfnIdeal.τ).loc Cert.EvenFfnIdeal.main_arg1)
          ∧ r.2.mem ((c.tc : Thread Cert.EvenFfnIdeal.nD Cert.EvenFfnIdeal.τ).loc Cert.EvenFfnIdeal.main_arg2) = m ((c.tc : Thread Cert.EvenFfnIdeal.nD Cert.EvenFfnIdeal.τ).loc Cert.EvenFfnIdeal.main_arg2)
          ∧ r.2.mem ((c.tc : Thread Cert.EvenFfnIdeal.nD Cert.EvenFfnIdeal.τ).loc Cert.EvenFfnIdeal.main_arg3) = m ((c.tc : Thread Cert.EvenFfnIdeal.nD Cert.EvenFfnIdeal.τ).loc Cert.EvenFfnIdeal.main_arg3)
          ∧ r.2.mem ((c.tc : Thread Cert.EvenFfnIdeal.nD Cert.EvenFfnIdeal.τ).loc Cert.EvenFfnIdeal.main_arg4) = m ((c.tc : Thread Cert.EvenFfnIdeal.nD Cert.EvenFfnIdeal.τ).loc Cert.EvenFfnIdeal.main_arg4)
          ∧ r.2.mem ((c.tc : Thread Cert.EvenFfnIdeal.nD Cert.EvenFfnIdeal.τ).loc Cert.EvenFfnIdeal.main_arg5) = m ((c.tc : Thread Cert.EvenFfnIdeal.nD Cert.EvenFfnIdeal.τ).loc Cert.EvenFfnIdeal.main_arg5)
          ∧ r.2.mem ((c.tc : Thread Cert.EvenFfnIdeal.nD Cert.EvenFfnIdeal.τ).loc Cert.EvenFfnIdeal.main_arg6) = m ((c.tc : Thread Cert.EvenFfnIdeal.nD Cert.EvenFfnIdeal.τ).loc Cert.EvenFfnIdeal.main_arg6))
      ∧ θ_run (Cert.EvenFfnRefIdeal.defs (F := Ideal)) (onTc (τ := Cert.EvenFfnRefIdeal.τ) (Cert.EvenFfnRefIdeal.main (F := Ideal))) ⟨m', fun _ => 0, g'⟩ (fun r => ∀ c : Dev Cert.EvenFfnRefIdeal.nD,
          r.2.mem ((c.tc : Thread Cert.EvenFfnRefIdeal.nD Cert.EvenFfnRefIdeal.τ).loc Cert.EvenFfnRefIdeal.main_v28) = v0 c
          ∧ r.2.mem ((c.tc : Thread Cert.EvenFfnRefIdeal.nD Cert.EvenFfnRefIdeal.τ).loc Cert.EvenFfnRefIdeal.main_arg0) = m' ((c.tc : Thread Cert.EvenFfnRefIdeal.nD Cert.EvenFfnRefIdeal.τ).loc Cert.EvenFfnRefIdeal.main_arg0)
          ∧ r.2.mem ((c.tc : Thread Cert.EvenFfnRefIdeal.nD Cert.EvenFfnRefIdeal.τ).loc Cert.EvenFfnRefIdeal.main_arg1) = m' ((c.tc : Thread Cert.EvenFfnRefIdeal.nD Cert.EvenFfnRefIdeal.τ).loc Cert.EvenFfnRefIdeal.main_arg1)
          ∧ r.2.mem ((c.tc : Thread Cert.EvenFfnRefIdeal.nD Cert.EvenFfnRefIdeal.τ).loc Cert.EvenFfnRefIdeal.main_arg2) = m' ((c.tc : Thread Cert.EvenFfnRefIdeal.nD Cert.EvenFfnRefIdeal.τ).loc Cert.EvenFfnRefIdeal.main_arg2)
          ∧ r.2.mem ((c.tc : Thread Cert.EvenFfnRefIdeal.nD Cert.EvenFfnRefIdeal.τ).loc Cert.EvenFfnRefIdeal.main_arg3) = m' ((c.tc : Thread Cert.EvenFfnRefIdeal.nD Cert.EvenFfnRefIdeal.τ).loc Cert.EvenFfnRefIdeal.main_arg3)
          ∧ r.2.mem ((c.tc : Thread Cert.EvenFfnRefIdeal.nD Cert.EvenFfnRefIdeal.τ).loc Cert.EvenFfnRefIdeal.main_arg4) = m' ((c.tc : Thread Cert.EvenFfnRefIdeal.nD Cert.EvenFfnRefIdeal.τ).loc Cert.EvenFfnRefIdeal.main_arg4)
          ∧ r.2.mem ((c.tc : Thread Cert.EvenFfnRefIdeal.nD Cert.EvenFfnRefIdeal.τ).loc Cert.EvenFfnRefIdeal.main_arg5) = m' ((c.tc : Thread Cert.EvenFfnRefIdeal.nD Cert.EvenFfnRefIdeal.τ).loc Cert.EvenFfnRefIdeal.main_arg5)
          ∧ r.2.mem ((c.tc : Thread Cert.EvenFfnRefIdeal.nD Cert.EvenFfnRefIdeal.τ).loc Cert.EvenFfnRefIdeal.main_arg6) = m' ((c.tc : Thread Cert.EvenFfnRefIdeal.nD Cert.EvenFfnRefIdeal.τ).loc Cert.EvenFfnRefIdeal.main_arg6))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)
      ∧ m' ((c.tc : Thread Cert.EvenInRefIdeal.nD Cert.EvenInRefIdeal.τ).loc Cert.EvenInRefIdeal.main_arg5) = m ((c.tc : Thread Cert.EvenInIdeal.nD Cert.EvenInIdeal.τ).loc Cert.EvenInIdeal.main_arg5)) →
    ∃ (v0 : (c : Dev Cert.EvenInIdeal.nD) → Buf (Elt Ideal) ((c.tc : Thread Cert.EvenInIdeal.nD Cert.EvenInIdeal.τ).loc Cert.EvenInIdeal.main_v56_0)) (v1 : (c : Dev Cert.EvenInIdeal.nD) → Buf (Elt Ideal) ((c.tc : Thread Cert.EvenInIdeal.nD Cert.EvenInIdeal.τ).loc Cert.EvenInIdeal.main_v56_1)) (v2 : (c : Dev Cert.EvenInIdeal.nD) → Buf (Elt Ideal) ((c.tc : Thread Cert.EvenInIdeal.nD Cert.EvenInIdeal.τ).loc Cert.EvenInIdeal.main_v56_2)) (v3 : (c : Dev Cert.EvenInIdeal.nD) → Buf (Elt Ideal) ((c.tc : Thread Cert.EvenInIdeal.nD Cert.EvenInIdeal.τ).loc Cert.EvenInIdeal.main_v56_3)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v56_0) = v0 c
          ∧ r.2.mem ((c.tc : Thread Cert.EvenInIdeal.nD Cert.EvenInIdeal.τ).loc Cert.EvenInIdeal.main_v56_1) = v1 c
          ∧ r.2.mem ((c.tc : Thread Cert.EvenInIdeal.nD Cert.EvenInIdeal.τ).loc Cert.EvenInIdeal.main_v56_2) = v2 c
          ∧ r.2.mem ((c.tc : Thread Cert.EvenInIdeal.nD Cert.EvenInIdeal.τ).loc Cert.EvenInIdeal.main_v56_3) = v3 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
          ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v147) = v0 c
          ∧ r.2.mem ((c.tc : Thread Cert.EvenInRefIdeal.nD Cert.EvenInRefIdeal.τ).loc Cert.EvenInRefIdeal.main_v150) = v1 c
          ∧ r.2.mem ((c.tc : Thread Cert.EvenInRefIdeal.nD Cert.EvenInRefIdeal.τ).loc Cert.EvenInRefIdeal.main_v152) = v2 c
          ∧ r.2.mem ((c.tc : Thread Cert.EvenInRefIdeal.nD Cert.EvenInRefIdeal.τ).loc Cert.EvenInRefIdeal.main_v154) = v3 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4)
          ∧ r.2.mem ((c.tc : Thread Cert.EvenInRefIdeal.nD Cert.EvenInRefIdeal.τ).loc Cert.EvenInRefIdeal.main_arg5) = m' ((c.tc : Thread Cert.EvenInRefIdeal.nD Cert.EvenInRefIdeal.τ).loc Cert.EvenInRefIdeal.main_arg5))

def Claim : Prop :=
  ∃ (hMla : Cert.Mla.Facts) (hMlaIdeal : Cert.MlaIdeal.Facts) (hMlaRefIdeal : Cert.MlaRefIdeal.Facts) (hDiff : Cert.Diff.Facts) (hDiffIdeal : Cert.DiffIdeal.Facts) (hDiffRefIdeal : Cert.DiffRefIdeal.Facts) (hFfn : Cert.Ffn.Facts) (hFfnIdeal : Cert.FfnIdeal.Facts) (hFfnRefIdeal : Cert.FfnRefIdeal.Facts) (hMlaFfn : Cert.MlaFfn.Facts) (hMlaFfnIdeal : Cert.MlaFfnIdeal.Facts) (hMlaFfnRefIdeal : Cert.MlaFfnRefIdeal.Facts) (hEvenFfn : Cert.EvenFfn.Facts) (hEvenFfnIdeal : Cert.EvenFfnIdeal.Facts) (hEvenFfnRefIdeal : Cert.EvenFfnRefIdeal.Facts) (hEvenIn : Cert.EvenIn.Facts) (hEvenInIdeal : Cert.EvenInIdeal.Facts) (hEvenInRefIdeal : Cert.EvenInRefIdeal.Facts) (hPre_mla_finite : Cert.Pre_mla_finite.Facts) (hPre_diff_finite : Cert.Pre_diff_finite.Facts),
    quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Diff (hDiff := hDiff)
    ∧ quiescent_DiffIdeal (hDiffIdeal := hDiffIdeal)
    ∧ quiescent_DiffIdeal_pre_diff_finite (hDiffIdeal := hDiffIdeal) (hPre_diff_finite := hPre_diff_finite)
    ∧ quiescent_DiffRefIdeal (hDiffRefIdeal := hDiffRefIdeal)
    ∧ quiescent_DiffRefIdeal_pre_diff_finite (hDiffRefIdeal := hDiffRefIdeal) (hPre_diff_finite := hPre_diff_finite)
    ∧ quiescent_Ffn (hFfn := hFfn)
    ∧ quiescent_FfnIdeal (hFfnIdeal := hFfnIdeal)
    ∧ quiescent_FfnRefIdeal (hFfnRefIdeal := hFfnRefIdeal)
    ∧ quiescent_MlaFfn (hMlaFfn := hMlaFfn)
    ∧ quiescent_MlaFfnIdeal (hMlaFfnIdeal := hMlaFfnIdeal)
    ∧ quiescent_MlaFfnRefIdeal (hMlaFfnRefIdeal := hMlaFfnRefIdeal)
    ∧ quiescent_EvenFfn (hEvenFfn := hEvenFfn)
    ∧ quiescent_EvenFfnIdeal (hEvenFfnIdeal := hEvenFfnIdeal)
    ∧ quiescent_EvenFfnRefIdeal (hEvenFfnRefIdeal := hEvenFfnRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Diff_DiffIdeal
    ∧ algebraic_DiffIdeal_DiffRefIdeal_pre_diff_finite (hDiffIdeal := hDiffIdeal) (hDiffRefIdeal := hDiffRefIdeal) (hPre_diff_finite := hPre_diff_finite)
    ∧ preserves_Ffn_FfnIdeal
    ∧ algebraic_FfnIdeal_FfnRefIdeal (hFfnIdeal := hFfnIdeal) (hFfnRefIdeal := hFfnRefIdeal)
    ∧ preserves_MlaFfn_MlaFfnIdeal
    ∧ algebraic_MlaFfnIdeal_MlaFfnRefIdeal (hMlaFfnIdeal := hMlaFfnIdeal) (hMlaFfnRefIdeal := hMlaFfnRefIdeal)
    ∧ preserves_EvenFfn_EvenFfnIdeal
    ∧ algebraic_EvenFfnIdeal_EvenFfnRefIdeal (hEvenFfnIdeal := hEvenFfnIdeal) (hEvenFfnRefIdeal := hEvenFfnRefIdeal)
    ∧ preserves_EvenIn_EvenInIdeal
    ∧ algebraic_EvenInIdeal_EvenInRefIdeal (hEvenInIdeal := hEvenInIdeal) (hEvenInRefIdeal := hEvenInRefIdeal)
-- ==== Pre_diff_finite.lean ====
abbrev S2x16384x4x2x64 : Shape := ⟨5, ![2, 16384, 4, 2, 64]⟩
abbrev S2x16384x4x128 : Shape := ⟨4, ![2, 16384, 4, 128]⟩
abbrev S4x64 : Shape := ⟨2, ![4, 64]⟩
abbrev S128 : Shape := ⟨1, ![128]⟩
abbrev S_ : Shape := ⟨0, ![]⟩

class Facts : Prop where
  bcast_S_S2x16384x4x2x64 : S_.BroadcastsInDim S2x16384x4x2x64 (![] : Fin 0 → Fin S2x16384x4x2x64.rank)
  reducesTo_S2x16384x4x2x64_S_d0_1_2_3_4 : S2x16384x4x2x64.ReducesTo [0, 1, 2, 3, 4] S_
  h_S_ : 0 < S_.numel
  bcast_S_S2x16384x4x128 : S_.BroadcastsInDim S2x16384x4x128 (![] : Fin 0 → Fin S2x16384x4x128.rank)
  reducesTo_S2x16384x4x128_S_d0_1_2_3 : S2x16384x4x128.ReducesTo [0, 1, 2, 3] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2x16384x4x2x64 .f32) (main_arg1 : FVec F S2x16384x4x2x64 .f32) (main_arg2 : FVec F S2x16384x4x128 .f32) (main_arg3 : FVec F S4x64 .f32) (main_arg4 : FVec F S128 .f32) : IVec S_ 1 :=
  let main_v0 : FVec F S2x16384x4x2x64 .f32 := Host.absf main_arg0
  let main_cst : FVec F S_ .f32 := constant S_ .f32 0x7F800000#32
  let main_v1 : FVec F S2x16384x4x2x64 .f32 := broadcastInDim S2x16384x4x2x64 ![] bcast_S_S2x16384x4x2x64 main_cst
  let main_v2 : IVec S2x16384x4x2x64 1 := cmpf .olt main_v0 main_v1
  let main_c : IVec S_ 1 := constantI S_ 1 1#1
  let main_v3 : IVec S_ 1 := (fun x v => Host.reduce IntOp.andi x v reducesTo_S2x16384x4x2x64_S_d0_1_2_3_4 h_S_) main_v2 main_c
  let main_v4 : FVec F S2x16384x4x2x64 .f32 := Host.absf main_arg1
  let main_cst_0 : FVec F S_ .f32 := constant S_ .f32 0x7F800000#32
  let main_v5 : FVec F S2x16384x4x2x64 .f32 := broadcastInDim S2x16384x4x2x64 ![] bcast_S_S2x16384x4x2x64 main_cst_0
  let main_v6 : IVec S2x16384x4x2x64 1 := cmpf .olt main_v4 main_v5
  let main_c_1 : IVec S_ 1 := constantI S_ 1 1#1
  let main_v7 : IVec S_ 1 := (fun x v => Host.reduce IntOp.andi x v reducesTo_S2x16384x4x2x64_S_d0_1_2_3_4 h_S_) main_v6 main_c_1
  let main_v8 : FVec F S2x16384x4x128 .f32 := Host.absf main_arg2
  let main_cst_2 : FVec F S_ .f32 := constant S_ .f32 0x7F800000#32
  let main_v9 : FVec F S2x16384x4x128 .f32 := broadcastInDim S2x16384x4x128 ![] bcast_S_S2x16384x4x128 main_cst_2
  let main_v10 : IVec S2x16384x4x128 1 := cmpf .olt main_v8 main_v9
  let main_c_3 : IVec S_ 1 := constantI S_ 1 1#1
  let main_v11 : IVec S_ 1 := (fun x v => Host.reduce IntOp.andi x v reducesTo_S2x16384x4x128_S_d0_1_2_3 h_S_) main_v10 main_c_3
  let main_v12 : FVec F S4x64 .f32 := Host.absf main_arg3
  let main_cst_4 : FVec F S_ .f32 := constant S_ .f32 0x7F800000#32
  let main_v13 : FVec F S4x64 .f32 := broadcastInDim S4x64 ![] bcast_S_S4x64 main_cst_4
  let main_v14 : IVec S4x64 1 := cmpf .olt main_v12 main_v13
  let main_c_5 : IVec S_ 1 := constantI S_ 1 1#1
  let main_v15 : IVec S_ 1 := (fun x v => Host.reduce IntOp.andi x v reducesTo_S4x64_S_d0_1 h_S_) main_v14 main_c_5
  fn_part1 (F := F) main_v3 main_v7 main_v11 main_v15
-- ==== Pre_mla_finite.lean ====
abbrev S2x16384x8x192 : Shape := ⟨4, ![2, 16384, 8, 192]⟩
abbrev S2x16384x8x128 : Shape := ⟨4, ![2, 16384, 8, 128]⟩
abbrev S_ : Shape := ⟨0, ![]⟩

class Facts : Prop where
  bcast_S_S2x16384x8x192 : S_.BroadcastsInDim S2x16384x8x192 (![] : Fin 0 → Fin S2x16384x8x192.rank)
  reducesTo_S2x16384x8x192_S_d0_1_2_3 : S2x16384x8x192.ReducesTo [0, 1, 2, 3] S_
  h_S_ : 0 < S_.numel

variable [Facts]

def fn {F : FTy → Type} [FloatOps F] (main_arg0 : FVec F S2x16384x8x192 .f32) (main_arg1 : FVec F S2x16384x8x192 .f32) (main_arg2 : FVec F S2x16384x8x128 .f32) : IVec S_ 1 :=
  let main_v0 : FVec F S2x16384x8x192 .f32 := Host.absf main_arg0
  let main_cst : FVec F S_ .f32 := constant S_ .f32 0x7F800000#32
  let main_v1 : FVec F S2x16384x8x192 .f32 := broadcastInDim S2x16384x8x192 ![] bcast_S_S2x16384x8x192 main_cst
  let main_v2 : IVec S2x16384x8x192 1 := cmpf .olt main_v0 main_v1
  let main_c : IVec S_ 1 := constantI S_ 1 1#1
  let main_v3 : IVec S_ 1 := (fun x v => Host.reduce IntOp.andi x v reducesTo_S2x16384x8x192_S_d0_1_2_3 h_S_) main_v2 main_c
  let main_v4 : FVec F S2x16384x8x192 .f32 := Host.absf main_arg1
  let main_cst_0 : FVec F S_ .f32 := constant S_ .f32 0x7F800000#32
  let main_v5 : FVec F S2x16384x8x192 .f32 := broadcastInDim S2x16384x8x192 ![] bcast_S_S2x16384x8x192 main_cst_0
  let main_v6 : IVec S2x16384x8x192 1 := cmpf .olt main_v4 main_v5
  let main_c_1 : IVec S_ 1 := constantI S_ 1 1#1
  let main_v7 : IVec S_ 1 := (fun x v => Host.reduce IntOp.andi x v reducesTo_S2x16384x8x192_S_d0_1_2_3 h_S_) main_v6 main_c_1
  let main_v8 : IVec S_ 1 := andi main_v3 main_v7
  main_v8
-- ==== Mla.lean ====
abbrev S2x16384x8x192 : Shape := ⟨4, ![2, 16384, 8, 192]⟩
abbrev S2x16384x8x128 : Shape := ⟨4, ![2, 16384, 8, 128]⟩
abbrev S2x8x192x16384 : Shape := ⟨4, ![2, 8, 192, 16384]⟩
abbrev S2x8x16384x192 : Shape := ⟨4, ![2, 8, 16384, 192]⟩
abbrev S2x16384x1024 : Shape := ⟨3, ![2, 16384, 1024]⟩
abbrev S2x1024x16384 : Shape := ⟨3, ![2, 1024, 16384]⟩
abbrev S1x1x192x4096 : Shape := ⟨4, ![1, 1, 192, 4096]⟩
abbrev S1x1x16384x192 : Shape := ⟨4, ![1, 1, 16384, 192]⟩
abbrev S1x128x16384 : Shape := ⟨3, ![1, 128, 16384]⟩
abbrev S1x4096x128 : Shape := ⟨3, ![1, 4096, 128]⟩
abbrev S1x4096 : Shape := ⟨2, ![1, 4096]⟩
abbrev S128x4096 : Shape := ⟨2, ![128, 4096]⟩
abbrev S192x4096 : Shape := ⟨2, ![192, 4096]⟩
abbrev S1x1x512x192 : Shape := ⟨4, ![1, 1, 512, 192]⟩
abbrev S512x192 : Shape := ⟨2, ![512, 192]⟩
abbrev S512x4096 : Shape := ⟨2, ![512, 4096]⟩
abbrev S4096 : Shape := ⟨1, ![4096]⟩
abbrev S1x128x512 : Shape := ⟨3, ![1, 128, 512]⟩
abbrev S128x512 : Shape := ⟨2, ![128, 512]⟩
abbrev S4096x128 : Shape := ⟨2, ![4096, 128]⟩

abbrev nBuf : Space → Nat
  | .hbm => 11
  | .vmem => 10
  | .smem => 0
  | _ => 0

abbrev bufTy : (tb : Table) → Fin (tcTables nBuf tb) → BufTy
  | .hbm, ⟨0, _⟩ => ⟨S2x16384x8x192, .f32⟩
  | .hbm, ⟨1, _⟩ => ⟨S2x16384x8x192, .f32⟩
  | .hbm, ⟨2, _⟩ => ⟨S2x16384x8x128, .f32⟩
  | .hbm, ⟨3, _⟩ => ⟨S2x8x192x16384, .f32⟩
  | .hbm, ⟨4, _⟩ => ⟨S2x8x192x16384, .bf16⟩
  | .hbm, ⟨5, _⟩ => ⟨S2x8x16384x192, .f32⟩
  | .hbm, ⟨6, _⟩ => ⟨S2x8x16384x192, .bf16⟩
  | .hbm, ⟨7, _⟩ => ⟨S2x16384x1024, .f32⟩
  | .hbm, ⟨8, _⟩ => ⟨S2x1024x16384, .f32⟩
  | .hbm, ⟨9, _⟩ => ⟨S2x1024x16384, .bf16⟩
  | .hbm, ⟨10, _⟩ => ⟨S2x16384x1024, .bf16⟩
  | .local _ .vmem, ⟨0, _⟩ => ⟨S1x1x192x4096, .bf16⟩
  | .local _ .vmem, ⟨1, _⟩ => ⟨S1x1x192x4096, .bf16⟩
  | .local _ .vmem, ⟨2, _⟩ => ⟨S1x1x16384x192, .bf16⟩
  | .local _ .vmem, ⟨3, _⟩ => ⟨S1x1x16384x192, .bf16⟩
  | .local _ .vmem, ⟨4, _⟩ => ⟨S1x128x16384, .bf16⟩
  | .local _ .vmem, ⟨5, _⟩ => ⟨S1x128x16384, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096, .f32⟩
  | .local _ .vmem, ⟨9, _⟩ => ⟨S128x4096, .f32⟩
  | _, _ => ⟨S2x16384x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

@[reducible] def k0_t1_loop : Scf.Loop 32 :=
  let c0_i32 : BitVec 32 := 0#32
  let c32_i32 : BitVec 32 := 32#32
  let v14 : BitVec 32 := Scalar.addi c0_i32 c32_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v24 : BitVec 32 := Scalar.muli arg9 c512_i32
  v24
def k0_off1 (k0_t1 : Fin k0_t1_loop.trips) : Fin 4 → Nat :=
  let c0_17 : Index := 0#32
  let c0_18 : Index := 0#32
  let c0_i32 : BitVec 32 := 0#32
  let c1_i32 : BitVec 32 := 1#32
  let arg9 : BitVec 32 := Scf.iv c0_i32 c1_i32 k0_t1
  let c512_i32 : BitVec 32 := 512#32
  let v24 : BitVec 32 := Scalar.muli arg9 c512_i32
  let v25 : BitVec 32 := v24
  let v26 : Index := Scalar.indexCast v25
  let c0_19 : Index := 0#32
  ![0, 0, v26.toNat, 0]
def k0_off2 (k0_t1 : Fin k0_t1_loop.trips) : Fin 3 → Nat :=
  let c0_28 : Index := 0#32
  let c0_29 : Index := 0#32
  let c0_i32 : BitVec 32 := 0#32
  let c1_i32 : BitVec 32 := 1#32
  let arg9 : BitVec 32 := Scf.iv c0_i32 c1_i32 k0_t1
  let c512_i32 : BitVec 32 := 512#32
  let v24 : BitVec 32 := Scalar.muli arg9 c512_i32
  let v25 : BitVec 32 := v24
  let v39 : Index := Scalar.indexCast v25
  ![0, 0, v39.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x192x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaIdeal.lean ====
variable {F : FTy → Type} [FloatOps F] [Named F]
def κ : String → Option EReal := fun
  | "qscale" => some (((Real.sqrt 192)⁻¹ * (Real.log 2)⁻¹ : ℝ) : EReal)
  | _ => none
-- ==== MlaRefIdeal.lean ====
abbrev S2x16384x8x192 : Shape := ⟨4, ![2, 16384, 8, 192]⟩
abbrev S2x16384x8x128 : Shape := ⟨4, ![2, 16384, 8, 128]⟩
abbrev S2x8x16384x16384 : Shape := ⟨4, ![2, 8, 16384, 16384]⟩
abbrev S_ : Shape := ⟨0, ![]⟩
abbrev S2x8x16384 : Shape := ⟨3, ![2, 8, 16384]⟩
abbrev S2x8x16384x1 : Shape := ⟨4, ![2, 8, 16384, 1]⟩
abbrev S2x8x128x16384 : Shape := ⟨4, ![2, 8, 128, 16384]⟩
abbrev S2x16384x1024 : Shape := ⟨3, ![2, 16384, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x16384x8x192, .f32⟩
  | .hbm, ⟨1, _⟩ => ⟨S2x16384x8x192, .f32⟩
  | .hbm, ⟨2, _⟩ => ⟨S2x16384x8x128, .f32⟩
  | .hbm, ⟨3, _⟩ => ⟨S2x8x16384x16384, .f32⟩
  | .hbm, ⟨4, _⟩ => ⟨S_, .f32⟩
  | .hbm, ⟨5, _⟩ => ⟨S_, .f32⟩
  | .hbm, ⟨6, _⟩ => ⟨S2x8x16384x16384, .f32⟩
  | .hbm, ⟨7, _⟩ => ⟨S2x8x16384x16384, .f32⟩
  | .hbm, ⟨8, _⟩ => ⟨S_, .f32⟩
  | .hbm, ⟨9, _⟩ => ⟨S2x8x16384, .f32⟩
  | .hbm, ⟨10, _⟩ => ⟨S_, .f32⟩
  | .hbm, ⟨11, _⟩ => ⟨S2x8x16384, .f32⟩
  | .hbm, ⟨12, _⟩ => ⟨S2x8x16384, .f32⟩
  | .hbm, ⟨13, _⟩ => ⟨S2x8x16384x1, .f32⟩
  | .hbm, ⟨14, _⟩ => ⟨S2x8x16384x16384, .f32⟩
  | .hbm, ⟨15, _⟩ => ⟨S2x8x16384x16384, .f32⟩
  | .hbm, ⟨16, _⟩ => ⟨S2x8x16384x16384, .f32⟩
  | .hbm, ⟨17, _⟩ => ⟨S_, .f32⟩
  | .hbm, ⟨18, _⟩ => ⟨S2x8x16384, .f32⟩
  | .hbm, ⟨19, _⟩ => ⟨S2x8x16384x1, .f32⟩
  | .hbm, ⟨20, _⟩ => ⟨S2x8x16384x16384, .f32⟩
  | .hbm, ⟨21, _⟩ => ⟨S2x8x16384x16384, .f32⟩
  | .hbm, ⟨22, _⟩ => ⟨S2x8x128x16384, .f32⟩
  | .hbm, ⟨23, _⟩ => ⟨S2x16384x8x128, .f32⟩
  | .hbm, ⟨24, _⟩ => ⟨S2x16384x1024, .f32⟩
  | .hbm, ⟨25, _⟩ => ⟨S2x16384x1024, .bf16⟩
  | _, _ => ⟨S2x16384x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Diff.lean ====
abbrev S2x16384x4x2x64 : Shape := ⟨5, ![2, 16384, 4, 2, 64]⟩
abbrev S2x16384x4x128 : Shape := ⟨4, ![2, 16384, 4, 128]⟩
abbrev S4x64 : Shape := ⟨2, ![4, 64]⟩
abbrev S128 : Shape := ⟨1, ![128]⟩
abbrev S2x16384x512 : Shape := ⟨3, ![2, 16384, 512]⟩
abbrev S2x512x16384 : Shape := ⟨3, ![2, 512, 16384]⟩
abbrev S128x1 : Shape := ⟨2, ![128, 1]⟩
abbrev S1x128x4096 : Shape := ⟨3, ![1, 128, 4096]⟩
abbrev S1x16384x128 : Shape := ⟨3, ![1, 16384, 128]⟩
abbrev S1x128x16384 : Shape := ⟨3, ![1, 128, 16384]⟩
abbrev S1x4096x128 : Shape := ⟨3, ![1, 4096, 128]⟩
abbrev S128x8192 : Shape := ⟨2, ![128, 8192]⟩
abbrev S1x8192 : Shape := ⟨2, ![1, 8192]⟩
abbrev S1x64x4096 : Shape := ⟨3, ![1, 64, 4096]⟩
abbrev S64x4096 : Shape := ⟨2, ![64, 4096]⟩
abbrev S1x512x128 : Shape := ⟨3, ![1, 512, 128]⟩
abbrev S512x128 : Shape := ⟨2, ![512, 128]⟩
abbrev S512x8192 : Shape := ⟨2, ![512, 8192]⟩
abbrev S8192 : Shape := ⟨1, ![8192]⟩
abbrev S1x128x512 : Shape := ⟨3, ![1, 128, 512]⟩
abbrev S128x512 : Shape := ⟨2, ![128, 512]⟩
abbrev S1x64 : Shape := ⟨2, ![1, 64]⟩
abbrev S1 : Shape := ⟨1, ![1]⟩
abbrev S1x1 : Shape := ⟨2, ![1, 1]⟩
abbrev S128x4096 : Shape := ⟨2, ![128, 4096]⟩
abbrev S4096 : Shape := ⟨1, ![4096]⟩
abbrev S1x4096 : Shape := ⟨2, ![1, 4096]⟩
abbrev S4096x128 : Shape := ⟨2, ![4096, 128]⟩

abbrev nBuf : Space → Nat
  | .hbm => 15
  | .vmem => 13
  | .smem => 0
  | _ => 0

abbrev bufTy : (tb : Table) → Fin (tcTables nBuf tb) → BufTy
  | .hbm, ⟨0, _⟩ => ⟨S2x16384x4x2x64, .f32⟩
  | .hbm, ⟨1, _⟩ => ⟨S2x16384x4x2x64, .f32⟩
  | .hbm, ⟨2, _⟩ => ⟨S2x16384x4x128, .f32⟩
  | .hbm, ⟨3, _⟩ => ⟨S4x64, .f32⟩
  | .hbm, ⟨4, _⟩ => ⟨S128, .f32⟩
  | .hbm, ⟨5, _⟩ => ⟨S2x16384x512, .f32⟩
  | .hbm, ⟨6, _⟩ => ⟨S2x512x16384, .f32⟩
  | .hbm, ⟨7, _⟩ => ⟨S2x512x16384, .bf16⟩
  | .hbm, ⟨8, _⟩ => ⟨S2x16384x512, .f32⟩
  | .hbm, ⟨9, _⟩ => ⟨S2x16384x512, .bf16⟩
  | .hbm, ⟨10, _⟩ => ⟨S2x16384x512, .f32⟩
  | .hbm, ⟨11, _⟩ => ⟨S2x512x16384, .f32⟩
  | .hbm, ⟨12, _⟩ => ⟨S2x512x16384, .bf16⟩
  | .hbm, ⟨13, _⟩ => ⟨S128x1, .f32⟩
  | .hbm, ⟨14, _⟩ => ⟨S2x16384x512, .bf16⟩
  | .local _ .vmem, ⟨0, _⟩ => ⟨S1x128x4096, .bf16⟩
  | .local _ .vmem, ⟨1, _⟩ => ⟨S1x128x4096, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x128x16384, .bf16⟩
  | .local _ .vmem, ⟨5, _⟩ => ⟨S1x128x16384, .bf16⟩
  | .local _ .vmem, ⟨6, _⟩ => ⟨S4x64, .f32⟩
  | .local _ .vmem, ⟨7, _⟩ => ⟨S128x1, .f32⟩
  | .local _ .vmem, ⟨8, _⟩ => ⟨S1x4096x128, .bf16⟩
  | .local _ .vmem, ⟨9, _⟩ => ⟨S1x4096x128, .bf16⟩
  | .local _ .vmem, ⟨10, _⟩ => ⟨S128x8192, .bf16⟩
  | .local _ .vmem, ⟨11, _⟩ => ⟨S1x8192, .f32⟩
  | .local _ .vmem, ⟨12, _⟩ => ⟨S128x8192, .f32⟩
  | _, _ => ⟨S2x16384x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 4], ![false, false, false]⟩

@[reducible] def k0_t1_loop : Scf.Loop 32 :=
  let c0_i32 : BitVec 32 := 0#32
  let c32_i32 : BitVec 32 := 32#32
  let v31 : BitVec 32 := Scalar.addi c0_i32 c32_i32
  let c1_i32 : BitVec 32 := 1#32
  ⟨c0_i32, v31, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v78 : BitVec 32 := Scalar.muli arg12 c512_i32
  v78
def k0_off1 (k0_t1 : Fin k0_t1_loop.trips) : Fin 3 → Nat :=
  let c0_38 : Index := 0#32
  let c0_i32 : BitVec 32 := 0#32
  let c1_i32 : BitVec 32 := 1#32
  let arg12 : BitVec 32 := Scf.iv c0_i32 c1_i32 k0_t1
  let c512_i32 : BitVec 32 := 512#32
  let v78 : BitVec 32 := Scalar.muli arg12 c512_i32
  let v79 : BitVec 32 := v78
  let v80 : Index := Scalar.indexCast v79
  let c0_39 : Index := 0#32
  ![0, v80.toNat, 0]
def k0_off2 (k0_t1 : Fin k0_t1_loop.trips) : Fin 3 → Nat :=
  let c0_48 : Index := 0#32
  let c0_49 : Index := 0#32
  let c0_i32 : BitVec 32 := 0#32
  let c1_i32 : BitVec 32 := 1#32
  let arg12 : BitVec 32 := Scf.iv c0_i32 c1_i32 k0_t1
  let c512_i32 : BitVec 32 := 512#32
  let v78 : BitVec 32 := Scalar.muli arg12 c512_i32
  let v79 : BitVec 32 := v78
  let v93 : Index := Scalar.indexCast v79
  ![0, 0, v93.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DiffIdeal.lean ====
variable {F : FTy → Type} [FloatOps F] [Named F]
def κ : String → Option EReal := fun
  | "qscale" => some (((Real.sqrt 64)⁻¹ * (Real.log 2)⁻¹ : ℝ) : EReal)
  | _ => none
-- ==== DiffRefIdeal.lean ====
abbrev S2x16384x4x2x64 : Shape := ⟨5, ![2, 16384, 4, 2, 64]⟩
abbrev S2x16384x4x128 : Shape := ⟨4, ![2, 16384, 4, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S2x2x4x16384x16384 : Shape := ⟨5, ![2, 2, 4, 16384, 16384]⟩
abbrev S2x2x4x16384 : Shape := ⟨4, ![2, 2, 4, 16384]⟩
abbrev S2x2x4x16384x1 : Shape := ⟨5, ![2, 2, 4, 16384, 1]⟩
abbrev S2x1x4x16384x16384 : Shape := ⟨5, ![2, 1, 4, 16384, 16384]⟩
abbrev S2x4x16384x16384 : Shape := ⟨4, ![2, 4, 16384, 16384]⟩
abbrev S2x4x128x16384 : Shape := ⟨4, ![2, 4, 128, 16384]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S2x16384x512 : Shape := ⟨3, ![2, 16384, 512]⟩

abbrev nBuf : Space → Nat
  | .hbm => 72
  | .vmem => 0
  | .smem => 0
  | _ => 0

abbrev bufTy : (tb : Table) → Fin (tcTables nBuf tb) → BufTy
  | .hbm, ⟨0, _⟩ => ⟨S2x16384x4x2x64, .f32⟩
  | .hbm, ⟨1, _⟩ => ⟨S2x16384x4x2x64, .f32⟩
  | .hbm, ⟨2, _⟩ => ⟨S2x16384x4x128, .f32⟩
  | .hbm, ⟨3, _⟩ => ⟨S4x64, .f32⟩
  | .hbm, ⟨4, _⟩ => ⟨S128, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x2x4x16384x16384, .f32⟩
  | .hbm, ⟨25, _⟩ => ⟨S_, .f32⟩
  | .hbm, ⟨26, _⟩ => ⟨S2x2x4x16384x16384, .f32⟩
  | .hbm, ⟨27, _⟩ => ⟨S2x2x4x16384x16384, .f32⟩
  | .hbm, ⟨28, _⟩ => ⟨S_, .f32⟩
  | .hbm, ⟨29, _⟩ => ⟨S2x2x4x16384, .f32⟩
  | .hbm, ⟨30, _⟩ => ⟨S_, .f32⟩
  | .hbm, ⟨31, _⟩ => ⟨S2x2x4x16384, .f32⟩
  | .hbm, ⟨32, _⟩ => ⟨S2x2x4x16384, .f32⟩
  | .hbm, ⟨33, _⟩ => ⟨S2x2x4x16384x1, .f32⟩
  | .hbm, ⟨34, _⟩ => ⟨S2x2x4x16384x16384, .f32⟩
  | .hbm, ⟨35, _⟩ => ⟨S2x2x4x16384x16384, .f32⟩
  | .hbm, ⟨36, _⟩ => ⟨S2x2x4x16384x16384, .f32⟩
  | .hbm, ⟨37, _⟩ => ⟨S_, .f32⟩
  | .hbm, ⟨38, _⟩ => ⟨S2x2x4x16384, .f32⟩
  | .hbm, ⟨39, _⟩ => ⟨S2x2x4x16384x1, .f32⟩
  | .hbm, ⟨40, _⟩ => ⟨S2x2x4x16384x16384, .f32⟩
  | .hbm, ⟨41, _⟩ => ⟨S2x2x4x16384x16384, .f32⟩
  | .hbm, ⟨42, _⟩ => ⟨S2x1x4x16384x16384, .f32⟩
  | .hbm, ⟨43, _⟩ => ⟨S2x4x16384x16384, .f32⟩
  | .hbm, ⟨44, _⟩ => ⟨S2x1x4x16384x16384, .f32⟩
  | .hbm, ⟨45, _⟩ => ⟨S2x4x16384x16384, .f32⟩
  | .hbm, ⟨46, _⟩ => ⟨S2x4x16384x16384, .f32⟩
  | .hbm, ⟨47, _⟩ => ⟨S2x4x16384x16384, .f32⟩
  | .hbm, ⟨48, _⟩ => ⟨S2x4x16384x16384, .f32⟩
  | .hbm, ⟨49, _⟩ => ⟨S2x4x128x16384, .f32⟩
  | .hbm, ⟨50, _⟩ => ⟨S2x16384x4x128, .f32⟩
  | .hbm, ⟨51, _⟩ => ⟨S2x16384x4x128, .f32⟩
  | .hbm, ⟨52, _⟩ => ⟨S_, .f32⟩
  | .hbm, ⟨53, _⟩ => ⟨S2x16384x4, .f32⟩
  | .hbm, ⟨54, _⟩ => ⟨S2x16384x4x1, .f32⟩
  | .hbm, ⟨55, _⟩ => ⟨S_, .f32⟩
  | .hbm, ⟨56, _⟩ => ⟨S2x16384x4x1, .f32⟩
  | .hbm, ⟨57, _⟩ => ⟨S2x16384x4x1, .f32⟩
  | .hbm, ⟨58, _⟩ => ⟨S_, .f32⟩
  | .hbm, ⟨59, _⟩ => ⟨S2x16384x4x1, .f32⟩
  | .hbm, ⟨60, _⟩ => ⟨S2x16384x4x1, .f32⟩
  | .hbm, ⟨61, _⟩ => ⟨S2x16384x4x1, .f32⟩
  | .hbm, ⟨62, _⟩ => ⟨S2x16384x4x128, .f32⟩
  | .hbm, ⟨63, _⟩ => ⟨S2x16384x4x128, .f32⟩
  | .hbm, ⟨64, _⟩ => ⟨S1x1x1x128, .f32⟩
  | .hbm, ⟨65, _⟩ => ⟨S2x16384x4x128, .f32⟩
  | .hbm, ⟨66, _⟩ => ⟨S2x16384x4x128, .f32⟩
  | .hbm, ⟨67, _⟩ => ⟨S_, .f32⟩
  | .hbm, ⟨68, _⟩ => ⟨S2x16384x4x128, .f32⟩
  | .hbm, ⟨69, _⟩ => ⟨S2x16384x4x128, .f32⟩
  | .hbm, ⟨70, _⟩ => ⟨S2x16384x512, .f32⟩
  | .hbm, ⟨71, _⟩ => ⟨S2x16384x512, .bf16⟩
  | _, _ => ⟨S2x16384x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S256x1024 : Shape := ⟨2, ![256, 1024]⟩
abbrev S256 : Shape := ⟨1, ![256]⟩
abbrev S256x1 : Shape := ⟨2, ![256, 1]⟩
abbrev S1024x5632 : Shape := ⟨2, ![1024, 5632]⟩
abbrev S256x5632 : Shape := ⟨2, ![256, 5632]⟩
abbrev S256x2816 : Shape := ⟨2, ![256, 2816]⟩
abbrev S2816x1024 : Shape := ⟨2, ![2816, 1024]⟩

abbrev nBuf : Space → Nat
  | .hbm => 8
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S4x1024x5632, .f32⟩
  | .hbm, ⟨3, _⟩ => ⟨S4x2816x1024, .f32⟩
  | .hbm, ⟨4, _⟩ => ⟨S1x1024, .f32⟩
  | .hbm, ⟨5, _⟩ => ⟨S4x1024x5632, .bf16⟩
  | .hbm, ⟨6, _⟩ => ⟨S4x2816x1024, .bf16⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S512x1024, .f32⟩
  | .local _ .vmem, ⟨6, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S32768x1024 : Shape := ⟨2, ![32768, 1024]⟩
abbrev S1024 : Shape := ⟨1, ![1024]⟩
abbrev S4x1024x5632 : Shape := ⟨3, ![4, 1024, 5632]⟩
abbrev S4x2816x1024 : Shape := ⟨3, ![4, 2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S4x1024x5632, .f32⟩
  | .hbm, ⟨3, _⟩ => ⟨S4x2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S1x1024x5632, .f32⟩
  | .hbm, ⟨21, _⟩ => ⟨S1024x5632, .f32⟩
  | .hbm, ⟨22, _⟩ => ⟨S1x2816x1024, .f32⟩
  | .hbm, ⟨23, _⟩ => ⟨S2816x1024, .f32⟩
  | .hbm, ⟨24, _⟩ => ⟨S32768x5632, .f32⟩
  | .hbm, ⟨25, _⟩ => ⟨S32768x2816, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== MlaFfn.lean ====
abbrev S32768x1024 : Shape := ⟨2, ![32768, 1024]⟩
abbrev S1024x1024 : Shape := ⟨2, ![1024, 1024]⟩
abbrev S1024 : Shape := ⟨1, ![1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S256x1024 : Shape := ⟨2, ![256, 1024]⟩
abbrev S256 : Shape := ⟨1, ![256]⟩
abbrev S256x1 : Shape := ⟨2, ![256, 1]⟩
abbrev S1024x5632 : Shape := ⟨2, ![1024, 5632]⟩
abbrev S256x5632 : Shape := ⟨2, ![256, 5632]⟩
abbrev S256x2816 : Shape := ⟨2, ![256, 2816]⟩
abbrev S2816x1024 : Shape := ⟨2, ![2816, 1024]⟩

abbrev nBuf : Space → Nat
  | .hbm => 12
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S4x1024x5632, .f32⟩
  | .hbm, ⟨5, _⟩ => ⟨S4x2816x1024, .f32⟩
  | .hbm, ⟨6, _⟩ => ⟨S1x1024, .f32⟩
  | .hbm, ⟨7, _⟩ => ⟨S4x1024x5632, .bf16⟩
  | .hbm, ⟨8, _⟩ => ⟨S4x2816x1024, .bf16⟩
  | .hbm, ⟨9, _⟩ => ⟨S32768x1024, .bf16⟩
  | .hbm, ⟨10, _⟩ => ⟨S1024x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlaFfnRefIdeal.lean ====
abbrev S32768x1024 : Shape := ⟨2, ![32768, 1024]⟩
abbrev S1024x1024 : Shape := ⟨2, ![1024, 1024]⟩
abbrev S1024 : Shape := ⟨1, ![1024]⟩
abbrev S4x1024x5632 : Shape := ⟨3, ![4, 1024, 5632]⟩
abbrev S4x2816x1024 : Shape := ⟨3, ![4, 2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S4x1024x5632, .f32⟩
  | .hbm, ⟨5, _⟩ => ⟨S4x2816x1024, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1x1024x5632, .f32⟩
  | .hbm, ⟨25, _⟩ => ⟨S1024x5632, .f32⟩
  | .hbm, ⟨26, _⟩ => ⟨S1x2816x1024, .f32⟩
  | .hbm, ⟨27, _⟩ => ⟨S2816x1024, .f32⟩
  | .hbm, ⟨28, _⟩ => ⟨S32768x5632, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S_, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== EvenFfn.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512x512 : Shape := ⟨2, ![512, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024x5632 : Shape := ⟨2, ![1024, 5632]⟩
abbrev S256x5632 : Shape := ⟨2, ![256, 5632]⟩
abbrev S256x2816 : Shape := ⟨2, ![256, 2816]⟩
abbrev S2816x1024 : Shape := ⟨2, ![2816, 1024]⟩

abbrev nBuf : Space → Nat
  | .hbm => 14
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x1024, .f32⟩
  | .hbm, ⟨4, _⟩ => ⟨S1024, .f32⟩
  | .hbm, ⟨5, _⟩ => ⟨S4x1024x5632, .f32⟩
  | .hbm, ⟨6, _⟩ => ⟨S4x2816x1024, .f32⟩
  | .hbm, ⟨7, _⟩ => ⟨S1x1024, .f32⟩
  | .hbm, ⟨8, _⟩ => ⟨S4x1024x5632, .bf16⟩
  | .hbm, ⟨9, _⟩ => ⟨S4x2816x1024, .bf16⟩
  | .hbm, ⟨10, _⟩ => ⟨S32768x512, .bf16⟩
  | .hbm, ⟨11, _⟩ => ⟨S32768x512, .bf16⟩
  | .hbm, ⟨12, _⟩ => ⟨S1024x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenFfnRefIdeal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S4x1024x5632 : Shape := ⟨3, ![4, 1024, 5632]⟩
abbrev S4x2816x1024 : Shape := ⟨3, ![4, 2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 48
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x1024, .f32⟩
  | .hbm, ⟨4, _⟩ => ⟨S1024, .f32⟩
  | .hbm, ⟨5, _⟩ => ⟨S4x1024x5632, .f32⟩
  | .hbm, ⟨6, _⟩ => ⟨S4x2816x1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S1x1024x5632, .f32⟩
  | .hbm, ⟨27, _⟩ => ⟨S1024x5632, .f32⟩
  | .hbm, ⟨28, _⟩ => ⟨S1x2816x1024, .f32⟩
  | .hbm, ⟨29, _⟩ => ⟨S2816x1024, .f32⟩
  | .hbm, ⟨30, _⟩ => ⟨S32768x5632, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S_, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x2816, .f32⟩
  | .hbm, ⟨43, _⟩ => ⟨S32768x1024, .f32⟩
  | .hbm, ⟨44, _⟩ => ⟨S_, .f32⟩
  | .hbm, ⟨45, _⟩ => ⟨S32768x1024, .f32⟩
  | .hbm, ⟨46, _⟩ => ⟨S32768x1024, .f32⟩
  | .hbm, ⟨47, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== EvenIn.lean ====
abbrev S2x16384x1024 : Shape := ⟨3, ![2, 16384, 1024]⟩
abbrev S1024 : Shape := ⟨1, ![1024]⟩
abbrev S1024x3072 : Shape := ⟨2, ![1024, 3072]⟩
abbrev S3x512 : Shape := ⟨2, ![3, 512]⟩
abbrev S64 : Shape := ⟨1, ![64]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S16384x128 : Shape := ⟨2, ![16384, 128]⟩
abbrev S32x1 : Shape := ⟨2, ![32, 1]⟩
abbrev S1x16384 : Shape := ⟨2, ![1, 16384]⟩
abbrev S32x16384 : Shape := ⟨2, ![32, 16384]⟩
abbrev S1024x1536 : Shape := ⟨2, ![1024, 1536]⟩
abbrev S1024x512 : Shape := ⟨2, ![1024, 512]⟩
abbrev S1024x2048 : Shape := ⟨2, ![1024, 2048]⟩
abbrev S1024x1024 : Shape := ⟨2, ![1024, 1024]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S512x1 : Shape := ⟨2, ![512, 1]⟩
abbrev S1x512 : Shape := ⟨2, ![1, 512]⟩
abbrev S512x1024 : Shape := ⟨2, ![512, 1024]⟩
abbrev S2x16384x512 : Shape := ⟨3, ![2, 16384, 512]⟩
abbrev S2x512x16384 : Shape := ⟨3, ![2, 512, 16384]⟩
abbrev S1x1024x1024 : Shape := ⟨3, ![1, 1024, 1024]⟩
abbrev S1x8x1024 : Shape := ⟨3, ![1, 8, 1024]⟩
abbrev S1024x128 : Shape := ⟨2, ![1024, 128]⟩
abbrev S32x1024 : Shape := ⟨2, ![32, 1024]⟩
abbrev S1x1024x512 : Shape := ⟨3, ![1, 1024, 512]⟩
abbrev S1x512x1024 : Shape := ⟨3, ![1, 512, 1024]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S16x512 : Shape := ⟨2, ![16, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1024x256 : Shape := ⟨2, ![1024, 256]⟩
abbrev S256x512 : Shape := ⟨2, ![256, 512]⟩
abbrev S512x256 : Shape := ⟨2, ![512, 256]⟩
abbrev S1x512x256 : Shape := ⟨3, ![1, 512, 256]⟩
abbrev S32x256 : Shape := ⟨2, ![32, 256]⟩
abbrev S64x256 : Shape := ⟨2, ![64, 256]⟩
abbrev S1x256 : Shape := ⟨2, ![1, 256]⟩
abbrev S1x32x256 : Shape := ⟨3, ![1, 32, 256]⟩
abbrev S1x256x512 : Shape := ⟨3, ![1, 256, 512]⟩
abbrev S256x128 : Shape := ⟨2, ![256, 128]⟩

abbrev nBuf : Space → Nat
  | .hbm => 101
  | .vmem => 30
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3072, .f32⟩
  | .hbm, ⟨3, _⟩ => ⟨S3x512, .f32⟩
  | .hbm, ⟨4, _⟩ => ⟨S64, .f32⟩
  | .hbm, ⟨5, _⟩ => ⟨S64, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S16384, .f32⟩
  | .hbm, ⟨23, _⟩ => ⟨S16384x1, .f32⟩
  | .hbm, ⟨24, _⟩ => ⟨S1x32, .f32⟩
  | .hbm, ⟨25, _⟩ => ⟨S4x32, .f32⟩
  | .hbm, ⟨26, _⟩ => ⟨S128, .f32⟩
  | .hbm, ⟨27, _⟩ => ⟨S1x128, .f32⟩
  | .hbm, ⟨28, _⟩ => ⟨S16384x128, .f32⟩
  | .hbm, ⟨29, _⟩ => ⟨S16384x128, .f32⟩
  | .hbm, ⟨30, _⟩ => ⟨S16384x128, .f32⟩
  | .hbm, ⟨31, _⟩ => ⟨S128, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S_, .i32⟩
  | .hbm, ⟨41, _⟩ => ⟨S128, .i32⟩
  | .hbm, ⟨42, _⟩ => ⟨S128, .i1⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S_, .i32⟩
  | .hbm, ⟨47, _⟩ => ⟨S_, .i1⟩
  | .hbm, ⟨48, _⟩ => ⟨S128, .i1⟩
  | .hbm, ⟨49, _⟩ => ⟨S128, .i1⟩
  | .hbm, ⟨50, _⟩ => ⟨S128, .i1⟩
  | .hbm, ⟨51, _⟩ => ⟨S128, .i32⟩
  | .hbm, ⟨52, _⟩ => ⟨S128, .i32⟩
  | .hbm, ⟨53, _⟩ => ⟨S128, .i32⟩
  | .hbm, ⟨54, _⟩ => ⟨S_, .i32⟩
  | .hbm, ⟨55, _⟩ => ⟨S128, .i32⟩
  | .hbm, ⟨56, _⟩ => ⟨S128, .i1⟩
  | .hbm, ⟨57, _⟩ => ⟨S1x128, .i1⟩
  | .hbm, ⟨58, _⟩ => ⟨S16384x128, .f32⟩
  | .hbm, ⟨59, _⟩ => ⟨S16384x128, .f32⟩
  | .hbm, ⟨60, _⟩ => ⟨S_, .f32⟩
  | .hbm, ⟨61, _⟩ => ⟨S_, .f32⟩
  | .hbm, ⟨62, _⟩ => ⟨S16384x128, .i1⟩
  | .hbm, ⟨63, _⟩ => ⟨S16384x128, .f32⟩
  | .hbm, ⟨64, _⟩ => ⟨S16384x128, .f32⟩
  | .hbm, ⟨65, _⟩ => ⟨S_, .f32⟩
  | .hbm, ⟨66, _⟩ => ⟨S_, .f32⟩
  | .hbm, ⟨67, _⟩ => ⟨S16384x128, .i1⟩
  | .hbm, ⟨68, _⟩ => ⟨S16384x128, .f32⟩
  | .hbm, ⟨69, _⟩ => ⟨S16384x128, .f32⟩
  | .hbm, ⟨70, _⟩ => ⟨S32x1, .f32⟩
  | .hbm, ⟨71, _⟩ => ⟨S1x16384, .f32⟩
  | .hbm, ⟨72, _⟩ => ⟨S32x16384, .f32⟩
  | .hbm, ⟨73, _⟩ => ⟨S32x16384, .f32⟩
  | .hbm, ⟨74, _⟩ => ⟨S32x16384, .f32⟩
  | .hbm, ⟨75, _⟩ => ⟨S16384x128, .f32⟩
  | .hbm, ⟨76, _⟩ => ⟨S32x16384, .f32⟩
  | .hbm, ⟨77, _⟩ => ⟨S32x16384, .f32⟩
  | .hbm, ⟨78, _⟩ => ⟨S1024x1536, .f32⟩
  | .hbm, ⟨79, _⟩ => ⟨S1024x512, .f32⟩
  | .hbm, ⟨80, _⟩ => ⟨S1024x2048, .f32⟩
  | .hbm, ⟨81, _⟩ => ⟨S1024x2048, .bf16⟩
  | .hbm, ⟨82, _⟩ => ⟨S1024x512, .f32⟩
  | .hbm, ⟨83, _⟩ => ⟨S1024x512, .f32⟩
  | .hbm, ⟨84, _⟩ => ⟨S1024x1024, .f32⟩
  | .hbm, ⟨85, _⟩ => ⟨S1024x1024, .f32⟩
  | .hbm, ⟨86, _⟩ => ⟨S1024x1024, .bf16⟩
  | .hbm, ⟨87, _⟩ => ⟨S1x1024, .f32⟩
  | .hbm, ⟨88, _⟩ => ⟨S1x64, .f32⟩
  | .hbm, ⟨89, _⟩ => ⟨S8x64, .f32⟩
  | .hbm, ⟨90, _⟩ => ⟨S512, .f32⟩
  | .hbm, ⟨91, _⟩ => ⟨S512x1, .f32⟩
  | .hbm, ⟨92, _⟩ => ⟨S1x64, .f32⟩
  | .hbm, ⟨93, _⟩ => ⟨S8x64, .f32⟩
  | .hbm, ⟨94, _⟩ => ⟨S512, .f32⟩
  | .hbm, ⟨95, _⟩ => ⟨S1x512, .f32⟩
  | .hbm, ⟨96, _⟩ => ⟨S512x1024, .f32⟩
  | .hbm, ⟨97, _⟩ => ⟨S2x16384x512, .bf16⟩
  | .hbm, ⟨98, _⟩ => ⟨S2x512x16384, .bf16⟩
  | .hbm, ⟨99, _⟩ => ⟨S2x16384x512, .bf16⟩
  | .hbm, ⟨100, _⟩ => ⟨S2x512x16384, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x2048, .bf16⟩
  | .local _ .vmem, ⟨8, _⟩ => ⟨S1024x1024, .bf16⟩
  | .local _ .vmem, ⟨9, _⟩ => ⟨S3x512, .f32⟩
  | .local _ .vmem, ⟨10, _⟩ => ⟨S512x1024, .f32⟩
  | .local _ .vmem, ⟨11, _⟩ => ⟨S1x512, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | .local _ .vmem, ⟨22, _⟩ => ⟨S1x1024x512, .bf16⟩
  | .local _ .vmem, ⟨23, _⟩ => ⟨S1x1024x512, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x1024x512, .bf16⟩
  | .local _ .vmem, ⟨27, _⟩ => ⟨S1x1024x512, .bf16⟩
  | .local _ .vmem, ⟨28, _⟩ => ⟨S1x512x1024, .bf16⟩
  | .local _ .vmem, ⟨29, _⟩ => ⟨S1x512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_v5 : Ref sig .tc := ⟨.hbm, 41, rfl⟩
abbrev main_call0_v6 : Ref sig .tc := ⟨.hbm, 42, rfl⟩
abbrev main_call0_c_2 : Ref sig .tc := ⟨.hbm, 43, rfl⟩
abbrev main_call0_v7 : Ref sig .tc := ⟨.hbm, 44, rfl⟩
abbrev main_call0_v8 : Ref sig .tc := ⟨.hbm, 45, rfl⟩
abbrev main_call0_c_3 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_v21 : Ref sig .tc := ⟨.hbm, 53, rfl⟩
abbrev main_c_4 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v27 : Ref sig .tc := ⟨.hbm, 64, rfl⟩
abbrev main_cst_6 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56_0 : Ref sig .tc := ⟨.hbm, 97, rfl⟩
abbrev main_v56_1 : Ref sig .tc := ⟨.hbm, 98, rfl⟩
abbrev main_v56_2 : Ref sig .tc := ⟨.hbm, 99, rfl⟩
abbrev main_v56_3 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== EvenInRefIdeal.lean ====
abbrev S2x16384x1024 : Shape := ⟨3, ![2, 16384, 1024]⟩
abbrev S1024 : Shape := ⟨1, ![1024]⟩
abbrev S1024x3072 : Shape := ⟨2, ![1024, 3072]⟩
abbrev S3x512 : Shape := ⟨2, ![3, 512]⟩
abbrev S64 : Shape := ⟨1, ![64]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3072 : Shape := ⟨3, ![2, 16384, 3072]⟩
abbrev S2x16384x512 : Shape := ⟨3, ![2, 16384, 512]⟩
abbrev S2x16386x512 : Shape := ⟨3, ![2, 16386, 512]⟩
abbrev S1x512 : Shape := ⟨2, ![1, 512]⟩
abbrev S512 : Shape := ⟨1, ![512]⟩
abbrev S1x1x512 : Shape := ⟨3, ![1, 1, 512]⟩
abbrev S2x16384x4x2x64 : Shape := ⟨5, ![2, 16384, 4, 2, 64]⟩
abbrev S2x16384x4x2 : Shape := ⟨4, ![2, 16384, 4, 2]⟩
abbrev S2x16384x4x2x1 : Shape := ⟨5, ![2, 16384, 4, 2, 1]⟩
abbrev S1x1x1x1x64 : Shape := ⟨5, ![1, 1, 1, 1, 64]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x1x1x32 : Shape := ⟨4, ![16384, 1, 1, 32]⟩
abbrev S2x16384x4x2x32 : Shape := ⟨5, ![2, 16384, 4, 2, 32]⟩
abbrev S1x16384x1x1x32 : Shape := ⟨5, ![1, 16384, 1, 1, 32]⟩
abbrev S2x512x16384 : Shape := ⟨3, ![2, 512, 16384]⟩

abbrev nBuf : Space → Nat
  | .hbm => 182
  | .vmem => 0
  | .smem => 0
  | _ => 0

abbrev hbmTy0_0 (i : Nat) : BufTy := match i % 128 with
  | 0 => ⟨S2x16384x1024, .f32⟩
  | 1 => ⟨S1024, .f32⟩
  | 2 => ⟨S1024x3072, .f32⟩
  | 3 => ⟨S3x512, .f32⟩
  | 4 => ⟨S64, .f32⟩
  | 5 => ⟨S64, .f32⟩
  | 6 => ⟨S2x16384x1024, .f32⟩
  | 7 => ⟨S_, .f32⟩
  | 8 => ⟨S2x16384, .f32⟩
  | 9 => ⟨S2x16384x1, .f32⟩
  | 10 => ⟨S_, .f32⟩
  | 11 => ⟨S2x16384x1, .f32⟩
  | 12 => ⟨S2x16384x1, .f32⟩
  | 13 => ⟨S_, .f32⟩
  | 14 => ⟨S2x16384x1, .f32⟩
  | 15 => ⟨S2x16384x1, .f32⟩
  | 16 => ⟨S2x16384x1, .f32⟩
  | 17 => ⟨S2x16384x1024, .f32⟩
  | 18 => ⟨S2x16384x1024, .f32⟩
  | 19 => ⟨S1x1x1024, .f32⟩
  | 20 => ⟨S2x16384x1024, .f32⟩
  | 21 => ⟨S2x16384x1024, .f32⟩
  | 22 => ⟨S2x16384x3072, .f32⟩
  | 23 => ⟨S2x16384x512, .f32⟩
  | 24 => ⟨S2x16384x512, .f32⟩
  | 25 => ⟨S2x16384x512, .f32⟩
  | 26 => ⟨S2x16384x512, .f32⟩
  | 27 => ⟨S2x16384x512, .f32⟩
  | 28 => ⟨S2x16384x512, .f32⟩
  | 29 => ⟨S2x16384x512, .f32⟩
  | 30 => ⟨S_, .i32⟩
  | 31 => ⟨S_, .f32⟩
  | 32 => ⟨S2x16386x512, .f32⟩
  | 33 => ⟨S1x512, .f32⟩
  | 34 => ⟨S512, .f32⟩
  | 35 => ⟨S2x16384x512, .f32⟩
  | 36 => ⟨S1x1x512, .f32⟩
  | 37 => ⟨S2x16384x512, .f32⟩
  | 38 => ⟨S2x16384x512, .f32⟩
  | 39 => ⟨S1x512, .f32⟩
  | 40 => ⟨S512, .f32⟩
  | 41 => ⟨S2x16384x512, .f32⟩
  | 42 => ⟨S1x1x512, .f32⟩
  | 43 => ⟨S2x16384x512, .f32⟩
  | 44 => ⟨S2x16384x512, .f32⟩
  | 45 => ⟨S2x16384x512, .f32⟩
  | 46 => ⟨S1x512, .f32⟩
  | 47 => ⟨S512, .f32⟩
  | 48 => ⟨S2x16384x512, .f32⟩
  | 49 => ⟨S1x1x512, .f32⟩
  | 50 => ⟨S2x16384x512, .f32⟩
  | 51 => ⟨S2x16384x512, .f32⟩
  | 52 => ⟨S2x16384x512, .f32⟩
  | 53 => ⟨S2x16384x512, .f32⟩
  | 54 => ⟨S2x16384x4x2x64, .f32⟩
  | 55 => ⟨S2x16384x4x2x64, .f32⟩
  | 56 => ⟨S_, .f32⟩
  | 57 => ⟨S2x16384x4x2, .f32⟩
  | 58 => ⟨S2x16384x4x2x1, .f32⟩
  | 59 => ⟨S_, .f32⟩
  | 60 => ⟨S2x16384x4x2x1, .f32⟩
  | 61 => ⟨S2x16384x4x2x1, .f32⟩
  | 62 => ⟨S_, .f32⟩
  | 63 => ⟨S2x16384x4x2x1, .f32⟩
  | 64 => ⟨S2x16384x4x2x1, .f32⟩
  | 65 => ⟨S2x16384x4x2x1, .f32⟩
  | 66 => ⟨S2x16384x4x2x64, .f32⟩
  | 67 => ⟨S2x16384x4x2x64, .f32⟩
  | 68 => ⟨S1x1x1x1x64, .f32⟩
  | 69 => ⟨S2x16384x4x2x64, .f32⟩
  | 70 => ⟨S2x16384x4x2x64, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S16384, .f32⟩
  | 88 => ⟨S16384x1, .f32⟩
  | 89 => ⟨S1x32, .f32⟩
  | 90 => ⟨S16384x32, .f32⟩
  | 91 => ⟨S16384x32, .f32⟩
  | 92 => ⟨S16384x32, .f32⟩
  | 93 => ⟨S16384x32, .f32⟩
  | 94 => ⟨S16384x1x1x32, .f32⟩
  | 95 => ⟨S16384x32, .f32⟩
  | 96 => ⟨S16384x1x1x32, .f32⟩
  | 97 => ⟨S2x16384x4x2x32, .f32⟩
  | 98 => ⟨S2x16384x4x2x32, .f32⟩
  | 99 => ⟨S1x16384x1x1x32, .f32⟩
  | 100 => ⟨S2x16384x4x2x32, .f32⟩
  | 101 => ⟨S2x16384x4x2x32, .f32⟩
  | 102 => ⟨S1x16384x1x1x32, .f32⟩
  | 103 => ⟨S2x16384x4x2x32, .f32⟩
  | 104 => ⟨S2x16384x4x2x32, .f32⟩
  | 105 => ⟨S2x16384x4x2x32, .f32⟩
  | 106 => ⟨S1x16384x1x1x32, .f32⟩
  | 107 => ⟨S2x16384x4x2x32, .f32⟩
  | 108 => ⟨S2x16384x4x2x32, .f32⟩
  | 109 => ⟨S1x16384x1x1x32, .f32⟩
  | 110 => ⟨S2x16384x4x2x32, .f32⟩
  | 111 => ⟨S2x16384x4x2x32, .f32⟩
  | 112 => ⟨S2x16384x4x2x32, .f32⟩
  | 113 => ⟨S2x16384x4x2x64, .f32⟩
  | 114 => ⟨S2x16384x4x2x64, .f32⟩
  | 115 => ⟨S2x16384x4x2x64, .f32⟩
  | 116 => ⟨S_, .f32⟩
  | 117 => ⟨S2x16384x4x2, .f32⟩
  | 118 => ⟨S2x16384x4x2x1, .f32⟩
  | 119 => ⟨S_, .f32⟩
  | 120 => ⟨S2x16384x4x2x1, .f32⟩
  | 121 => ⟨S2x16384x4x2x1, .f32⟩
  | 122 => ⟨S_, .f32⟩
  | 123 => ⟨S2x16384x4x2x1, .f32⟩
  | 124 => ⟨S2x16384x4x2x1, .f32⟩
  | 125 => ⟨S2x16384x4x2x1, .f32⟩
  | 126 => ⟨S2x16384x4x2x64, .f32⟩
  | 127 => ⟨S2x16384x4x2x64, .f32⟩
  | _ => ⟨S2x16384x1024, .f32⟩

abbrev hbmTy0_1 (i : Nat) : BufTy := match i % 128 with
  | 0 => ⟨S1x1x1x1x64, .f32⟩
  | 1 => ⟨S2x16384x4x2x64, .f32⟩
  | 2 => ⟨S2x16384x4x2x64, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S16384, .f32⟩
  | 20 => ⟨S16384x1, .f32⟩
  | 21 => ⟨S1x32, .f32⟩
  | 22 => ⟨S16384x32, .f32⟩
  | 23 => ⟨S16384x32, .f32⟩
  | 24 => ⟨S16384x32, .f32⟩
  | 25 => ⟨S16384x32, .f32⟩
  | 26 => ⟨S16384x1x1x32, .f32⟩
  | 27 => ⟨S16384x32, .f32⟩
  | 28 => ⟨S16384x1x1x32, .f32⟩
  | 29 => ⟨S2x16384x4x2x32, .f32⟩
  | 30 => ⟨S2x16384x4x2x32, .f32⟩
  | 31 => ⟨S1x16384x1x1x32, .f32⟩
  | 32 => ⟨S2x16384x4x2x32, .f32⟩
  | 33 => ⟨S2x16384x4x2x32, .f32⟩
  | 34 => ⟨S1x16384x1x1x32, .f32⟩
  | 35 => ⟨S2x16384x4x2x32, .f32⟩
  | 36 => ⟨S2x16384x4x2x32, .f32⟩
  | 37 => ⟨S2x16384x4x2x32, .f32⟩
  | 38 => ⟨S1x16384x1x1x32, .f32⟩
  | 39 => ⟨S2x16384x4x2x32, .f32⟩
  | 40 => ⟨S2x16384x4x2x32, .f32⟩
  | 41 => ⟨S1x16384x1x1x32, .f32⟩
  | 42 => ⟨S2x16384x4x2x32, .f32⟩
  | 43 => ⟨S2x16384x4x2x32, .f32⟩
  | 44 => ⟨S2x16384x4x2x32, .f32⟩
  | 45 => ⟨S2x16384x4x2x64, .f32⟩
  | 46 => ⟨S2x16384x512, .bf16⟩
  | 47 => ⟨S2x16384x512, .f32⟩
  | 48 => ⟨S2x512x16384, .f32⟩
  | 49 => ⟨S2x512x16384, .bf16⟩
  | 50 => ⟨S2x16384x512, .f32⟩
  | 51 => ⟨S2x16384x512, .bf16⟩
  | 52 => ⟨S2x512x16384, .f32⟩
  | 53 => ⟨S2x512x16384, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_5 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_v61 : Ref sig .tc := ⟨.hbm, 77, rfl⟩
abbrev main_cst_7 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_10 : Ref sig .tc := ⟨.hbm, 116, rfl⟩
abbrev main_v97 : Ref sig .tc := ⟨.hbm, 117, rfl⟩
abbrev main_v98 : Ref sig .tc := ⟨.hbm, 118, rfl⟩
abbrev main_cst_11 : Ref sig .tc := ⟨.hbm, 119, rfl⟩
abbrev main_v99 : Ref sig .tc := ⟨.hbm, 120, rfl⟩
abbrev main_v100 : Ref sig .tc := ⟨.hbm, 121, rfl⟩
abbrev main_cst_12 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_13 : Ref sig .tc := ⟨.hbm, 132, rfl⟩
abbrev main_v110 : Ref sig .tc := ⟨.hbm, 133, rfl⟩
abbrev main_v111 : Ref sig .tc := ⟨.hbm, 134, rfl⟩
abbrev main_cst_14 : Ref sig .tc := ⟨.hbm, 135, rfl⟩
abbrev main_v112 : Ref sig .tc := ⟨.hbm, 136, rfl⟩
abbrev main_v113 : Ref sig .tc := ⟨.hbm, 137, rfl⟩
abbrev main_cst_15 : Ref sig .tc := ⟨.hbm, 138, rfl⟩
abbrev main_v114 : Ref sig .tc := ⟨.hbm, 139, rfl⟩
abbrev main_v115 : Ref sig .tc := ⟨.hbm, 140, rfl⟩
abbrev main_cst_16 : Ref sig .tc := ⟨.hbm, 141, rfl⟩
abbrev main_v116 : Ref sig .tc := ⟨.hbm, 142, rfl⟩
abbrev main_v117 : Ref sig .tc := ⟨.hbm, 143, rfl⟩
abbrev main_cst_17 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩

abbrev nD : Nat := 1
abbrev τ : Topo := Topo.v7x

variable {F : FTy → Type} [FloatOps F]
-- ==== Proof.Softmax.lean ====
/- The attention's softmax on one row of scores. The kernel weighs the values with powers of two of scores scaled by
   log₂ e, takes no maximum away and divides once at the end; the reference takes the row's maximum away, exponentiates,
   normalises and then weighs. On real scores the two are one number, whatever the values are. -/
module

public import Idealize.ShloMosaic.Lib.Pipeline.ValueKit
public import Mathlib.Analysis.SpecialFunctions.Pow.Real

@[expose] public section

noncomputable section

open Idealize.ShloMosaic

namespace Cert.Layer

/-- One row of the kernel's attention: the values weighed with `2 ^ t`, divided by the sum of the weights. -/
def weighed {n : ℕ} (t v : Fin n → EReal) : EReal :=
  Ideal.div (∑ k, v k * Ideal.exp2 (t k)) (∑ k, Ideal.exp2 (t k))

/-- The maximum the reference takes away from a row of scores. -/
def rowMax {n : ℕ} (s : Fin n → EReal) : EReal := max ⊥ (Finset.univ.fold max ⊥ s)

/-- The reference's normalised weight of key `k`. -/
def weight {n : ℕ} (s : Fin n → EReal) (k : Fin n) : EReal :=
  Ideal.div (Ideal.exp (s k - rowMax s)) (∑ j, Ideal.exp (s j - rowMax s))

theorem weighed_congr {n : ℕ} {t t' v v' : Fin n → EReal} (ht : ∀ k, t k = t' k) (hv : ∀ k, v k = v' k) :
    weighed t v = weighed t' v' := by
  rw [funext ht, funext hv]

/-- The maximum of a nonempty row of reals is a real. -/
theorem rowMax_coe {n : ℕ} (h : 0 < n) (r : Fin n → ℝ) : ∃ M : ℝ, rowMax (fun k => (r k : EReal)) = M := by
  have ht : rowMax (fun k => (r k : EReal)) ≠ ⊤ := by
    refine ne_of_lt ?_
    unfold rowMax
    rw [max_lt_iff, Finset.fold_max_lt]
    exact ⟨bot_lt_top, bot_lt_top, fun k _ => EReal.coe_lt_top _⟩
  have hb : rowMax (fun k => (r k : EReal)) ≠ ⊥ := by
    refine ne_of_gt (lt_of_lt_of_le (EReal.bot_lt_coe (r ⟨0, h⟩)) ?_)
    unfold rowMax
    rw [le_max_iff, Finset.le_fold_max]
    exact Or.inr (Or.inr ⟨⟨0, h⟩, Finset.mem_univ _, le_rfl⟩)
  exact ⟨_, (EReal.coe_toReal ht hb).symm⟩

/-- A sum of reals is a real. -/
theorem sum_coe {ι : Type} (S : Finset ι) (r : ι → ℝ) : ∑ k ∈ S, (r k : EReal) = ((∑ k ∈ S, r k : ℝ) : EReal) := by
  classical
  induction S using Finset.induction_on with
  | empty => simp
  | insert a S ha ih => rw [Finset.sum_insert ha, Finset.sum_insert ha, ih, EReal.coe_add]

/-- A positive real factor goes into a sum. -/
theorem sum_mul_coe {ι : Type} (S : Finset ι) (x : ι → EReal) {c : ℝ} (hc : 0 ≤ c) :
    (∑ k ∈ S, x k) * (c : EReal) = ∑ k ∈ S, x k * (c : EReal) := by
  classical
  induction S using Finset.induction_on with
  | empty => simp
  | insert a S ha ih =>
    rw [Finset.sum_insert ha, Finset.sum_insert ha, ← ih, mul_comm, EReal.left_distrib_of_nonneg_of_ne_top (by exact_mod_cast hc) (EReal.coe_ne_top c),
      mul_comm (c : EReal), mul_comm (c : EReal)]

/-- A power of two at a score scaled by log₂ e is the score's exponential. -/
theorem exp2_scaled (r : ℝ) : Ideal.exp2 (((r * (Real.log 2)⁻¹ : ℝ)) : EReal) = ((Real.exp r : ℝ) : EReal) := by
  have h2 : Real.log 2 ≠ 0 := ne_of_gt (Real.log_pos one_lt_two)
  rw [Ideal.exp2_coe]
  congr 1
  show (2 : ℝ) ^ (r * (Real.log 2)⁻¹) = _
  rw [Real.rpow_def_of_pos two_pos]
  congr 1
  field_simp

/-- The softmax's weights on real scores. -/
theorem weight_coe {n : ℕ} (r : Fin n → ℝ) (k : Fin n) :
    weight (fun k => (r k : EReal)) k = ((Real.exp (r k) * (∑ j, Real.exp (r j))⁻¹ : ℝ) : EReal) := by
  obtain ⟨M, hM⟩ := rowMax_coe (Nat.lt_of_le_of_lt (Nat.zero_le _) k.isLt) r
  have hL : 0 < ∑ j, Real.exp (r j) :=
    Finset.sum_pos (fun j _ => Real.exp_pos _) ⟨k, Finset.mem_univ k⟩
  have hs : ∑ j, Real.exp (r j - M) = (∑ j, Real.exp (r j)) * Real.exp (-M) := by
    rw [Finset.sum_mul]
    exact Finset.sum_congr rfl fun j _ => by rw [sub_eq_add_neg, Real.exp_add]
  have hp : 0 < Real.exp (-M) := Real.exp_pos _
  unfold weight
  rw [hM]
  simp only [← EReal.coe_sub, Ideal.exp_coe, sum_coe]
  rw [hs, Ideal.div_coe (ne_of_gt (mul_pos hL hp)), ← EReal.coe_mul]
  congr 1
  rw [sub_eq_add_neg, Real.exp_add]
  field_simp

/-- The kernel's row on real scores, as a weighed sum. -/
theorem weighed_coe {n : ℕ} (h : 0 < n) (r : Fin n → ℝ) (v : Fin n → EReal) :
    weighed (fun k => ((r k * (Real.log 2)⁻¹ : ℝ) : EReal)) v
      = ∑ k, v k * weight (fun k => (r k : EReal)) k := by
  have hL : 0 < ∑ j, Real.exp (r j) :=
    Finset.sum_pos (fun j _ => Real.exp_pos _) ⟨⟨0, h⟩, Finset.mem_univ _⟩
  unfold weighed
  simp only [exp2_scaled, weight_coe, sum_coe]
  rw [Ideal.div_coe (ne_of_gt hL), one_div, sum_mul_coe _ _ (le_of_lt (inv_pos.mpr hL))]
  exact Finset.sum_congr rfl fun k _ => by rw [mul_assoc, ← EReal.coe_mul]

/-- A finite extended real is a real. -/
theorem coe_of_abs_lt_top {x : EReal} (h : max x (-x) < ⊤) : ∃ r : ℝ, x = r := by
  rw [max_lt_iff] at h
  refine ⟨x.toReal, (EReal.coe_toReal (ne_of_lt h.1) fun e => ?_).symm⟩
  rw [e] at h
  exact absurd h.2 (by simp)

end Cert.Layer

end
-- ==== Proof.MlaReference.lean ====
/- The reference's attention read at one element: the row's scores, their maximum, the normalised weights, and the sum of
   the values at these weights, one lemma per stage. -/
module

public import proofs.«01_k».proof.Defs
public import proofs.«01_k».proof.Proof.Gen.MlaRefIdeal.Run
public import proofs.«01_k».proof.Proof.Gen.MlaRefIdeal.Read
public import proofs.«01_k».proof.Proof.Softmax

@[expose] public section

set_option maxRecDepth 16384

noncomputable section

open Idealize.ShloMosaic Idealize.ShloMosaic.TcCoe Idealize.SL.Sem

namespace Cert.MlaRefIdeal.RowValue

open Cert.MlaRefIdeal Cert.MlaRefIdeal.Read Cert.Layer

theorem ofBits_neg_inf : Ideal.ofBits .f32 4286578688#32 = ⊥ := by
  simp [Ideal.ofBits, Ideal.ieee]

theorem ofBits_192 : Ideal.ofBits .f32 1128267776#32 = ((192 : ℝ) : EReal) := by
  simp [Ideal.ofBits, Ideal.ieee, -EReal.coe_mul]
  norm_num

/-- The score of key `j` for query `a` of head `h`, in batch `b`. -/
def score (q k : FVec Ideal S2x16384x8x192 .f32) (b : Fin 2) (h : Fin 8) (a j : Fin 16384) : EReal :=
  (∑ d : Fin 192, q (ix4 b a h d) * k (ix4 b j h d)) * (((Real.sqrt 192)⁻¹ : ℝ) : EReal)

variable (q k : FVec Ideal S2x16384x8x192 .f32) (v : FVec Ideal S2x16384x8x128 .f32)

theorem scores_at (b : Fin 2) (h : Fin 8) (a j : Fin 16384) :
    val_main_v3 (F := Ideal) q k (ix4 b h a j) = score q k b h a j := by
  pointwise [val_main_v0, val_main_cst, val_main_v1, val_main_v2, val_main_v3]
  rw [ofBits_192, Ideal.rsqrt_coe, if_neg (by norm_num), if_neg (by norm_num)]
  rfl

theorem fold_at (b : Fin 2) (h : Fin 8) (a : Fin 16384) :
    val_main_v4 (F := Ideal) q k (ix3 b h a) = Finset.univ.fold max (Ideal.ofBits .f32 4286578688#32) (fun j => val_main_v3 (F := Ideal) q k (ix4 b h a j)) := by
  pointwise [val_main_v4, val_main_cst_0]

theorem max_at (b : Fin 2) (h : Fin 8) (a : Fin 16384) :
    val_main_v6 (F := Ideal) q k (ix3 b h a) = rowMax (score q k b h a) := by
  rw [val_main_v6_apply, val_main_v5_apply, val_main_cst_1_apply, fold_at]
  simp only [scores_at]
  show max (Ideal.ofBits .f32 4286578688#32) _ = rowMax _
  rw [ofBits_neg_inf]
  rfl

theorem exp_at (b : Fin 2) (h : Fin 8) (a j : Fin 16384) :
    val_main_v10 (F := Ideal) q k (ix4 b h a j) = Ideal.exp (score q k b h a j - rowMax (score q k b h a)) := by
  pointwise [val_main_v7, val_main_v8, val_main_v9, val_main_v10]
  simp only [scores_at, max_at]

theorem weight_at (b : Fin 2) (h : Fin 8) (a j : Fin 16384) :
    val_main_v14 (F := Ideal) q k (ix4 b h a j) = weight (score q k b h a) j := by
  pointwise [val_main_v11, val_main_cst_2, val_main_v12, val_main_v13, val_main_v14]
  simp only [exp_at]
  rfl

theorem result_at (b : Fin 2) (a : Fin 16384) (n : Fin 1024) :
    val_main_v18 (F := Ideal) q k v (ix3 b a n)
      = ∑ j, v (ix4 b j ⟨n.val / 128, by omega⟩ ⟨n.val % 128, by omega⟩) * weight (score q k b ⟨n.val / 128, by omega⟩ a) j := by
  pointwise [val_main_v15, val_main_v16, val_main_v17, val_main_v18]
  simp only [weight_at]

end Cert.MlaRefIdeal.RowValue

end
-- ==== Proof.MlaValue.lean ====
/- The latent attention's kernel: one grid point keeps, for a block of queries, the sum of the weights and the sum of the
   weighed values over the keys seen so far, walks the keys in 32 chunks, and divides at the end. By induction along the
   chunks the two sums are those over the keys walked; after the last they are the sums over all keys. -/
module

public import proofs.«01_k».proof.Defs
public import proofs.«01_k».proof.Proof.Gen.MlaIdeal.Value
public import proofs.«01_k».proof.Proof.Gen.Pre_mla_finite
public import proofs.«01_k».proof.Proof.MlaReference
public import Idealize.ShloMosaic.Lib.ReduceAll

@[expose] public section

set_option maxRecDepth 16384

noncomputable section

open Idealize.ShloMosaic Idealize.ShloMosaic.TcCoe Idealize.SL.Sem

namespace Cert.MlaIdeal.RowValue

open Cert.MlaIdeal Cert.MlaIdeal.Gen Cert.Layer

/-! ## The payloads at an element -/

/-- The factor on the queries: the softmax's scale times log₂ e. -/
def qscale : EReal := (((Real.sqrt 192)⁻¹ * (Real.log 2)⁻¹ : ℝ) : EReal)

theorem named_qscale : (Named.named (F := Ideal) κ "qscale" 0x3DD53B95#32 : Ideal .f32) = qscale :=
  IdealRules.named_const.ideal_named_scalar _ _ _ _ rfl

/-- The exponent of key row `k` for query column `b` of the block. -/
def expo (q : Vec Ideal S1x1x192x4096 .bf16) (k : Fin 192 → EReal) (b : Fin 4096) : EReal :=
  ∑ d : Fin 192, k d * (q (ix4 0 0 d b) * qscale)

theorem pay3 (q : Vec Ideal S1x1x192x4096 .bf16) (k : Vec Ideal S1x1x512x192 .bf16) (a : Fin 512) (b : Fin 4096) :
    k0_pay3 q k (ix2 a b) = Ideal.exp2 (expo q (fun d => k (ix4 0 0 a d)) b) := by
  pointwise [k0_pay3]
  rw [named_qscale]
  rfl

theorem pay4 (q : Vec Ideal S1x1x192x4096 .bf16) (k : Vec Ideal S1x1x512x192 .bf16) (l : Vec Ideal S1x4096 .f32) (b : Fin 4096) :
    k0_pay4 q k l (ix2 0 b) = l (ix2 0 b) + ∑ a : Fin 512, Ideal.exp2 (expo q (fun d => k (ix4 0 0 a d)) b) := by
  pointwise [k0_pay4]
  simp only [pay3]

theorem pay5 (q : Vec Ideal S1x1x192x4096 .bf16) (k : Vec Ideal S1x1x512x192 .bf16) (s : Vec Ideal S128x4096 .f32)
    (v : Vec Ideal S1x128x512 .bf16) (e : Fin 128) (b : Fin 4096) :
    k0_pay5 q k s v (ix2 e b)
      = s (ix2 e b) + ∑ a : Fin 512, v (ix3 0 e a) * Ideal.exp2 (expo q (fun d => k (ix4 0 0 a d)) b) := by
  pointwise [k0_pay5]
  simp only [pay3]

theorem pay6 (l : Vec Ideal S1x4096 .f32) (s : Vec Ideal S128x4096 .f32) (b : Fin 4096) (e : Fin 128) :
    k0_pay6 l s (ix3 0 b e) = Ideal.div (s (ix2 e b)) (l (ix2 0 b)) := by
  pointwise [k0_pay6]

/-! ## The chunks -/

theorem trips_eq : k0_t1_loop.trips = 32 := by decide

theorem off1 (k : Fin k0_t1_loop.trips) : k0_off1 k = ![0, 0, k.val * 512, 0] :=
  (by decide +kernel : ∀ k : Fin k0_t1_loop.trips, k0_off1 k = ![0, 0, k.val * 512, 0]) k

theorem off2 (k : Fin k0_t1_loop.trips) : k0_off2 k = ![0, 0, k.val * 512] :=
  (by decide +kernel : ∀ k : Fin k0_t1_loop.trips, k0_off2 k = ![0, 0, k.val * 512]) k

/-- The key at place `a` of chunk `k`. -/
def key (k : Fin 32) (a : Fin 512) : Fin 16384 := ⟨k.val * 512 + a.val, by omega⟩

/-- The sum of `f` over the keys of the chunks before `n`. -/
def upTo (f : Fin 16384 → EReal) (n : ℕ) : EReal :=
  ∑ k ∈ Finset.range n, if h : k < 32 then ∑ a, f (key ⟨k, h⟩ a) else 0

theorem upTo_zero (f : Fin 16384 → EReal) : upTo f 0 = 0 := rfl

theorem upTo_succ (f : Fin 16384 → EReal) (k : Fin 32) : upTo f (k.val + 1) = upTo f k.val + ∑ a, f (key k a) := by
  unfold upTo
  rw [Finset.sum_range_succ, dif_pos k.isLt]

theorem upTo_all (f : Fin 16384 → EReal) : upTo f 32 = ∑ j, f j := by
  unfold upTo
  rw [Finset.sum_range, ← Fin.sum_mul_add_fin 32 512 f]
  exact Finset.sum_congr rfl fun k _ => by rw [dif_pos k.isLt]; rfl

theorem ld_keys (x : Vec Ideal S1x1x16384x192 .bf16) (k : Fin k0_t1_loop.trips) (a : Fin 512) (d : Fin 192) :
    View.ld x (Rect.unit (k0_off1 k) S1x1x512x192.size (k0_off1_inb k)) (ix4 0 0 a d)
      = x (ix4 0 0 (key (k.cast trips_eq) a) d) :=
  View.ld_unit_apply_of x _ _ _ _ _ fun i => by
    rw [congrFun (off1 k) i]
    revert i
    refine Fin.forall_fin_succ.mpr ⟨?_, Fin.forall_fin_succ.mpr ⟨?_, Fin.forall_fin_succ.mpr ⟨?_, Fin.forall_fin_succ.mpr ⟨?_, fun i => i.elim0⟩⟩⟩⟩
    · rfl
    · rfl
    · rfl
    · exact (Nat.zero_add _).symm

theorem ld_values (x : Vec Ideal S1x128x16384 .bf16) (k : Fin k0_t1_loop.trips) (e : Fin 128) (a : Fin 512) :
    View.ld x (Rect.unit (k0_off2 k) S1x128x512.size (k0_off2_inb k)) (ix3 0 e a)
      = x (ix3 0 e (key (k.cast trips_eq) a)) :=
  View.ld_unit_apply_of x _ _ _ _ _ fun i => by
    rw [congrFun (off2 k) i]
    revert i
    refine Fin.forall_fin_succ.mpr ⟨?_, Fin.forall_fin_succ.mpr ⟨?_, Fin.forall_fin_succ.mpr ⟨?_, fun i => i.elim0⟩⟩⟩
    · rfl
    · exact (Nat.zero_add _).symm
    · rfl

/-- What the sums start from. -/
abbrev init7 : List (View.Piece (Elt Ideal) S1x4096 .f32) :=
  [⟨Rect.unit (s := S1x4096) ![0, 0] S1x4096.size inb_S1x4096_S1x4096_0_0, k0_pay1 (F := Ideal)⟩]

abbrev init8 : List (View.Piece (Elt Ideal) S128x4096 .f32) :=
  [⟨Rect.unit (s := S128x4096) ![0, 0] S128x4096.size inb_S128x4096_S128x4096_0_0, k0_pay2 (F := Ideal)⟩]

section Loop

variable (c : Dev nD) (bd : Option Variants.none.V) (i : grid0.Coords)
  (arg3 : Memref sig .tc .vmem S1x1x192x4096 .bf16) (harg3 : arg3.IsWhole) (arg4 : Memref sig .tc .vmem S1x1x16384x192 .bf16) (harg4 : arg4.IsWhole)
  (arg5 : Memref sig .tc .vmem S1x128x16384 .bf16) (harg5 : arg5.IsWhole) (arg6 : Memref sig .tc .vmem S1x4096x128 .bf16) (harg6 : arg6.IsWhole)
  (arg7 : Memref sig .tc .vmem S1x4096 .f32) (harg7 : arg7.IsWhole) (arg8 : Memref sig .tc .vmem S128x4096 .f32) (harg8 : arg8.IsWhole)
  (q : Vec Ideal S1x1x192x4096 .bf16) (x : Vec Ideal S1x1x16384x192 .bf16) (v : Vec Ideal S1x128x16384 .bf16)

/-- The pieces of the chunks before `n`, over the sums' start. -/
abbrev pieces (n : ℕ) :=
  pb_k0_t1 (F := Ideal) Variants.none c bd i arg3 harg3 arg4 harg4 arg5 harg5 arg6 harg6 arg7 harg7 arg8 harg8 q (harg4.unread x) (harg5.unread v)
    (arg7.view.writes (Elt Ideal) arg7.view.junk init7) (arg8.view.writes (Elt Ideal) arg8.view.junk init8) n

theorem loop_sums (n : ℕ) (hn : n ≤ 32) :
    (∀ b : Fin 4096, View.canon ((pieces c bd i arg3 harg3 arg4 harg4 arg5 harg5 arg6 harg6 arg7 harg7 arg8 harg8 q x v n).1 ++ init7) (ix2 0 b)
        = upTo (fun j => Ideal.exp2 (expo q (fun d => x (ix4 0 0 j d)) b)) n)
    ∧ ∀ (e : Fin 128) (b : Fin 4096), View.canon ((pieces c bd i arg3 harg3 arg4 harg4 arg5 harg5 arg6 harg6 arg7 harg7 arg8 harg8 q x v n).2 ++ init8) (ix2 e b)
        = upTo (fun j => v (ix3 0 e j) * Ideal.exp2 (expo q (fun d => x (ix4 0 0 j d)) b)) n := by
  induction n with
  | zero =>
    refine ⟨fun b => ?_, fun e b => ?_⟩
    · show View.canon init7 (ix2 0 b) = 0
      rw [View.canon_cons_unit_lit' _ _ _ (by decide)]
      pointwise [k0_pay1]
    · show View.canon init8 (ix2 e b) = 0
      rw [View.canon_cons_unit_lit' _ _ _ (by decide)]
      pointwise [k0_pay2]
  | succ n ih =>
    obtain ⟨ih7, ih8⟩ := ih (by omega)
    have hk : n < k0_t1_loop.trips := by rw [trips_eq]; omega
    have hs := pb_k0_t1_succ (F := Ideal) Variants.none c bd i arg3 harg3 arg4 harg4 arg5 harg5 arg6 harg6 arg7 harg7 arg8 harg8 q (harg4.unread x) (harg5.unread v)
      (arg7.view.writes (Elt Ideal) arg7.view.junk init7) (arg8.view.writes (Elt Ideal) arg8.view.junk init8) ⟨n, hk⟩
    rw [← View.writes_append, ← View.writes_append] at hs
    unfold tripL_k0_t1 trip_k0_t1 at hs
    simp only [View.readAt_writes_junk_eq_canon, View.readAt_eq_ld, harg4.read_unread, harg5.read_unread] at hs
    refine ⟨fun b => ?_, fun e b => ?_⟩
    · refine (congrArg (fun P => View.canon (P.1 ++ init7) (ix2 0 b)) hs).trans ?_
      refine (congrFun (View.canon_cons_unit_lit' _ _ _ (by decide)) _).trans ?_
      refine (pay4 _ _ _ b).trans ?_
      rw [upTo_succ _ ⟨n, by omega⟩]
      refine congrArg₂ (· + ·) ((congrFun (View.ld_unit_lit' _ (View.canon _) (by decide)) _).trans (ih7 b)) ?_
      refine Finset.sum_congr rfl fun a _ => ?_
      exact congrArg (fun k => Ideal.exp2 (expo q k b)) (funext fun d => ld_keys x ⟨n, hk⟩ a d)
    · refine (congrArg (fun P => View.canon (P.2 ++ init8) (ix2 e b)) hs).trans ?_
      refine (congrFun (View.canon_cons_unit_lit' _ _ _ (by decide)) _).trans ?_
      refine (pay5 _ _ _ _ e b).trans ?_
      rw [upTo_succ _ ⟨n, by omega⟩]
      refine congrArg₂ (· + ·) ((congrFun (View.ld_unit_lit' _ (View.canon _) (by decide)) _).trans (ih8 e b)) ?_
      refine Finset.sum_congr rfl fun a _ => ?_
      exact congrArg₂ (fun y k => y * Ideal.exp2 (expo q k b)) (ld_values v ⟨n, hk⟩ e a) (funext fun d => ld_keys x ⟨n, hk⟩ a d)

end Loop

/-! ## The block a point leaves -/

variable (m : (ℓ : Loc nD τ sig) → Buf (Elt Ideal) ℓ)

theorem out_at (c : Dev nD) (t : Fin cfg0.N) (b : Fin 4096) (e : Fin 128) :
    outsAt0 m c t (ix3 0 b e)
      = weighed (fun j => expo (iblk m c 0 t) (fun d => iblk m c 1 t (ix4 0 0 j d)) b) (fun j => iblk m c 2 t (ix3 0 e j)) := by
  unfold outsAt0
  frame_out
  refine (pay6 _ _ b e).trans ?_
  obtain ⟨h7, h8⟩ := loop_sums c none (grid0.coords t) (ms0_0 t) (hs0_0 t) (ms0_1 t) (hs0_1 t) (ms0_2 t) (hs0_2 t) (ms0_3 t) (hs0_3 t)
    scM0_0 (Memref.isWhole_whole _) scM0_1 (Memref.isWhole_whole _) (iblk m c 0 t) (iblk m c 1 t) (iblk m c 2 t) 32 le_rfl
  unfold weighed
  refine congrArg₂ Ideal.div ?_ ?_
  · rw [View.readCov_eq_canon']
    refine (congrFun (View.ld_unit_lit' _ (View.canon _) (by decide)) _).trans ?_
    exact (h8 e b).trans (upTo_all _)
  · rw [View.readCov_eq_canon']
    refine (congrFun (View.ld_unit_lit' _ (View.canon _) (by decide)) _).trans ?_
    exact (h7 b).trans (upTo_all _)

theorem idx (t : Fin cfg0.N) : win0_0.index t = ![t.val / 32, t.val / 4 % 8, 0, t.val % 4]
    ∧ win0_1.index t = ![t.val / 32, t.val / 4 % 8, 0, 0] ∧ win0_2.index t = ![t.val / 32, t.val / 4 % 8, 0]
    ∧ win0_3.index t = ![t.val / 32, t.val % 4, t.val / 4 % 8] :=
  (by decide +kernel : ∀ t : Fin grid0.N, win0_0.index t = ![t.val / 32, t.val / 4 % 8, 0, t.val % 4]
    ∧ win0_1.index t = ![t.val / 32, t.val / 4 % 8, 0, 0] ∧ win0_2.index t = ![t.val / 32, t.val / 4 % 8, 0]
    ∧ win0_3.index t = ![t.val / 32, t.val % 4, t.val / 4 % 8]) t

theorem lt64 (t : Fin cfg0.N) : t.val < 64 := t.isLt

/-- The query block of a point, from the queries as launched. -/
theorem q_at (c : Dev nD) (t : Fin cfg0.N) (d : Fin 192) (b : Fin 4096) :
    iblk m c 0 t (ix4 0 0 d b)
      = m ((c.tc : Thread nD τ).loc main_arg0) (ix4 ⟨t.val / 32, by have := lt64 t; omega⟩ ⟨t.val % 4 * 4096 + b.val, by omega⟩ ⟨t.val / 4 % 8, by omega⟩ d) := by
  have e' : ((cfg0.win 0).blk t).view.emb (ix4 0 0 d b) = (ix4 ⟨t.val / 32, by have := lt64 t; omega⟩ ⟨t.val / 4 % 8, by omega⟩ d ⟨t.val % 4 * 4096 + b.val, by omega⟩ : S2x8x192x16384.Idx) := by blk_ext [idx t]
  unfold iblk
  entry_read
  rw [View.read_apply, e']
  pointwise
  rfl

theorem k_at (c : Dev nD) (t : Fin cfg0.N) (j : Fin 16384) (d : Fin 192) :
    iblk m c 1 t (ix4 0 0 j d)
      = m ((c.tc : Thread nD τ).loc main_arg1) (ix4 ⟨t.val / 32, by have := lt64 t; omega⟩ j ⟨t.val / 4 % 8, by omega⟩ d) := by
  have e' : ((cfg0.win 1).blk t).view.emb (ix4 0 0 j d) = (ix4 ⟨t.val / 32, by have := lt64 t; omega⟩ ⟨t.val / 4 % 8, by omega⟩ j d : S2x8x16384x192.Idx) := by blk_ext [idx t]
  unfold iblk
  entry_read
  rw [View.read_apply, e']
  pointwise
  rfl

theorem v_at (c : Dev nD) (t : Fin cfg0.N) (e : Fin 128) (j : Fin 16384) :
    iblk m c 2 t (ix3 0 e j)
      = m ((c.tc : Thread nD τ).loc main_arg2) (ix4 ⟨t.val / 32, by have := lt64 t; omega⟩ j ⟨t.val / 4 % 8, by omega⟩ e) := by
  have e' : ((cfg0.win 2).blk t).view.emb (ix3 0 e j) = (ix3 ⟨t.val / 32, by have := lt64 t; omega⟩ ⟨t.val / 4 % 8 * 128 + e.val, by omega⟩ j : S2x1024x16384.Idx) := by blk_ext [idx t]
  unfold iblk
  entry_read
  rw [View.read_apply, e']
  pointwise
  blk_ext

/-- The kernel's result: the row of weighed values at every query. -/
def attn (q k : FVec Ideal S2x16384x8x192 .f32) (v : FVec Ideal S2x16384x8x128 .f32) (b : Fin 2) (a : Fin 16384) (n : Fin 1024) : EReal :=
  weighed (fun j : Fin 16384 => ∑ d : Fin 192, k (ix4 b j ⟨n.val / 128, by omega⟩ d) * (q (ix4 b a ⟨n.val / 128, by omega⟩ d) * qscale))
    (fun j => v (ix4 b j ⟨n.val / 128, by omega⟩ ⟨n.val % 128, by omega⟩))

def whole (c : Dev nD) : FVec Ideal S2x16384x1024 .bf16 := fun i =>
  attn (m ((c.tc : Thread nD τ).loc main_arg0)) (m ((c.tc : Thread nD τ).loc main_arg1)) (m ((c.tc : Thread nD τ).loc main_arg2)) (i 0) (i 1) (i 2)

theorem head_eq (t : Fin cfg0.N) (e : Fin 128) :
    (⟨t.val / 4 % 8, by omega⟩ : Fin 8) = ⟨(t.val / 4 % 8 * 128 + e.val) / 128, by omega⟩ :=
  Fin.ext (by simp only []; omega)

theorem lane_eq (t : Fin cfg0.N) (e : Fin 128) : e = ⟨(t.val / 4 % 8 * 128 + e.val) % 128, by omega⟩ :=
  Fin.ext (by simp only []; omega)

/-- A block's row is the result's row at its place. -/
theorem block_row (c : Dev nD) (t : Fin cfg0.N) (b : Fin 4096) (e : Fin 128) :
    outsAt0 m c t (ix3 0 b e) = whole m c (ix3 ⟨t.val / 32, by have := lt64 t; omega⟩ ⟨t.val % 4 * 4096 + b.val, by omega⟩
      ⟨t.val / 4 % 8 * 128 + e.val, by omega⟩) := by
  refine (out_at m c t b e).trans ?_
  unfold whole attn
  refine weighed_congr (fun j => Finset.sum_congr rfl fun d _ => ?_) fun j => ?_
  · refine congrArg₂ (· * ·) ((k_at m c t j d).trans ?_) (congrArg (· * qscale) ((q_at m c t d b).trans ?_))
    · exact congrArg (fun z : Fin 8 => m ((c.tc : Thread nD τ).loc main_arg1) (ix4 _ j z d)) (head_eq t e)
    · exact congrArg (fun z : Fin 8 => m ((c.tc : Thread nD τ).loc main_arg0) (ix4 _ _ z d)) (head_eq t e)
  · refine (v_at m c t e j).trans ?_
    exact congrArg₂ (fun (z : Fin 8) (y : Fin 128) => m ((c.tc : Thread nD τ).loc main_arg2) (ix4 _ j z y)) (head_eq t e) (lane_eq t e)

theorem final (c : Dev nD) : (dats m 0 c).arrAt 3 cfg0.N = whole m c := by
  refine (dats m 0 c).arrAt_eq_of_covers 3 _ (by decide +kernel) fun t hf y => ?_
  idx_vars y
  have e : ((cfg0.win 3).blk t).view.emb (ix3 y0 y1 y2) = (ix3 ⟨t.val / 32, by have := lt64 t; omega⟩ ⟨t.val % 4 * 4096 + y1.val, by omega⟩
      ⟨t.val / 4 % 8 * 128 + y2.val, by omega⟩ : S2x16384x1024.Idx) := by blk_ext [idx t]
  rw [e]
  blk_simp
  rw [after0_3]
  obtain rfl : y0 = 0 := Fin.ext (by omega)
  exact block_row m c t y1 y2

/-! ## The claim -/

theorem and_one : ∀ x y : BitVec 1, IntOp.andi x y = 1#1 → x = 1#1 ∧ y = 1#1 := by decide

theorem ofBits_inf : Ideal.ofBits .f32 0x7F800000#32 = ⊤ := by
  simp [Ideal.ofBits, Ideal.ieee]

/-- What the comparison of the precondition says of one element. -/
theorem real_of_olt {x : EReal} (h : Ideal.cmp .olt (max x (-x)) (Ideal.ofBits .f32 0x7F800000#32) = 1#1) :
    ∃ r : ℝ, x = r := by
  rw [ofBits_inf] at h
  refine coe_of_abs_lt_top (lt_of_not_ge fun hn => ?_)
  simp [Ideal.cmp, not_lt.mpr hn] at h

/-- Under the precondition every query and key is a real number. -/
theorem finite (hp : Pre_MlaIdeal_mla_finite m) (c : Dev nD) (i : S2x16384x8x192.Idx) :
    (∃ r : ℝ, m ((c.tc : Thread nD τ).loc main_arg0) i = (r : EReal)) ∧ ∃ r : ℝ, m ((c.tc : Thread nD τ).loc main_arg1) i = (r : EReal) := by
  have h := congrFun (hp c) (ix0)
  unfold Cert.Pre_mla_finite.fn at h
  obtain ⟨h0, h1⟩ := and_one _ _ h
  haveI : Subsingleton (Cert.Pre_mla_finite.S_.Idx) := ⟨fun a b => funext fun k => k.elim0⟩
  exact ⟨real_of_olt (Host.reduce_andi_all _ _ _ _ _ h0 i), real_of_olt (Host.reduce_andi_all _ _ _ _ _ h1 i)⟩

/-- On real queries and keys the kernel's row is the reference's. -/
theorem attn_eq (q k : FVec Ideal S2x16384x8x192 .f32) (v : FVec Ideal S2x16384x8x128 .f32)
    (hq : ∀ i, ∃ r : ℝ, q i = (r : EReal)) (hk : ∀ i, ∃ r : ℝ, k i = (r : EReal)) (b : Fin 2) (a : Fin 16384) (n : Fin 1024) :
    attn q k v b a n = Cert.MlaRefIdeal.Read.val_main_v18 (F := Ideal) q k v (ix3 b a n) := by
  choose q' hq' using hq
  choose k' hk' using hk
  rw [Cert.MlaRefIdeal.RowValue.result_at]
  have hs : ∀ j, Cert.MlaRefIdeal.RowValue.score q k b ⟨n.val / 128, by omega⟩ a j
      = ((((∑ d : Fin 192, q' (ix4 b a ⟨n.val / 128, by omega⟩ d) * k' (ix4 b j ⟨n.val / 128, by omega⟩ d)) * (Real.sqrt 192)⁻¹ : ℝ)) : EReal) := fun j => by
    unfold Cert.MlaRefIdeal.RowValue.score
    simp only [hq', hk', ← EReal.coe_mul, sum_coe]
  rw [show Cert.MlaRefIdeal.RowValue.score q k b ⟨n.val / 128, by omega⟩ a = _ from funext hs, ← weighed_coe (by norm_num)]
  refine weighed_congr (fun j => ?_) fun j => rfl
  simp only [hq', hk', qscale, ← EReal.coe_mul, sum_coe]
  congr 1
  rw [Finset.sum_mul, Finset.sum_mul]
  exact Finset.sum_congr rfl fun d _ => by ring

theorem algebraic : Cert.algebraic_MlaIdeal_MlaRefIdeal_pre_mla_finite := by
  intro m g m' g' hp hag
  refine ⟨whole m, (θ_run _ _ _).mono (fun _ h c => ⟨(h c).1.trans (final m c), (h c).2⟩) (Value.run_blocks m g),
    (θ_run _ _ _).mono (fun _ h c => ⟨?_, (h c).2⟩) (Cert.MlaRefIdeal.Value.run m' g')⟩
  rw [(h c).1]
  rw [Cert.MlaRefIdeal.Read.val_main_v18_eq]
  obtain ⟨e0, e1, e2⟩ := hag c
  rw [e0, e1, e2]
  funext i
  idx_vars i
  exact (attn_eq _ _ _ (fun i => (finite m hp c i).1) (fun i => (finite m hp c i).2) i0 i1 i2).symm

end Cert.MlaIdeal.RowValue

end
-- ==== Proof.DiffReference.lean ====
/- The reference's differential attention read at one element: the scores of both components, their normalised weights, the
   difference of the weights, the sum of the values at it, and the head's normalisation, one lemma per stage. -/
module

public import proofs.«01_k».proof.Defs
public import proofs.«01_k».proof.Proof.Gen.DiffRefIdeal.Run
public import proofs.«01_k».proof.Proof.Gen.DiffRefIdeal.Read
public import proofs.«01_k».proof.Proof.Softmax

@[expose] public section

set_option maxRecDepth 16384

noncomputable section

open Idealize.ShloMosaic Idealize.ShloMosaic.TcCoe Idealize.SL.Sem

namespace Cert.DiffRefIdeal.RowValue

open Cert.DiffRefIdeal Cert.DiffRefIdeal.Read Cert.Layer

theorem ofBits_neg_inf : Ideal.ofBits .f32 4286578688#32 = ⊥ := by
  simp [Ideal.ofBits, Ideal.ieee]

theorem ofBits_eighth : Ideal.ofBits .f32 1040187392#32 = ((8⁻¹ : ℝ) : EReal) := by
  simp [Ideal.ofBits, Ideal.ieee, -EReal.coe_mul]
  norm_num

/-- The weight of the second component. -/
def lam (w : FVec Ideal S4x64 .f32) : EReal :=
  Ideal.exp (∑ x : Fin 64, w (ix2 0 x) * w (ix2 1 x)) - Ideal.exp (∑ x : Fin 64, w (ix2 2 x) * w (ix2 3 x)) + Ideal.ofBits .f32 1045220557#32

/-- A head's row over the root of its mean square. -/
def normed (o : Fin 128 → EReal) (e : Fin 128) : EReal :=
  o e * Ideal.rsqrt (Ideal.div (∑ x, o x * o x) (Ideal.ofBits .f32 1124073472#32) + Ideal.ofBits .f32 897988541#32)

/-- The score of key `j` for query `a` of head `h`, in component `u` and batch `b`. -/
def score (q k : FVec Ideal S2x16384x4x2x64 .f32) (b : Fin 2) (u : Fin 2) (h : Fin 4) (a j : Fin 16384) : EReal :=
  (∑ d : Fin 64, q (ix5 b a h u d) * k (ix5 b j h u d)) * ((8⁻¹ : ℝ) : EReal)

variable (q k : FVec Ideal S2x16384x4x2x64 .f32) (v : FVec Ideal S2x16384x4x128 .f32) (w : FVec Ideal S4x64 .f32) (g : FVec Ideal S128 .f32)

theorem lam_at : val_main_v15 (F := Ideal) w ix0 = lam w := by
  pointwise [val_main_v0, val_main_v1, val_main_v2, val_main_v3, val_main_v4, val_main_cst, val_main_v5, val_main_v6, val_main_v7, val_main_v8, val_main_v9, val_main_v10, val_main_v11, val_main_cst_0, val_main_v12, val_main_v13, val_main_v14, val_main_cst_1, val_main_v15]
  rfl

theorem scores_at (b u : Fin 2) (h : Fin 4) (a j : Fin 16384) :
    val_main_v18 (F := Ideal) q k (ix5 b u h a j) = score q k b u h a j := by
  pointwise [val_main_v16, val_main_cst_2, val_main_v17, val_main_v18]
  rw [ofBits_eighth]
  rfl

theorem fold_at (b u : Fin 2) (h : Fin 4) (a : Fin 16384) :
    val_main_v19 (F := Ideal) q k (ix4 b u h a) = Finset.univ.fold max (Ideal.ofBits .f32 4286578688#32) (fun j => val_main_v18 (F := Ideal) q k (ix5 b u h a j)) := by
  pointwise [val_main_v19, val_main_cst_3]

theorem max_at (b u : Fin 2) (h : Fin 4) (a : Fin 16384) :
    val_main_v21 (F := Ideal) q k (ix4 b u h a) = rowMax (score q k b u h a) := by
  rw [val_main_v21_apply, val_main_v20_apply, val_main_cst_4_apply, fold_at]
  simp only [scores_at]
  show max (Ideal.ofBits .f32 4286578688#32) _ = rowMax _
  rw [ofBits_neg_inf]
  rfl

theorem exp_at (b u : Fin 2) (h : Fin 4) (a j : Fin 16384) :
    val_main_v25 (F := Ideal) q k (ix5 b u h a j) = Ideal.exp (score q k b u h a j - rowMax (score q k b u h a)) := by
  pointwise [val_main_v22, val_main_v23, val_main_v24, val_main_v25]
  simp only [scores_at, max_at]

theorem weight_at (b u : Fin 2) (h : Fin 4) (a j : Fin 16384) :
    val_main_v29 (F := Ideal) q k (ix5 b u h a j) = weight (score q k b u h a) j := by
  pointwise [val_main_v26, val_main_cst_5, val_main_v27, val_main_v28, val_main_v29]
  simp only [exp_at]
  rfl

/-- The first component's weights, cut out and with the unit axis dropped. -/
theorem first_at (b : Fin 2) (h : Fin 4) (a j : Fin 16384) :
    val_main_v31 (F := Ideal) q k (ix4 b h a j) = val_main_v29 (F := Ideal) q k (ix5 b 0 h a j) := by
  have e : idx_main_v30 (idx_main_v31 (ix4 b h a j)) = ix5 b 0 h a j := by
    funext x
    refine Fin.ext ?_
    revert x
    refine Fin.forall_fin_succ.mpr ⟨?_, Fin.forall_fin_succ.mpr ⟨?_, Fin.forall_fin_succ.mpr ⟨?_, Fin.forall_fin_succ.mpr ⟨?_, Fin.forall_fin_succ.mpr ⟨?_, fun x => x.elim0⟩⟩⟩⟩⟩
    · show (((b.val * 4 + h.val) * 16384 + a.val) * 16384 + j.val) / 1073741824 = b.val; omega
    · rfl
    · show (((b.val * 4 + h.val) * 16384 + a.val) * 16384 + j.val) / 268435456 % 4 = h.val; omega
    · show (((b.val * 4 + h.val) * 16384 + a.val) * 16384 + j.val) / 16384 % 16384 = a.val; omega
    · show (((b.val * 4 + h.val) * 16384 + a.val) * 16384 + j.val) % 16384 = j.val; omega
  rw [val_main_v31_apply, val_main_v30_apply, e]

/-- The second component's. -/
theorem second_at (b : Fin 2) (h : Fin 4) (a j : Fin 16384) :
    val_main_v33 (F := Ideal) q k (ix4 b h a j) = val_main_v29 (F := Ideal) q k (ix5 b 1 h a j) := by
  have e : idx_main_v32 (idx_main_v33 (ix4 b h a j)) = ix5 b 1 h a j := by
    funext x
    refine Fin.ext ?_
    revert x
    refine Fin.forall_fin_succ.mpr ⟨?_, Fin.forall_fin_succ.mpr ⟨?_, Fin.forall_fin_succ.mpr ⟨?_, Fin.forall_fin_succ.mpr ⟨?_, Fin.forall_fin_succ.mpr ⟨?_, fun x => x.elim0⟩⟩⟩⟩⟩
    · show (((b.val * 4 + h.val) * 16384 + a.val) * 16384 + j.val) / 1073741824 = b.val; omega
    · rfl
    · show (((b.val * 4 + h.val) * 16384 + a.val) * 16384 + j.val) / 268435456 % 4 = h.val; omega
    · show (((b.val * 4 + h.val) * 16384 + a.val) * 16384 + j.val) / 16384 % 16384 = a.val; omega
    · show (((b.val * 4 + h.val) * 16384 + a.val) * 16384 + j.val) % 16384 = j.val; omega
  rw [val_main_v33_apply, val_main_v32_apply, e]

/-- The difference of the two components' weights. -/
theorem diff_at (b : Fin 2) (h : Fin 4) (a j : Fin 16384) :
    val_main_v36 (F := Ideal) q k w (ix4 b h a j) = weight (score q k b 0 h a) j - lam w * weight (score q k b 1 h a) j := by
  rw [val_main_v36_apply, val_main_v35_apply, val_main_v34_apply, first_at, second_at, weight_at, weight_at]
  rw [show val_main_v15 (F := Ideal) w (idx_main_v34 (ix4 b h a j)) = lam w from
    (congrArg (val_main_v15 (F := Ideal) w) (funext fun x => x.elim0)).trans (lam_at w)]
  rfl

/-- The head's row before its normalisation. -/
def head (b : Fin 2) (h : Fin 4) (a : Fin 16384) (e : Fin 128) : EReal :=
  ∑ j, v (ix4 b j h e) * (weight (score q k b 0 h a) j - lam w * weight (score q k b 1 h a) j)

theorem head_at (b : Fin 2) (h : Fin 4) (a : Fin 16384) (e : Fin 128) :
    val_main_v38 (F := Ideal) q k v w (ix4 b a h e) = head q k v w b h a e := by
  pointwise [val_main_v37, val_main_v38]
  simp only [diff_at]
  rfl

theorem normed_at (b : Fin 2) (h : Fin 4) (a : Fin 16384) (e : Fin 128) :
    val_main_v48 (F := Ideal) q k v w (ix4 b a h e) = normed (head q k v w b h a) e := by
  pointwise [val_main_v39, val_main_cst_6, val_main_v40, val_main_v41, val_main_cst_7, val_main_v42, val_main_v43, val_main_cst_8, val_main_v44, val_main_v45, val_main_v46, val_main_v47, val_main_v48]
  simp only [head_at]
  rfl

theorem result_at (b : Fin 2) (a : Fin 16384) (n : Fin 512) :
    val_main_v55 (F := Ideal) q k v w g (ix3 b a n)
      = normed (head q k v w b ⟨n.val / 128, by omega⟩ a) ⟨n.val % 128, by omega⟩ * g (ix1 ⟨n.val % 128, by omega⟩) * Ideal.ofBits .f32 1061997773#32 := by
  pointwise [val_main_v49, val_main_v50, val_main_v51, val_main_cst_9, val_main_v52, val_main_v53, val_main_v54, val_main_v55]
  simp only [normed_at]

end Cert.DiffRefIdeal.RowValue

end
-- ==== Proof.DiffValue.lean ====
/- The differential attention's kernel: one grid point lays both components' queries of a block side by side in one array
   of columns (each with zeros in the rows of the other), keeps for every column the sum of the weights and the sum of the
   weighed values over the keys seen so far, walks the keys in 32 chunks, takes the second component's quotient times
   lambda from the first's, and normalises the head's row. -/
module

public import proofs.«01_k».proof.Defs
public import proofs.«01_k».proof.Proof.Gen.DiffIdeal.Value
public import proofs.«01_k».proof.Pre_diff_finite
public import proofs.«01_k».proof.Proof.DiffReference
public import proofs.«01_k».proof.Proof.MlaValue

@[expose] public section

set_option maxRecDepth 16384

noncomputable section

open Idealize.ShloMosaic Idealize.ShloMosaic.TcCoe Idealize.SL.Sem

namespace Cert.DiffIdeal.RowValue

open Cert.DiffIdeal Cert.DiffIdeal.Gen Cert.Layer
open Cert.MlaIdeal.RowValue (key upTo upTo_succ upTo_all and_one real_of_olt)
open Cert.DiffRefIdeal.RowValue (lam normed head score)

/-- The side conditions the precondition's text states. -/
instance finiteFacts : Cert.Pre_diff_finite.Facts where
  bcast_S_S2x16384x4x2x64 := by decide
  reducesTo_S2x16384x4x2x64_S_d0_1_2_3_4 := by decide
  h_S_ := by decide
  bcast_S_S2x16384x4x128 := by decide
  reducesTo_S2x16384x4x128_S_d0_1_2_3 := by decide
  bcast_S_S4x64 := by decide
  reducesTo_S4x64_S_d0_1 := by decide

/-! ## The payloads at an element -/

/-- The factor on the queries: the softmax's scale times log₂ e. -/
def qscale : EReal := (((Real.sqrt 64)⁻¹ * (Real.log 2)⁻¹ : ℝ) : EReal)

theorem named_qscale : (Named.named (F := Ideal) κ "qscale" 0x3E38AA3B#32 : Ideal .f32) = qscale :=
  IdealRules.named_const.ideal_named_scalar _ _ _ _ rfl

/-- The exponent of key row `k` for column `b`. -/
def expo (q : Vec Ideal S128x8192 .bf16) (k : Fin 128 → EReal) (b : Fin 8192) : EReal :=
  ∑ d : Fin 128, k d * q (ix2 d b)

theorem pay3 (q : Vec Ideal S1x64x4096 .bf16) (d : Fin 64) (b : Fin 4096) : k0_pay3 q (ix2 d b) = q (ix3 0 d b) * qscale := by
  pointwise [k0_pay3]
  rw [named_qscale]

theorem pay4 (q : Vec Ideal S1x64x4096 .bf16) (d : Fin 64) (b : Fin 4096) : k0_pay4 q (ix2 d b) = q (ix3 0 d b) * qscale := by
  pointwise [k0_pay4]
  rw [named_qscale]

theorem pay8 (q : Vec Ideal S128x8192 .bf16) (k : Vec Ideal S1x512x128 .bf16) (a : Fin 512) (b : Fin 8192) :
    k0_pay8 q k (ix2 a b) = Ideal.exp2 (expo q (fun d => k (ix3 0 a d)) b) := by
  pointwise [k0_pay8]
  rfl

theorem pay9 (q : Vec Ideal S128x8192 .bf16) (k : Vec Ideal S1x512x128 .bf16) (l : Vec Ideal S1x8192 .f32) (b : Fin 8192) :
    k0_pay9 q k l (ix2 0 b) = l (ix2 0 b) + ∑ a : Fin 512, Ideal.exp2 (expo q (fun d => k (ix3 0 a d)) b) := by
  pointwise [k0_pay9]
  simp only [pay8]

theorem pay10 (q : Vec Ideal S128x8192 .bf16) (k : Vec Ideal S1x512x128 .bf16) (s : Vec Ideal S128x8192 .f32)
    (v : Vec Ideal S1x128x512 .bf16) (e : Fin 128) (b : Fin 8192) :
    k0_pay10 q k s v (ix2 e b)
      = s (ix2 e b) + ∑ a : Fin 512, v (ix3 0 e a) * Ideal.exp2 (expo q (fun d => k (ix3 0 a d)) b) := by
  pointwise [k0_pay10]
  simp only [pay8]

/-- The first component's column of query `b`, and the second's. -/
def low (b : Fin 4096) : Fin 8192 := ⟨b.val, by omega⟩
def high (b : Fin 4096) : Fin 8192 := ⟨4096 + b.val, by omega⟩

theorem pay11 (l : Vec Ideal S1x8192 .f32) (s : Vec Ideal S128x8192 .f32) (w : Vec Ideal S4x64 .f32) (b : Fin 4096) (e : Fin 128) :
    k0_pay11 l s w (ix2 e b)
      = normed (fun x => Ideal.div (s (ix2 x (low b))) (l (ix2 0 (low b))) - lam w * Ideal.div (s (ix2 x (high b))) (l (ix2 0 (high b)))) e := by
  pointwise [k0_pay11]
  rfl

theorem pay1 (o g : FVec Ideal S128x4096 .f32) (b : Fin 4096) (e : Fin 128) :
    k0_pay1 o g (ix3 0 b e) = o (ix2 e b) * g (ix2 e b) * Ideal.ofBits .f32 1061997773#32 := by
  pointwise [k0_pay1]

theorem pay12 (g : Vec Ideal S128x1 .f32) (b : Fin 4096) (e : Fin 128) : k0_pay12 g (ix2 e b) = g (ix2 e 0) := by
  pointwise [k0_pay12]

/-! ## The columns -/

/-- The pieces of the columns' array: zeros, then the first component's queries in its upper left quarter, then the
    second's in its lower right quarter. -/
abbrev columnPieces (q : Vec Ideal S1x128x4096 .bf16) : List (View.Piece (Elt Ideal) S128x8192 .bf16) :=
  [⟨Rect.unit (s := S128x8192) ![64, 4096] ![64, 4096] inb_S128x8192_S64x4096_64_4096,
      k0_pay4 (F := Ideal) (View.ld q (Rect.unit ![0, 64, 0] ![1, 64, 4096] inb_S1x128x4096_S1x64x4096_0_64_0))⟩,
    ⟨Rect.unit (s := S128x8192) ![0, 0] ![64, 4096] inb_S128x8192_S64x4096_0_0,
      k0_pay3 (F := Ideal) (View.ld q (Rect.unit ![0, 0, 0] ![1, 64, 4096] inb_S1x128x4096_S1x64x4096_0_0_0))⟩,
    ⟨Rect.unit (s := S128x8192) ![0, 0] ![128, 8192] inb_S128x8192_S128x8192_0_0, k0_pay2 (F := Ideal)⟩]

/-- The array of columns. -/
abbrev columns (q : Vec Ideal S1x128x4096 .bf16) : Vec Ideal S128x8192 .bf16 := View.canon (columnPieces q)

/-- Component 0's row `d` of the queries, and component 1's. -/
def up (d : Fin 64) : Fin 128 := ⟨d.val, by omega⟩
def down (d : Fin 64) : Fin 128 := ⟨64 + d.val, by omega⟩

theorem not_lower {d : Fin 128} {b : Fin 8192} (h : d.val < 64 ∨ b.val < 4096) :
    (ix2 d b : S128x8192.Idx) ∉ (Rect.unit (s := S128x8192) ![64, 4096] ![64, 4096] inb_S128x8192_S64x4096_64_4096).set := by
  rw [Rect.mem_set_unit]
  intro hm
  have h0 : 64 ≤ d.val := (hm 0).1
  have h1 : 4096 ≤ b.val := (hm 1).1
  omega

theorem not_upper {d : Fin 128} {b : Fin 8192} (h : 64 ≤ d.val ∨ 4096 ≤ b.val) :
    (ix2 d b : S128x8192.Idx) ∉ (Rect.unit (s := S128x8192) ![0, 0] ![64, 4096] inb_S128x8192_S64x4096_0_0).set := by
  rw [Rect.mem_set_unit]
  intro hm
  have h0 : d.val < 0 + 64 := (hm 0).2
  have h1 : b.val < 0 + 4096 := (hm 1).2
  omega

theorem past_lower {d : Fin 128} {b : Fin 8192} (h : d.val < 64 ∨ b.val < 4096) (p : View.Piece (Elt Ideal) S128x8192 .bf16)
    (hp : p.1 = Rect.unit (s := S128x8192) ![64, 4096] ![64, 4096] inb_S128x8192_S64x4096_64_4096) (L : List (View.Piece (Elt Ideal) S128x8192 .bf16)) :
    View.canon (p :: L) (ix2 d b) = View.canon L (ix2 d b) :=
  View.canon_cons_of_not_mem p L (by rw [hp]; exact not_lower h)

theorem past_upper {d : Fin 128} {b : Fin 8192} (h : 64 ≤ d.val ∨ 4096 ≤ b.val) (p : View.Piece (Elt Ideal) S128x8192 .bf16)
    (hp : p.1 = Rect.unit (s := S128x8192) ![0, 0] ![64, 4096] inb_S128x8192_S64x4096_0_0) (L : List (View.Piece (Elt Ideal) S128x8192 .bf16)) :
    View.canon (p :: L) (ix2 d b) = View.canon L (ix2 d b) :=
  View.canon_cons_of_not_mem p L (by rw [hp]; exact not_upper h)

/-- A load of 64 rows of the queries from row `o` on, at an element. -/
theorem ld_rows (q : Vec Ideal S1x128x4096 .bf16) (o : ℕ) (inb) (d : Fin 64) (b : Fin 4096) (d' : Fin 128) (h : d'.val = o + d.val) :
    View.ld q (Rect.unit ![0, o, 0] S1x64x4096.size inb) (ix3 0 d b) = q (ix3 0 d' b) :=
  View.ld_unit_apply_of q _ _ _ _ _ fun i => by
    revert i
    refine Fin.forall_fin_succ.mpr ⟨?_, Fin.forall_fin_succ.mpr ⟨?_, Fin.forall_fin_succ.mpr ⟨?_, fun i => i.elim0⟩⟩⟩
    · rfl
    · exact h
    · exact (Nat.zero_add _).symm

theorem columns_first (q : Vec Ideal S1x128x4096 .bf16) (d : Fin 64) (b : Fin 4096) :
    columns q (ix2 (up d) (low b)) = q (ix3 0 (up d) b) * qscale := by
  refine (past_lower (d := up d) (b := low b) (Or.inl d.isLt) _ rfl _).trans ?_
  have e : (ix2 (up d) (low b) : S128x8192.Idx)
      = (Rect.unit (s := S128x8192) ![0, 0] ![64, 4096] inb_S128x8192_S64x4096_0_0).emb (ix2 d b) := by
    funext a
    refine Fin.ext ?_
    revert a
    refine Fin.forall_fin_succ.mpr ⟨?_, Fin.forall_fin_succ.mpr ⟨?_, fun a => a.elim0⟩⟩
    · show d.val = 0 + 1 * d.val; omega
    · show b.val = 0 + 1 * b.val; omega
  rw [e]
  have p := pay3 (View.ld q (Rect.unit ![0, 0, 0] ![1, 64, 4096] inb_S1x128x4096_S1x64x4096_0_0_0)) d b
  rw [ld_rows q 0 inb_S1x128x4096_S1x64x4096_0_0_0 d b (up d) (Nat.zero_add _).symm] at p
  exact (View.canon_cons_emb _ _ _ _).trans p

theorem columns_second (q : Vec Ideal S1x128x4096 .bf16) (d : Fin 64) (b : Fin 4096) :
    columns q (ix2 (down d) (high b)) = q (ix3 0 (down d) b) * qscale := by
  have e : (ix2 (down d) (high b) : S128x8192.Idx)
      = (Rect.unit (s := S128x8192) ![64, 4096] ![64, 4096] inb_S128x8192_S64x4096_64_4096).emb (ix2 d b) := by
    funext a
    refine Fin.ext ?_
    revert a
    refine Fin.forall_fin_succ.mpr ⟨?_, Fin.forall_fin_succ.mpr ⟨?_, fun a => a.elim0⟩⟩
    · show 64 + d.val = 64 + 1 * d.val; omega
    · show 4096 + b.val = 4096 + 1 * b.val; omega
  rw [e]
  have p := pay4 (View.ld q (Rect.unit ![0, 64, 0] ![1, 64, 4096] inb_S1x128x4096_S1x64x4096_0_64_0)) d b
  rw [ld_rows q 64 inb_S1x128x4096_S1x64x4096_0_64_0 d b (down d) rfl] at p
  exact (View.canon_cons_emb _ _ _ _).trans p

theorem columns_zero (q : Vec Ideal S1x128x4096 .bf16) {d : Fin 128} {b : Fin 8192}
    (h : d.val < 64 ∧ 4096 ≤ b.val ∨ 64 ≤ d.val ∧ b.val < 4096) : columns q (ix2 d b) = 0 := by
  refine (past_lower (by omega) _ rfl _).trans ?_
  refine (past_upper (by omega) _ rfl _).trans ?_
  refine (congrFun (View.canon_cons_unit_lit' _ _ _ (by decide)) _).trans ?_
  pointwise [k0_pay2]

/-- A column's exponent sums over the rows of its own component only. -/
theorem expo_first (q : Vec Ideal S1x128x4096 .bf16) (k : Fin 128 → EReal) (b : Fin 4096) :
    expo (columns q) k (low b) = ∑ d : Fin 64, k (up d) * (q (ix3 0 (up d) b) * qscale) := by
  unfold expo
  rw [Fin.sum_univ_two_halves 64 64 rfl]
  refine (congrArg₂ (· + ·) (Finset.sum_congr rfl fun d _ => congrArg (k (up d) * ·) (columns_first q d b))
    (Finset.sum_eq_zero fun d _ => ?_)).trans (add_zero _)
  exact (congrArg (k (down d) * ·) (columns_zero q (d := down d) (b := low b) (Or.inr ⟨Nat.le_add_right _ _, b.isLt⟩))).trans (mul_zero _)

theorem expo_second (q : Vec Ideal S1x128x4096 .bf16) (k : Fin 128 → EReal) (b : Fin 4096) :
    expo (columns q) k (high b) = ∑ d : Fin 64, k (down d) * (q (ix3 0 (down d) b) * qscale) := by
  unfold expo
  rw [Fin.sum_univ_two_halves 64 64 rfl]
  refine (congrArg₂ (· + ·) (Finset.sum_eq_zero fun d _ => ?_)
    (Finset.sum_congr rfl fun d _ => congrArg (k (down d) * ·) (columns_second q d b))).trans (zero_add _)
  exact (congrArg (k (up d) * ·) (columns_zero q (d := up d) (b := high b) (Or.inl ⟨d.isLt, Nat.le_add_right _ _⟩))).trans (mul_zero _)

/-! ## The chunks -/

theorem trips_eq : k0_t1_loop.trips = 32 := by decide

theorem off1 (k : Fin k0_t1_loop.trips) : k0_off1 k = ![0, k.val * 512, 0] :=
  (by decide +kernel : ∀ k : Fin k0_t1_loop.trips, k0_off1 k = ![0, k.val * 512, 0]) k

theorem off2 (k : Fin k0_t1_loop.trips) : k0_off2 k = ![0, 0, k.val * 512] :=
  (by decide +kernel : ∀ k : Fin k0_t1_loop.trips, k0_off2 k = ![0, 0, k.val * 512]) k

theorem ld_keys (x : Vec Ideal S1x16384x128 .bf16) (k : Fin k0_t1_loop.trips) (a : Fin 512) (d : Fin 128) :
    View.ld x (Rect.unit (k0_off1 k) S1x512x128.size (k0_off1_inb k)) (ix3 0 a d)
      = x (ix3 0 (key (k.cast trips_eq) a) d) :=
  View.ld_unit_apply_of x _ _ _ _ _ fun i => by
    rw [congrFun (off1 k) i]
    revert i
    refine Fin.forall_fin_succ.mpr ⟨?_, Fin.forall_fin_succ.mpr ⟨?_, Fin.forall_fin_succ.mpr ⟨?_, fun i => i.elim0⟩⟩⟩
    · rfl
    · rfl
    · exact (Nat.zero_add _).symm

theorem ld_values (x : Vec Ideal S1x128x16384 .bf16) (k : Fin k0_t1_loop.trips) (e : Fin 128) (a : Fin 512) :
    View.ld x (Rect.unit (k0_off2 k) S1x128x512.size (k0_off2_inb k)) (ix3 0 e a)
      = x (ix3 0 e (key (k.cast trips_eq) a)) :=
  View.ld_unit_apply_of x _ _ _ _ _ fun i => by
    rw [congrFun (off2 k) i]
    revert i
    refine Fin.forall_fin_succ.mpr ⟨?_, Fin.forall_fin_succ.mpr ⟨?_, Fin.forall_fin_succ.mpr ⟨?_, fun i => i.elim0⟩⟩⟩
    · rfl
    · exact (Nat.zero_add _).symm
    · rfl

/-- What the sums start from. -/
abbrev init10 : List (View.Piece (Elt Ideal) S1x8192 .f32) :=
  [⟨Rect.unit (s := S1x8192) ![0, 0] S1x8192.size inb_S1x8192_S1x8192_0_0, k0_pay5 (F := Ideal)⟩]

abbrev init11 : List (View.Piece (Elt Ideal) S128x8192 .f32) :=
  [⟨Rect.unit (s := S128x8192) ![0, 0] S128x8192.size inb_S128x8192_S128x8192_0_0, k0_pay7 (F := Ideal) k0_pay6⟩]

section Loop

variable (c : Dev nD) (bd : Option Variants.none.V) (i : grid0.Coords)
  (arg3 : Memref sig .tc .vmem S1x128x4096 .bf16) (harg3 : arg3.IsWhole) (arg4 : Memref sig .tc .vmem S1x16384x128 .bf16) (harg4 : arg4.IsWhole)
  (arg5 : Memref sig .tc .vmem S1x128x16384 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S1x4096x128 .bf16) (harg8 : arg8.IsWhole)
  (arg9 : Memref sig .tc .vmem S128x8192 .bf16) (harg9 : arg9.IsWhole)
  (arg10 : Memref sig .tc .vmem S1x8192 .f32) (harg10 : arg10.IsWhole) (arg11 : Memref sig .tc .vmem S128x8192 .f32) (harg11 : arg11.IsWhole)
  (q : Vec Ideal S128x8192 .bf16) (z : FVec Ideal S128x8192 .f32) (x : Vec Ideal S1x16384x128 .bf16) (v : Vec Ideal S1x128x16384 .bf16)

/-- The pieces of the chunks before `n`, over the sums' start. -/
abbrev pieces (n : ℕ) :=
  pb_k0_t1 (F := Ideal) Variants.none c bd i arg3 harg3 arg4 harg4 arg5 harg5 arg6 harg6 arg7 harg7 arg8 harg8 arg9 harg9 arg10 harg10 arg11 harg11 q z (harg4.unread x) (harg5.unread v)
    (arg10.view.writes (Elt Ideal) arg10.view.junk init10) (arg11.view.writes (Elt Ideal) arg11.view.junk init11) n

theorem loop_sums (n : ℕ) (hn : n ≤ 32) :
    (∀ b : Fin 8192, View.canon ((pieces c bd i arg3 harg3 arg4 harg4 arg5 harg5 arg6 harg6 arg7 harg7 arg8 harg8 arg9 harg9 arg10 harg10 arg11 harg11 q z x v n).1 ++ init10) (ix2 0 b)
        = upTo (fun j => Ideal.exp2 (expo q (fun d => x (ix3 0 j d)) b)) n)
    ∧ ∀ (e : Fin 128) (b : Fin 8192), View.canon ((pieces c bd i arg3 harg3 arg4 harg4 arg5 harg5 arg6 harg6 arg7 harg7 arg8 harg8 arg9 harg9 arg10 harg10 arg11 harg11 q z x v n).2 ++ init11) (ix2 e b)
        = upTo (fun j => v (ix3 0 e j) * Ideal.exp2 (expo q (fun d => x (ix3 0 j d)) b)) n := by
  induction n with
  | zero =>
    refine ⟨fun b => ?_, fun e b => ?_⟩
    · show View.canon init10 (ix2 0 b) = 0
      rw [View.canon_cons_unit_lit' _ _ _ (by decide)]
      pointwise [k0_pay5]
    · show View.canon init11 (ix2 e b) = 0
      rw [View.canon_cons_unit_lit' _ _ _ (by decide)]
      pointwise [k0_pay7, k0_pay6]
  | succ n ih =>
    obtain ⟨ih10, ih11⟩ := ih (by omega)
    have hk : n < k0_t1_loop.trips := by rw [trips_eq]; omega
    have hs := pb_k0_t1_succ (F := Ideal) Variants.none c bd i arg3 harg3 arg4 harg4 arg5 harg5 arg6 harg6 arg7 harg7 arg8 harg8 arg9 harg9 arg10 harg10 arg11 harg11 q z (harg4.unread x) (harg5.unread v)
      (arg10.view.writes (Elt Ideal) arg10.view.junk init10) (arg11.view.writes (Elt Ideal) arg11.view.junk init11) ⟨n, hk⟩
    rw [← View.writes_append, ← View.writes_append] at hs
    unfold tripL_k0_t1 trip_k0_t1 at hs
    simp only [View.readAt_writes_junk_eq_canon, View.readAt_eq_ld, harg4.read_unread, harg5.read_unread] at hs
    refine ⟨fun b => ?_, fun e b => ?_⟩
    · refine (congrArg (fun P => View.canon (P.1 ++ init10) (ix2 0 b)) hs).trans ?_
      refine (congrFun (View.canon_cons_unit_lit' _ _ _ (by decide)) _).trans ?_
      refine (pay9 _ _ _ b).trans ?_
      rw [upTo_succ _ ⟨n, by omega⟩]
      refine congrArg₂ (· + ·) ((congrFun (View.ld_unit_lit' _ (View.canon _) (by decide)) _).trans (ih10 b)) ?_
      refine Finset.sum_congr rfl fun a _ => ?_
      exact congrArg (fun k => Ideal.exp2 (expo q k b)) (funext fun d => ld_keys x ⟨n, hk⟩ a d)
    · refine (congrArg (fun P => View.canon (P.2 ++ init11) (ix2 e b)) hs).trans ?_
      refine (congrFun (View.canon_cons_unit_lit' _ _ _ (by decide)) _).trans ?_
      refine (pay10 _ _ _ _ e b).trans ?_
      rw [upTo_succ _ ⟨n, by omega⟩]
      refine congrArg₂ (· + ·) ((congrFun (View.ld_unit_lit' _ (View.canon _) (by decide)) _).trans (ih11 e b)) ?_
      refine Finset.sum_congr rfl fun a _ => ?_
      exact congrArg₂ (fun y k => y * Ideal.exp2 (expo q k b)) (ld_values v ⟨n, hk⟩ e a) (funext fun d => ld_keys x ⟨n, hk⟩ a d)

end Loop

/-! ## The block a point leaves -/

variable (m : (ℓ : Loc nD τ sig) → Buf (Elt Ideal) ℓ)

/-- The exponent of key `j` for query `b`, over the 64 rows `u` of one component. -/
def half (q : Vec Ideal S1x128x4096 .bf16) (k : Vec Ideal S1x16384x128 .bf16) (u : Fin 64 → Fin 128) (b : Fin 4096) (j : Fin 16384) : EReal :=
  ∑ d : Fin 64, k (ix3 0 j (u d)) * (q (ix3 0 (u d) b) * qscale)

theorem out_at (c : Dev nD) (t : Fin cfg0.N) (b : Fin 4096) (e : Fin 128) :
    outsAt0 m c t (ix3 0 b e)
      = normed (fun x => weighed (half (iblk m c 0 t) (iblk m c 1 t) up b) (fun j => iblk m c 2 t (ix3 0 x j))
          - lam (iblk m c 3 t) * weighed (half (iblk m c 0 t) (iblk m c 1 t) down b) (fun j => iblk m c 2 t (ix3 0 x j))) e
        * iblk m c 4 t (ix2 e 0) * Ideal.ofBits .f32 1061997773#32 := by
  unfold outsAt0
  frame_out
  obtain ⟨h10, h11⟩ := loop_sums c none (grid0.coords t) (ms0_0 t) (hs0_0 t) (ms0_1 t) (hs0_1 t) (ms0_2 t) (hs0_2 t) (ms0_3 t) (hs0_3 t)
    (ms0_4 t) (hs0_4 t) (ms0_5 t) (hs0_5 t)
    scM0_0 (Memref.isWhole_whole _) scM0_1 (Memref.isWhole_whole _) scM0_2 (Memref.isWhole_whole _) (columns (iblk m c 0 t)) k0_pay6 (iblk m c 1 t) (iblk m c 2 t) 32 le_rfl
  refine (pay1 _ _ b e).trans (congrArg (· * Ideal.ofBits .f32 1061997773#32) (congrArg₂ (· * ·) ?_ (pay12 _ b e)))
  refine (pay11 _ _ _ b e).trans (congrArg (fun o => normed o e) (funext fun x => ?_))
  have hq : (View.whole cc0_scratch0).readCov (Val := Elt Ideal) (columnPieces (iblk m c 0 t)) (Rect.unit ![0, 0] ![128, 8192] inb_S128x8192_S128x8192_0_0).toLoadRect
      = columns (iblk m c 0 t) := by
    rw [View.readCov_eq_canon']
    exact View.ld_unit_lit' _ (View.canon _) (by decide)
  rw [hq]
  refine congrArg₂ (fun o p => o - lam (iblk m c 3 t) * p) ?_ ?_
  · unfold weighed
    refine congrArg₂ Ideal.div ?_ ?_
    · rw [View.readCov_eq_canon']
      refine (congrFun (View.ld_unit_lit' _ (View.canon _) (by decide)) _).trans ((h11 x (low b)).trans ((upTo_all _).trans ?_))
      simp only [expo_first]
      rfl
    · rw [View.readCov_eq_canon']
      refine (congrFun (View.ld_unit_lit' _ (View.canon _) (by decide)) _).trans ((h10 (low b)).trans ((upTo_all _).trans ?_))
      simp only [expo_first]
      rfl
  · unfold weighed
    refine congrArg₂ Ideal.div ?_ ?_
    · rw [View.readCov_eq_canon']
      refine (congrFun (View.ld_unit_lit' _ (View.canon _) (by decide)) _).trans ((h11 x (high b)).trans ((upTo_all _).trans ?_))
      simp only [expo_second]
      rfl
    · rw [View.readCov_eq_canon']
      refine (congrFun (View.ld_unit_lit' _ (View.canon _) (by decide)) _).trans ((h10 (high b)).trans ((upTo_all _).trans ?_))
      simp only [expo_second]
      rfl

theorem idx (t : Fin cfg0.N) : win0_0.index t = ![t.val / 16, t.val / 4 % 4, t.val % 4]
    ∧ win0_1.index t = ![t.val / 16, 0, t.val / 4 % 4] ∧ win0_2.index t = ![t.val / 16, t.val / 4 % 4, 0]
    ∧ win0_3.index t = ![0, 0] ∧ win0_4.index t = ![0, 0]
    ∧ win0_5.index t = ![t.val / 16, t.val % 4, t.val / 4 % 4] :=
  (by decide +kernel : ∀ t : Fin grid0.N, win0_0.index t = ![t.val / 16, t.val / 4 % 4, t.val % 4]
    ∧ win0_1.index t = ![t.val / 16, 0, t.val / 4 % 4] ∧ win0_2.index t = ![t.val / 16, t.val / 4 % 4, 0]
    ∧ win0_3.index t = ![0, 0] ∧ win0_4.index t = ![0, 0]
    ∧ win0_5.index t = ![t.val / 16, t.val % 4, t.val / 4 % 4]) t

theorem lt32 (t : Fin cfg0.N) : t.val < 32 := t.isLt

/-- The batch, the head and the query of a point. -/
def bt (t : Fin cfg0.N) : Fin 2 := ⟨t.val / 16, by have := lt32 t; omega⟩
def hd (t : Fin cfg0.N) : Fin 4 := ⟨t.val / 4 % 4, by omega⟩
def qy (t : Fin cfg0.N) (b : Fin 4096) : Fin 16384 := ⟨t.val % 4 * 4096 + b.val, by omega⟩

theorem q_first (c : Dev nD) (t : Fin cfg0.N) (d : Fin 64) (b : Fin 4096) :
    iblk m c 0 t (ix3 0 (up d) b) = m ((c.tc : Thread nD τ).loc main_arg0) (ix5 (bt t) (qy t b) (hd t) 0 d) := by
  have e' : ((cfg0.win 0).blk t).view.emb (ix3 0 (up d) b) = (ix3 ⟨t.val / 16, by have := lt32 t; omega⟩ ⟨t.val / 4 % 4 * 128 + d.val, by omega⟩ ⟨t.val % 4 * 4096 + b.val, by omega⟩ : S2x512x16384.Idx) := by
    unfold up; blk_ext [idx t]
  unfold iblk
  entry_read
  rw [View.read_apply, e']
  pointwise
  unfold bt qy hd
  blk_ext

theorem q_second (c : Dev nD) (t : Fin cfg0.N) (d : Fin 64) (b : Fin 4096) :
    iblk m c 0 t (ix3 0 (down d) b) = m ((c.tc : Thread nD τ).loc main_arg0) (ix5 (bt t) (qy t b) (hd t) 1 d) := by
  have e' : ((cfg0.win 0).blk t).view.emb (ix3 0 (down d) b) = (ix3 ⟨t.val / 16, by have := lt32 t; omega⟩ ⟨t.val / 4 % 4 * 128 + (64 + d.val), by omega⟩ ⟨t.val % 4 * 4096 + b.val, by omega⟩ : S2x512x16384.Idx) := by
    unfold down; blk_ext [idx t]
  unfold iblk
  entry_read
  rw [View.read_apply, e']
  pointwise
  unfold bt qy hd
  blk_ext

theorem k_first (c : Dev nD) (t : Fin cfg0.N) (j : Fin 16384) (d : Fin 64) :
    iblk m c 1 t (ix3 0 j (up d)) = m ((c.tc : Thread nD τ).loc main_arg1) (ix5 (bt t) j (hd t) 0 d) := by
  have e' : ((cfg0.win 1).blk t).view.emb (ix3 0 j (up d)) = (ix3 ⟨t.val / 16, by have := lt32 t; omega⟩ j ⟨t.val / 4 % 4 * 128 + d.val, by omega⟩ : S2x16384x512.Idx) := by
    unfold up; blk_ext [idx t]
  unfold iblk
  entry_read
  rw [View.read_apply, e']
  pointwise
  unfold bt hd
  blk_ext

theorem k_second (c : Dev nD) (t : Fin cfg0.N) (j : Fin 16384) (d : Fin 64) :
    iblk m c 1 t (ix3 0 j (down d)) = m ((c.tc : Thread nD τ).loc main_arg1) (ix5 (bt t) j (hd t) 1 d) := by
  have e' : ((cfg0.win 1).blk t).view.emb (ix3 0 j (down d)) = (ix3 ⟨t.val / 16, by have := lt32 t; omega⟩ j ⟨t.val / 4 % 4 * 128 + (64 + d.val), by omega⟩ : S2x16384x512.Idx) := by
    unfold down; blk_ext [idx t]
  unfold iblk
  entry_read
  rw [View.read_apply, e']
  pointwise
  unfold bt hd
  blk_ext

theorem v_at (c : Dev nD) (t : Fin cfg0.N) (e : Fin 128) (j : Fin 16384) :
    iblk m c 2 t (ix3 0 e j) = m ((c.tc : Thread nD τ).loc main_arg2) (ix4 (bt t) j (hd t) e) := by
  have e' : ((cfg0.win 2).blk t).view.emb (ix3 0 e j) = (ix3 ⟨t.val / 16, by have := lt32 t; omega⟩ ⟨t.val / 4 % 4 * 128 + e.val, by omega⟩ j : S2x512x16384.Idx) := by
    blk_ext [idx t]
  unfold iblk
  entry_read
  rw [View.read_apply, e']
  pointwise
  unfold bt hd
  blk_ext

theorem w_at (c : Dev nD) (t : Fin cfg0.N) (r : Fin 4) (d : Fin 64) :
    iblk m c 3 t (ix2 r d) = m ((c.tc : Thread nD τ).loc main_arg3) (ix2 r d) := by
  have e' : ((cfg0.win 3).blk t).view.emb (ix2 r d) = (ix2 r d : S4x64.Idx) := by blk_ext [idx t]
  unfold iblk
  entry_read
  rw [View.read_apply, e']
  rfl

theorem g_at (c : Dev nD) (t : Fin cfg0.N) (e : Fin 128) :
    iblk m c 4 t (ix2 e 0) = m ((c.tc : Thread nD τ).loc main_arg4) (ix1 e) := by
  have e' : ((cfg0.win 4).blk t).view.emb (ix2 e 0) = (ix2 e 0 : S128x1.Idx) := by blk_ext [idx t]
  unfold iblk
  entry_read
  rw [View.read_apply, e']
  pointwise
  try rfl

/-- One component's weighed value at a query. -/
def part (q k : FVec Ideal S2x16384x4x2x64 .f32) (v : FVec Ideal S2x16384x4x128 .f32) (b : Fin 2) (u : Fin 2) (h : Fin 4) (a : Fin 16384) (x : Fin 128) : EReal :=
  weighed (fun j : Fin 16384 => ∑ d : Fin 64, k (ix5 b j h u d) * (q (ix5 b a h u d) * qscale)) (fun j => v (ix4 b j h x))

/-- The kernel's result: the normalised row of a query and a head. -/
def attn (q k : FVec Ideal S2x16384x4x2x64 .f32) (v : FVec Ideal S2x16384x4x128 .f32) (w : FVec Ideal S4x64 .f32) (g : FVec Ideal S128 .f32)
    (b : Fin 2) (a : Fin 16384) (h : Fin 4) (e : Fin 128) : EReal :=
  normed (fun x => part q k v b 0 h a x - lam w * part q k v b 1 h a x) e * g (ix1 e) * Ideal.ofBits .f32 1061997773#32

def whole (c : Dev nD) : FVec Ideal S2x16384x512 .bf16 := fun i =>
  attn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (i 0) (i 1) ⟨(i 2).val / 128, by have := (i 2).isLt; exact Nat.div_lt_of_lt_mul this⟩
    ⟨(i 2).val % 128, Nat.mod_lt _ (by norm_num)⟩

theorem head_eq (t : Fin cfg0.N) (e : Fin 128) :
    hd t = ⟨(t.val / 4 % 4 * 128 + e.val) / 128, by omega⟩ :=
  Fin.ext (by simp only [hd]; omega)

theorem lane_eq (t : Fin cfg0.N) (e : Fin 128) : e = ⟨(t.val / 4 % 4 * 128 + e.val) % 128, by omega⟩ :=
  Fin.ext (by simp only []; omega)

/-- A block's row is the result's row at its place. -/
theorem block_row (c : Dev nD) (t : Fin cfg0.N) (b : Fin 4096) (e : Fin 128) :
    outsAt0 m c t (ix3 0 b e) = whole m c (ix3 (bt t) (qy t b) ⟨t.val / 4 % 4 * 128 + e.val, by omega⟩) := by
  refine (out_at m c t b e).trans ?_
  refine Eq.trans (b := attn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (bt t) (qy t b) (hd t) e) ?_ ?_
  · unfold attn part half
    have hl : lam (iblk m c 3 t) = lam (m ((c.tc : Thread nD τ).loc main_arg3)) := congrArg lam (funext fun i => by idx_vars i; exact w_at m c t i0 i1)
    refine congrArg (· * Ideal.ofBits .f32 1061997773#32) (congrArg₂ (· * ·) (congrArg (fun o => normed o e) (funext fun x => ?_)) (g_at m c t e))
    refine congrArg₂ (· - ·) ?_ (congrArg₂ (· * ·) hl ?_)
    · refine weighed_congr (fun j => Finset.sum_congr rfl fun d _ => ?_) fun j => v_at m c t x j
      exact congrArg₂ (fun y z : EReal => y * (z * qscale)) (k_first m c t j d) (q_first m c t d b)
    · refine weighed_congr (fun j => Finset.sum_congr rfl fun d _ => ?_) fun j => v_at m c t x j
      exact congrArg₂ (fun y z : EReal => y * (z * qscale)) (k_second m c t j d) (q_second m c t d b)
  · unfold whole
    exact congrArg₂ (fun (z : Fin 4) (y : Fin 128) => attn _ _ _ _ _ (bt t) (qy t b) z y) (head_eq t e) (lane_eq t e)

theorem final (c : Dev nD) : (dats m 0 c).arrAt 5 cfg0.N = whole m c := by
  refine (dats m 0 c).arrAt_eq_of_covers 5 _ (by decide +kernel) fun t hf y => ?_
  idx_vars y
  have e : ((cfg0.win 5).blk t).view.emb (ix3 y0 y1 y2) = (ix3 ⟨t.val / 16, by have := lt32 t; omega⟩ ⟨t.val % 4 * 4096 + y1.val, by omega⟩
      ⟨t.val / 4 % 4 * 128 + y2.val, by omega⟩ : S2x16384x512.Idx) := by blk_ext [idx t]
  rw [e]
  blk_simp
  rw [after0_5]
  obtain rfl : y0 = 0 := Fin.ext (by omega)
  exact block_row m c t y1 y2

/-! ## The claim -/

/-- Under the precondition every query, key, value and lambda vector is real. -/
theorem finite (hp : Pre_DiffIdeal_diff_finite m) (c : Dev nD) :
    (∀ i, ∃ r : ℝ, m ((c.tc : Thread nD τ).loc main_arg0) i = (r : EReal)) ∧ (∀ i, ∃ r : ℝ, m ((c.tc : Thread nD τ).loc main_arg1) i = (r : EReal))
    ∧ (∀ i, ∃ r : ℝ, m ((c.tc : Thread nD τ).loc main_arg2) i = (r : EReal)) ∧ (∀ i, ∃ r : ℝ, m ((c.tc : Thread nD τ).loc main_arg3) i = (r : EReal)) := by
  have h := congrFun (hp c) (ix0)
  unfold Cert.Pre_diff_finite.fn Cert.Pre_diff_finite.fn_part1 at h
  obtain ⟨h012, h3⟩ := and_one _ _ h
  obtain ⟨h01, h2⟩ := and_one _ _ h012
  obtain ⟨h0, h1⟩ := and_one _ _ h01
  haveI : Subsingleton (Cert.Pre_diff_finite.S_.Idx) := ⟨fun a b => funext fun k => k.elim0⟩
  exact ⟨fun i => real_of_olt (Host.reduce_andi_all _ _ _ _ _ h0 i), fun i => real_of_olt (Host.reduce_andi_all _ _ _ _ _ h1 i),
    fun i => real_of_olt (Host.reduce_andi_all _ _ _ _ _ h2 i), fun i => real_of_olt (Host.reduce_andi_all _ _ _ _ _ h3 i)⟩

/-- The factor on the second component is real when its vectors are. -/
theorem lam_real (w : FVec Ideal S4x64 .f32) (hw : ∀ i, ∃ r : ℝ, w i = (r : EReal)) : ∃ r : ℝ, lam w = (r : EReal) := by
  choose w' hw' using hw
  obtain ⟨z, hz⟩ : ∃ z : ℝ, Ideal.ofBits .f32 1045220557#32 = (z : EReal) := ⟨_, by simp [Ideal.ofBits, Ideal.ieee, -EReal.coe_mul]; rfl⟩
  unfold lam
  rw [hz]
  simp only [hw', ← EReal.coe_mul, sum_coe, Ideal.exp_coe, ← EReal.coe_sub, ← EReal.coe_add]
  exact ⟨_, rfl⟩

/-- On real arguments a component's weighed value is the values' sum at the reference's weights. -/
theorem part_eq (q k : FVec Ideal S2x16384x4x2x64 .f32) (v : FVec Ideal S2x16384x4x128 .f32)
    (hq : ∀ i, ∃ r : ℝ, q i = (r : EReal)) (hk : ∀ i, ∃ r : ℝ, k i = (r : EReal)) (b u : Fin 2) (h : Fin 4) (a : Fin 16384) :
    ∃ r : Fin 16384 → ℝ, (∀ j, weight (score q k b u h a) j = (r j : EReal)) ∧ ∀ x, part q k v b u h a x = ∑ j, v (ix4 b j h x) * (r j : EReal) := by
  choose q' hq' using hq
  choose k' hk' using hk
  have h8 : Real.sqrt 64 = 8 := by
    rw [show (64 : ℝ) = 8 ^ 2 by norm_num]
    exact Real.sqrt_sq (by norm_num)
  have hs : score q k b u h a = fun j => ((((∑ d : Fin 64, q' (ix5 b a h u d) * k' (ix5 b j h u d)) * 8⁻¹ : ℝ)) : EReal) := funext fun j => by
    unfold score
    simp only [hq', hk', ← EReal.coe_mul, sum_coe]
  rw [hs]
  refine ⟨_, fun j => weight_coe _ j, fun x => ?_⟩
  refine Eq.trans ?_ ((weighed_coe (by norm_num) _ _).trans (Finset.sum_congr rfl fun j _ => congrArg (v (ix4 b j h x) * ·) (weight_coe _ j)))
  unfold part
  refine weighed_congr (fun j => ?_) fun j => rfl
  simp only [hq', hk', qscale, h8, ← EReal.coe_mul, sum_coe]
  congr 1
  rw [Finset.sum_mul, Finset.sum_mul]
  exact Finset.sum_congr rfl fun d _ => by ring

/-- On real arguments the kernel's head before its normalisation is the reference's. -/
theorem head_eq_part (q k : FVec Ideal S2x16384x4x2x64 .f32) (v : FVec Ideal S2x16384x4x128 .f32) (w : FVec Ideal S4x64 .f32)
    (hq : ∀ i, ∃ r : ℝ, q i = (r : EReal)) (hk : ∀ i, ∃ r : ℝ, k i = (r : EReal)) (hv : ∀ i, ∃ r : ℝ, v i = (r : EReal)) (hw : ∀ i, ∃ r : ℝ, w i = (r : EReal))
    (b : Fin 2) (h : Fin 4) (a : Fin 16384) (x : Fin 128) :
    part q k v b 0 h a x - lam w * part q k v b 1 h a x = head q k v w b h a x := by
  obtain ⟨r0, hr0, hp0⟩ := part_eq q k v hq hk b 0 h a
  obtain ⟨r1, hr1, hp1⟩ := part_eq q k v hq hk b 1 h a
  obtain ⟨z, hz⟩ := lam_real w hw
  choose v' hv' using hv
  unfold head
  rw [hp0, hp1, hz]
  simp only [hr0, hr1, hv', ← EReal.coe_mul, sum_coe, ← EReal.coe_sub]
  refine congrArg Real.toEReal ?_
  rw [Finset.mul_sum, ← Finset.sum_sub_distrib]
  exact Finset.sum_congr rfl fun j _ => by ring

theorem attn_eq (q k : FVec Ideal S2x16384x4x2x64 .f32) (v : FVec Ideal S2x16384x4x128 .f32) (w : FVec Ideal S4x64 .f32) (g : FVec Ideal S128 .f32)
    (hq : ∀ i, ∃ r : ℝ, q i = (r : EReal)) (hk : ∀ i, ∃ r : ℝ, k i = (r : EReal)) (hv : ∀ i, ∃ r : ℝ, v i = (r : EReal)) (hw : ∀ i, ∃ r : ℝ, w i = (r : EReal))
    (b : Fin 2) (a : Fin 16384) (n : Fin 512) :
    attn q k v w g b a ⟨n.val / 128, by omega⟩ ⟨n.val % 128, by omega⟩ = Cert.DiffRefIdeal.Read.val_main_v55 (F := Ideal) q k v w g (ix3 b a n) := by
  rw [Cert.DiffRefIdeal.RowValue.result_at]
  unfold attn
  rw [show (fun x => part q k v b 0 ⟨n.val / 128, by omega⟩ a x - lam w * part q k v b 1 ⟨n.val / 128, by omega⟩ a x) = head q k v w b ⟨n.val / 128, by omega⟩ a from
    funext fun x => head_eq_part q k v w hq hk hv hw b _ a x]

theorem algebraic : Cert.algebraic_DiffIdeal_DiffRefIdeal_pre_diff_finite := by
  intro m g m' g' hp hag
  refine ⟨whole m, (θ_run _ _ _).mono (fun _ h c => ⟨(h c).1.trans (final m c), (h c).2⟩) (Value.run_blocks m g),
    (θ_run _ _ _).mono (fun _ h c => ⟨?_, (h c).2⟩) (Cert.DiffRefIdeal.Value.run m' g')⟩
  rw [(h c).1]
  rw [Cert.DiffRefIdeal.Read.val_main_v55_eq]
  obtain ⟨e0, e1, e2, e3, e4⟩ := hag c
  rw [e0, e1, e2, e3, e4]
  funext i
  idx_vars i
  obtain ⟨f0, f1, f2, f3⟩ := finite m hp c
  exact (attn_eq _ _ _ _ _ f0 f1 f2 f3 i0 i1 i2).symm

end Cert.DiffIdeal.RowValue

end
-- ==== Proof.FfnRow.lean ====
/- One row of the gated feed-forward block, over the extended reals, and the two ways its gate is written.
   The three programs that end in this block (alone, after one output projection, after two) read their
   kernels' blocks and their references' arrays as this one function of a row. -/
module

public import Idealize.ShloMosaic.Lib.Pipeline.ValueKit
public import Idealize.ShloMosaic.Lib.Pointwise

@[expose] public section

set_option maxRecDepth 16384

noncomputable section

namespace Cert.Layer

open Idealize.ShloMosaic

/-- A row scaled to root mean square one and multiplied by the gain. -/
def normed (x g : Fin 1024 → EReal) (k : Fin 1024) : EReal :=
  x k * Ideal.rsqrt (Ideal.div (∑ i : Fin 1024, x i * x i) (Ideal.ofBits .f32 0x44800000#32) + Ideal.ofBits .f32 0x358637BD#32) * g k

/-- The hidden layer before the gate: 5632 columns, the first half the gate and the second half its partner. -/
def hidden (x g : Fin 1024 → EReal) (w : Fin 1024 → Fin 5632 → EReal) (n : Fin 5632) : EReal :=
  ∑ k : Fin 1024, normed x g k * w k n

/-- The gate `a / (1 + exp (-a))`. -/
def gate (a : EReal) : EReal := Ideal.div a (1 + Ideal.exp (-a))

/-- The hidden layer after the gate. -/
def gated (h : Fin 5632 → EReal) (n : Fin 2816) : EReal :=
  gate (h ⟨n.val, by omega⟩) * h ⟨2816 + n.val, by omega⟩

/-- The block on one row: the row plus half the second projection of the gated hidden layer. -/
def ffnRow (x g : Fin 1024 → EReal) (w : Fin 1024 → Fin 5632 → EReal) (w' : Fin 2816 → Fin 1024 → EReal) (j : Fin 1024) : EReal :=
  x j + Ideal.ofBits .f32 0x3F000000#32 * ∑ n : Fin 2816, gated (hidden x g w) n * w' n j

/-- Two rows with the same entries have the same block. -/
theorem ffnRow_congr {x x' g g' : Fin 1024 → EReal} {w w' : Fin 1024 → Fin 5632 → EReal} {u u' : Fin 2816 → Fin 1024 → EReal}
    {j j' : Fin 1024} (hx : ∀ k, x k = x' k) (hg : ∀ k, g k = g' k) (hw : ∀ k n, w k n = w' k n) (hu : ∀ n j, u n j = u' n j)
    (hj : j = j') : ffnRow x g w u j = ffnRow x' g' w' u' j' := by
  rw [funext hx, funext hg, funext fun k => funext (hw k), funext fun n => funext (hu n), hj]

/-- A row plus the projection of a second row. -/
def mixedRow (x o : Fin 1024 → EReal) (w : Fin 1024 → Fin 1024 → EReal) (k : Fin 1024) : EReal :=
  x k + ∑ n : Fin 1024, o n * w n k

/-- The same where the second row stands in two halves. -/
def mixedHalves (x : Fin 1024 → EReal) (a b : Fin 512 → EReal) (w : Fin 1024 → Fin 1024 → EReal) (k : Fin 1024) : EReal :=
  x k + (∑ n : Fin 512, a n * w ⟨n.val, by omega⟩ k) + ∑ n : Fin 512, b n * w ⟨512 + n.val, by omega⟩ k

/-- Rows with the same entries are mixed alike, -/
theorem mixedRow_congr {x x' o o' : Fin 1024 → EReal} {w w' : Fin 1024 → Fin 1024 → EReal} (hx : ∀ k, x k = x' k)
    (ho : ∀ k, o k = o' k) (hw : ∀ n k, w n k = w' n k) (k : Fin 1024) : mixedRow x o w k = mixedRow x' o' w' k := by
  rw [funext hx, funext ho, funext fun n => funext (hw n)]

/-- and so are halves. -/
theorem mixedHalves_congr {x x' : Fin 1024 → EReal} {a a' b b' : Fin 512 → EReal} {w w' : Fin 1024 → Fin 1024 → EReal}
    (hx : ∀ k, x k = x' k) (ha : ∀ k, a k = a' k) (hb : ∀ k, b k = b' k) (hw : ∀ n k, w n k = w' n k) (k : Fin 1024) :
    mixedHalves x a b w k = mixedHalves x' a' b' w' k := by
  rw [funext hx, funext ha, funext hb, funext fun n => funext (hw n)]

/-- An exponential is not below zero. -/
theorem exp_nonneg (a : EReal) : 0 ≤ Ideal.exp a := by
  induction a using EReal.rec with
  | bot => simp
  | top => simp
  | coe r => rw [Ideal.exp_coe]; exact_mod_cast (Real.exp_pos r).le

/-- So the gate's denominator is not zero. -/
theorem one_add_exp_ne_zero (a : EReal) : 1 + Ideal.exp a ≠ 0 := by
  have h : (1 : EReal) ≤ 1 + Ideal.exp a := le_add_of_nonneg_right (exp_nonneg a)
  exact ne_of_gt (lt_of_lt_of_le zero_lt_one h)

/-- The gate as a product with the logistic function. -/
theorem mul_logistic_eq_gate (a : EReal) : a * Ideal.div 1 (1 + Ideal.exp (-a)) = gate a := by
  unfold gate Ideal.div
  rw [if_neg (one_add_exp_ne_zero _), if_neg (one_add_exp_ne_zero _), one_mul]

/-- The gate with its negation written as a difference from zero. -/
theorem div_zero_sub_eq_gate (a : EReal) : Ideal.div a (1 + Ideal.exp (0 - a)) = gate a := by
  rw [zero_sub]; rfl

end Cert.Layer

end
-- ==== Proof.FfnValue.lean ====
/- The feed-forward block alone: the kernel's result array and the reference's result are one row function of the
   arguments (FfnRow.lean), so at the extended reals the two programs end at the same array. -/
module

public import proofs.«01_k».proof.Defs
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnRow

@[expose] public section

set_option maxRecDepth 16384

noncomputable section

open Idealize.ShloMosaic Idealize.ShloMosaic.TcCoe Idealize.SL.Sem

namespace Cert.FfnIdeal.RowValue

open Cert.FfnIdeal Cert.FfnIdeal.Gen Cert.Layer

variable (m : (ℓ : Loc nD τ sig) → Buf (Elt Ideal) ℓ)

/-- What the first store of the body writes, read at one element: the block's row function of the loaded blocks. -/
theorem pay1 (v : Vec Ideal S256x1024 .f32) (g : Vec Ideal S1x1024 .f32) (w : Vec Ideal S1x1024x5632 .bf16)
    (u : Vec Ideal S1x2816x1024 .bf16) (r : Fin 256) (j : Fin 1024) :
    k0_pay1 v (k0_pay3 v g w) u (ix2 r j)
      = ffnRow (fun k => v (ix2 r k)) (fun k => g (ix2 0 k)) (fun k n => w (ix3 0 k n)) (fun n j => u (ix3 0 n j)) j := by
  pointwise [k0_pay1, k0_pay3]
  simp only [div_zero_sub_eq_gate]
  rfl

/-- What the second store of the body writes, read at one element: the block's row function of the loaded blocks. -/
theorem pay2 (v : Vec Ideal S256x1024 .f32) (g : Vec Ideal S1x1024 .f32) (w : Vec Ideal S1x1024x5632 .bf16)
    (u : Vec Ideal S1x2816x1024 .bf16) (r : Fin 256) (j : Fin 1024) :
    k0_pay2 v (k0_pay4 v g) (k0_pay5 w) (constant S256x5632 .f32 0x00000000#32) u (ix2 r j)
      = ffnRow (fun k => v (ix2 r k)) (fun k => g (ix2 0 k)) (fun k n => w (ix3 0 k n)) (fun n j => u (ix3 0 n j)) j := by
  pointwise [k0_pay2, k0_pay4, k0_pay5]
  simp only [div_zero_sub_eq_gate]
  rfl

/-- Where each window stands at a grid point. -/
theorem idx (t : Fin cfg0.N) : win0_0.index t = ![t.val, 0] ∧ win0_1.index t = ![0, 0] ∧ win0_2.index t = ![0, 0, 0]
    ∧ win0_3.index t = ![0, 0, 0] ∧ win0_4.index t = ![t.val, 0] :=
  (by decide +kernel : ∀ t : Fin grid0.N, win0_0.index t = ![t.val, 0] ∧ win0_1.index t = ![0, 0] ∧ win0_2.index t = ![0, 0, 0]
    ∧ win0_3.index t = ![0, 0, 0] ∧ win0_4.index t = ![t.val, 0]) t

/-- What the result array ends holding, as a function of the arguments. -/
abbrev whole (c : Dev nD) : Buf (Elt Ideal) ((c : Thread nD τ).loc main_v3) := fun i =>
  ffnRow (fun k => m ((c : Thread nD τ).loc main_arg0) (ix2 (i 0) k)) (fun k => m ((c : Thread nD τ).loc main_arg1) (ix1 k))
    (fun k n => m ((c : Thread nD τ).loc main_arg2) (ix3 0 k n)) (fun n j => m ((c : Thread nD τ).loc main_arg3) (ix3 0 n j)) (i 1)

/-- Row `r` of the block of rows at point `t` is row `512 t + r` of the array. -/
theorem rows_at (c : Dev nD) (t : Fin cfg0.N) (r : Fin 512) (k : Fin 1024) (i : Fin 32768) (h : i.val = t.val * 512 + r.val) :
    iblk m c 0 t (ix2 r k) = m ((c : Thread nD τ).loc main_arg0) (ix2 i k) := by
  unfold iblk
  entry_read
  blk_ext [idx t]

/-- The gain is staged whole, under a leading axis of extent one. -/
theorem gain_at (c : Dev nD) (t : Fin cfg0.N) (k : Fin 1024) :
    iblk m c 1 t (ix2 0 k) = m ((c : Thread nD τ).loc main_arg1) (ix1 k) := by
  unfold iblk
  entry_read
  have e : ((cfg0.win 1).blk t).view.emb (ix2 0 k) = ix2 0 k := by blk_ext [idx t]
  rw [View.read_apply, e]
  show shapeCast S1x1024 (m ((c : Thread nD τ).loc main_arg1)) shapeCasts_S1024_S1x1024 (ix2 0 k) = _
  pointwise

/-- The layer's first weights are staged whole, -/
theorem win_at (c : Dev nD) (t : Fin cfg0.N) (k : Fin 1024) (n : Fin 5632) :
    iblk m c 2 t (ix3 0 k n) = m ((c : Thread nD τ).loc main_arg2) (ix3 0 k n) := by
  unfold iblk
  entry_read
  pointwise
  blk_ext [idx t]

/-- and its second weights. -/
theorem wout_at (c : Dev nD) (t : Fin cfg0.N) (n : Fin 2816) (k : Fin 1024) :
    iblk m c 3 t (ix3 0 n k) = m ((c : Thread nD τ).loc main_arg3) (ix3 0 n k) := by
  unfold iblk
  entry_read
  pointwise
  blk_ext [idx t]

/-- Where an element of the result's block stands in the result. -/
theorem out_at (t : Fin cfg0.N) (y : ((cfg0.win 4).xblock (cfg0.grid.coords t)).Idx) :
   (((win0_4.blk t).view.emb y 0).val = t.val * 512 + (y 0).val) ∧ (((win0_4.blk t).view.emb y 1).val = (y 1).val) := by
  constructor
  · blk_simp [idx t]
  · blk_simp [idx t]

/-- A load of the upper half of a block of rows. -/
theorem ld_upper (X : Vec Ideal S512x1024 .f32) (r : Fin 256) (k : Fin 1024) :
    View.ld X r0_0 (ix2 r k) = X (ix2 ⟨r.val, by omega⟩ k) := by
  pointwise

/-- A load of the lower half. -/
theorem ld_lower (X : Vec Ideal S512x1024 .f32) (r : Fin 256) (k : Fin 1024) :
    View.ld X r0_1 (ix2 r k) = X (ix2 ⟨256 + r.val, by omega⟩ k) := by
  pointwise

/-- The array the blocks leave is the block's row function of the arguments, row by row. -/
theorem final (c : Dev nD) : (dats m 0 c).arrAt 4 cfg0.N = whole m c := by
  refine (dats m 0 c).arrAt_eq_of_covers 4 _ (by decide +kernel) fun t hf y => ?_
  have ho := out_at t y
  blk_simp
  rw [after0_4]
  frame_out
  canon_tiles x h
  all_goals idx_vars x
  · rw [pay2]
    refine ffnRow_congr (fun k => ?_) (gain_at m c t) (win_at m c t) (wout_at m c t) (Fin.ext (h1.symm.trans ho.2.symm))
    rw [ld_lower]
    exact rows_at m c t _ k _ (by rw [ho.1, h0])
  · rw [pay1]
    refine ffnRow_congr (fun k => ?_) (gain_at m c t) (win_at m c t) (wout_at m c t) (Fin.ext (h1.symm.trans ho.2.symm))
    rw [ld_upper]
    exact rows_at m c t _ k _ (by rw [ho.1, h0])

end Cert.FfnIdeal.RowValue

namespace Cert.FfnRefIdeal.RowValue

open Cert.FfnRefIdeal Cert.FfnRefIdeal.Read Cert.Layer

/-- The reference's result read at one element: the block's row function of the arguments. -/
theorem result_at (x : FVec Ideal S32768x1024 .f32) (g : FVec Ideal S1024 .f32) (w : FVec Ideal S4x1024x5632 .f32)
    (u : FVec Ideal S4x2816x1024 .f32) (i : S32768x1024.Idx) :
    val_main_v25 (F := Ideal) x g w u i
      = ffnRow (fun k => x (ix2 (i 0) k)) (fun k => g (ix1 k)) (fun k n => w (ix3 0 k n)) (fun n j => u (ix3 0 n j)) (i 1) := by
  idx_vars i
  pointwise [val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13, val_main_v14, val_main_v15, val_main_v16, val_main_v17, val_main_v18, val_main_v19,
    val_main_call0_v0, val_main_call0_v1, val_main_call0_cst, val_main_call0_v2, val_main_call0_v3,
    val_main_call0_cst_0, val_main_call0_v4, val_main_call0_v5, val_main_v20, val_main_v21, val_main_v22,
    val_main_cst_2, val_main_v23, val_main_v24, val_main_v25]
  simp only [mul_logistic_eq_gate]
  rfl

end Cert.FfnRefIdeal.RowValue

namespace Cert.FfnIdeal.RowValue

open Cert.Layer

/-- On equal arguments the kernel and the reference end at the same result. -/
theorem algebraic : Cert.algebraic_FfnIdeal_FfnRefIdeal := by
  intro m g m' g' _ hag
  refine ⟨whole m, (θ_run _ _ _).mono (fun _ h c => ⟨(h c).1.trans (final m c), (h c).2⟩) (Value.run_blocks m g), (θ_run _ _ _).mono (fun _ h c => ⟨?_, (h c).2⟩) (Cert.FfnRefIdeal.Value.run m' g')⟩
  rw [(h c).1]
  rw [Cert.FfnRefIdeal.Read.val_main_v25_eq]
  obtain ⟨e0, e1, e2, e3⟩ := hag c
  rw [e0, e1, e2, e3]
  funext i
  exact Cert.FfnRefIdeal.RowValue.result_at _ _ _ _ i

end Cert.FfnIdeal.RowValue

end
-- ==== Proof.MlaFfnValue.lean ====
/- The feed-forward block behind an output projection: the kernel's result array and the reference's result are the
   one row function of FfnRow.lean, of rows mixed with the projected ones, so the two programs end at the same array. -/
module

public import proofs.«01_k».proof.Defs
public import proofs.«01_k».proof.Proof.Gen.MlaFfnIdeal.Value
public import proofs.«01_k».proof.Proof.Gen.MlaFfnRefIdeal.Run
public import proofs.«01_k».proof.Proof.Gen.MlaFfnRefIdeal.Read
public import proofs.«01_k».proof.Proof.FfnRow

@[expose] public section

set_option maxRecDepth 16384

noncomputable section

open Idealize.ShloMosaic Idealize.ShloMosaic.TcCoe Idealize.SL.Sem

namespace Cert.MlaFfnIdeal.RowValue

open Cert.MlaFfnIdeal Cert.MlaFfnIdeal.Gen Cert.Layer

variable (m : (ℓ : Loc nD τ sig) → Buf (Elt Ideal) ℓ)

/-- What the first store of the body writes, read at one element: the block's row function of the mixed rows. -/
theorem pay1 (v : Vec Ideal S256x1024 .f32) (o : Vec Ideal S256x1024 .bf16) (p : Vec Ideal S1024x1024 .bf16)
    (g : Vec Ideal S1x1024 .f32) (w : Vec Ideal S1x1024x5632 .bf16) (u : Vec Ideal S1x2816x1024 .bf16) (r : Fin 256) (j : Fin 1024) :
    k0_pay7 (k0_pay2 v o p) (k0_pay4 v o p g w) u (ix2 r j)
      = ffnRow (mixedRow (fun k => v (ix2 r k)) (fun n => o (ix2 r n)) (fun n k => p (ix2 n k))) (fun k => g (ix2 0 k))
          (fun k n => w (ix3 0 k n)) (fun n j => u (ix3 0 n j)) j := by
  pointwise [k0_pay7, k0_pay4, k0_pay2]
  simp only [div_zero_sub_eq_gate]
  rfl

/-- What the second store of the body writes, read at one element: the block's row function of the mixed rows. -/
theorem pay2 (v : Vec Ideal S256x1024 .f32) (o : Vec Ideal S256x1024 .bf16) (p : Vec Ideal S1024x1024 .bf16)
    (g : Vec Ideal S1x1024 .f32) (w : Vec Ideal S1x1024x5632 .bf16) (u : Vec Ideal S1x2816x1024 .bf16) (r : Fin 256) (j : Fin 1024) :
    k0_pay1 (k0_pay3 v o p) (k0_pay8 (k0_pay3 v o p) (k0_pay5 g) w) (k0_pay9 (k0_pay3 v o p) (k0_pay5 g) w) u (ix2 r j)
      = ffnRow (mixedRow (fun k => v (ix2 r k)) (fun n => o (ix2 r n)) (fun n k => p (ix2 n k))) (fun k => g (ix2 0 k))
          (fun k n => w (ix3 0 k n)) (fun n j => u (ix3 0 n j)) j := by
  pointwise [k0_pay1, k0_pay3, k0_pay8, k0_pay9, k0_pay6, k0_pay5]
  simp only [div_zero_sub_eq_gate]
  rfl

/-- Where each window stands at a grid point. -/
theorem idx (t : Fin cfg0.N) : win0_0.index t = ![t.val, 0] ∧ win0_1.index t = ![0, 0] ∧ win0_2.index t = ![3, 0, 0]
    ∧ win0_3.index t = ![3, 0, 0] ∧ win0_4.index t = ![t.val, 0] ∧ win0_5.index t = ![0, 0] ∧ win0_6.index t = ![t.val, 0] :=
  (by decide +kernel : ∀ t : Fin grid0.N, win0_0.index t = ![t.val, 0] ∧ win0_1.index t = ![0, 0] ∧ win0_2.index t = ![3, 0, 0]
    ∧ win0_3.index t = ![3, 0, 0] ∧ win0_4.index t = ![t.val, 0] ∧ win0_5.index t = ![0, 0] ∧ win0_6.index t = ![t.val, 0]) t

/-- What the result array ends holding, as a function of the arguments. -/
abbrev whole (c : Dev nD) : Buf (Elt Ideal) ((c : Thread nD τ).loc main_v5) := fun i =>
  ffnRow (mixedRow (fun k => m ((c : Thread nD τ).loc main_arg0) (ix2 (i 0) k)) (fun n => m ((c : Thread nD τ).loc main_arg1) (ix2 (i 0) n))
      (fun n k => m ((c : Thread nD τ).loc main_arg2) (ix2 n k))) (fun k => m ((c : Thread nD τ).loc main_arg3) (ix1 k))
    (fun k n => m ((c : Thread nD τ).loc main_arg4) (ix3 3 k n)) (fun n j => m ((c : Thread nD τ).loc main_arg5) (ix3 3 n j)) (i 1)

/-- Row `r` of the block of rows at point `t` is row `512 t + r` of the array. -/
theorem rows_at (c : Dev nD) (t : Fin cfg0.N) (r : Fin 512) (k : Fin 1024) (i : Fin 32768) (h : i.val = t.val * 512 + r.val) :
    iblk m c 0 t (ix2 r k) = m ((c : Thread nD τ).loc main_arg0) (ix2 i k) := by
  unfold iblk
  entry_read
  blk_ext [idx t]

/-- The rows to project are cut as the rows are, -/
theorem proj_at (c : Dev nD) (t : Fin cfg0.N) (r : Fin 512) (k : Fin 1024) (i : Fin 32768) (h : i.val = t.val * 512 + r.val) :
    iblk m c 4 t (ix2 r k) = m ((c : Thread nD τ).loc main_arg1) (ix2 i k) := by
  unfold iblk
  entry_read
  pointwise
  blk_ext [idx t]

/-- and the projection's weights are staged whole. -/
theorem pw_at (c : Dev nD) (t : Fin cfg0.N) (n k : Fin 1024) :
    iblk m c 5 t (ix2 n k) = m ((c : Thread nD τ).loc main_arg2) (ix2 n k) := by
  unfold iblk
  entry_read
  pointwise
  blk_ext [idx t]

/-- The gain is staged whole, under a leading axis of extent one. -/
theorem gain_at (c : Dev nD) (t : Fin cfg0.N) (k : Fin 1024) :
    iblk m c 1 t (ix2 0 k) = m ((c : Thread nD τ).loc main_arg3) (ix1 k) := by
  unfold iblk
  entry_read
  have e : ((cfg0.win 1).blk t).view.emb (ix2 0 k) = ix2 0 k := by blk_ext [idx t]
  rw [View.read_apply, e]
  show shapeCast S1x1024 (m ((c : Thread nD τ).loc main_arg3)) shapeCasts_S1024_S1x1024 (ix2 0 k) = _
  pointwise

/-- The layer's first weights are staged whole, -/
theorem win_at (c : Dev nD) (t : Fin cfg0.N) (k : Fin 1024) (n : Fin 5632) :
    iblk m c 2 t (ix3 0 k n) = m ((c : Thread nD τ).loc main_arg4) (ix3 3 k n) := by
  unfold iblk
  entry_read
  pointwise
  blk_ext [idx t]

/-- and its second weights. -/
theorem wout_at (c : Dev nD) (t : Fin cfg0.N) (n : Fin 2816) (k : Fin 1024) :
    iblk m c 3 t (ix3 0 n k) = m ((c : Thread nD τ).loc main_arg5) (ix3 3 n k) := by
  unfold iblk
  entry_read
  pointwise
  blk_ext [idx t]

/-- Where an element of the result's block stands in the result. -/
theorem out_at (t : Fin cfg0.N) (y : ((cfg0.win 6).xblock (cfg0.grid.coords t)).Idx) :
   (((win0_6.blk t).view.emb y 0).val = t.val * 512 + (y 0).val) ∧ (((win0_6.blk t).view.emb y 1).val = (y 1).val) := by
  constructor
  · blk_simp [idx t]
  · blk_simp [idx t]

/-- A load of the upper half of a block of rows. -/
theorem ld_upper (X : Vec Ideal S512x1024 .f32) (r : Fin 256) (k : Fin 1024) :
    View.ld X r0_0 (ix2 r k) = X (ix2 ⟨r.val, by omega⟩ k) := by
  pointwise

/-- A load of the lower half. -/
theorem ld_lower (X : Vec Ideal S512x1024 .f32) (r : Fin 256) (k : Fin 1024) :
    View.ld X r0_2 (ix2 r k) = X (ix2 ⟨256 + r.val, by omega⟩ k) := by
  pointwise

/-- The loads of the two halves of the rows to project. -/
theorem ldp_upper (X : Vec Ideal S512x1024 .bf16) (r : Fin 256) (k : Fin 1024) :
    View.ld X r0_0 (ix2 r k) = X (ix2 ⟨r.val, by omega⟩ k) := by
  pointwise

/-- The lower half. -/
theorem ldp_lower (X : Vec Ideal S512x1024 .bf16) (r : Fin 256) (k : Fin 1024) :
    View.ld X r0_2 (ix2 r k) = X (ix2 ⟨256 + r.val, by omega⟩ k) := by
  pointwise

/-- The load of all the projection's weights. -/
theorem ldp_whole (X : Vec Ideal S1024x1024 .bf16) (n k : Fin 1024) : View.ld X r0_1 (ix2 n k) = X (ix2 n k) := by
  pointwise

/-- The load of all the gain. -/
theorem ldg_whole (X : Vec Ideal S1x1024 .f32) (k : Fin 1024) : View.ld X r0_3 (ix2 0 k) = X (ix2 0 k) := by
  pointwise

/-- The array the blocks leave is the block's row function of the arguments, row by row. -/
theorem final (c : Dev nD) : (dats m 0 c).arrAt 6 cfg0.N = whole m c := by
  refine (dats m 0 c).arrAt_eq_of_covers 6 _ (by decide +kernel) fun t hf y => ?_
  have ho := out_at t y
  blk_simp
  rw [after0_6]
  frame_out
  canon_tiles x h
  all_goals idx_vars x
  · unfold k0_pay10 k0_pay11
    rw [pay2]
    refine ffnRow_congr (mixedRow_congr (fun k => ?_) (fun k => ?_) (fun n k => (ldp_whole _ n k).trans (pw_at m c t n k))) (fun k => (ldg_whole _ k).trans (gain_at m c t k)) (win_at m c t) (wout_at m c t)
      (Fin.ext (h1.symm.trans ho.2.symm))
    · rw [ld_lower]
      exact rows_at m c t _ k _ (by rw [ho.1, h0])
    · rw [ldp_lower]
      exact proj_at m c t _ k _ (by rw [ho.1, h0])
  · rw [pay1]
    refine ffnRow_congr (mixedRow_congr (fun k => ?_) (fun k => ?_) (pw_at m c t)) (gain_at m c t) (win_at m c t) (wout_at m c t)
      (Fin.ext (h1.symm.trans ho.2.symm))
    · rw [ld_upper]
      exact rows_at m c t _ k _ (by rw [ho.1, h0])
    · rw [ldp_upper]
      exact proj_at m c t _ k _ (by rw [ho.1, h0])

end Cert.MlaFfnIdeal.RowValue

namespace Cert.MlaFfnRefIdeal.RowValue

open Cert.MlaFfnRefIdeal Cert.MlaFfnRefIdeal.Read Cert.Layer

/-- The reference's result read at one element: the block's row function of the arguments. -/
theorem result_at (x o : FVec Ideal S32768x1024 .f32) (p : FVec Ideal S1024x1024 .f32) (g : FVec Ideal S1024 .f32)
    (w : FVec Ideal S4x1024x5632 .f32) (u : FVec Ideal S4x2816x1024 .f32) (i : S32768x1024.Idx) :
    val_main_v27 (F := Ideal) x o p g w u i
      = ffnRow (mixedRow (fun k => x (ix2 (i 0) k)) (fun n => o (ix2 (i 0) n)) (fun n k => p (ix2 n k))) (fun k => g (ix1 k)) (fun k n => w (ix3 3 k n)) (fun n j => u (ix3 3 n j)) (i 1) := by
  idx_vars i
  pointwise [val_main_v0, val_main_v1, val_main_v2, val_main_cst, val_main_v3, val_main_v4, val_main_cst_0, val_main_v5,
    val_main_v6, val_main_cst_1, val_main_v7, val_main_v8, val_main_v9, val_main_v10, val_main_v11, val_main_v12,
    val_main_v13, val_main_v14, val_main_v15, val_main_v16, val_main_v17, val_main_v18, val_main_v19, val_main_v20,
    val_main_v21, val_main_call0_v0, val_main_call0_v1, val_main_call0_cst, val_main_call0_v2, val_main_call0_v3,
    val_main_call0_cst_0, val_main_call0_v4, val_main_call0_v5, val_main_v22, val_main_v23, val_main_v24,
    val_main_cst_2, val_main_v25, val_main_v26, val_main_v27]
  simp only [mul_logistic_eq_gate]
  rfl

end Cert.MlaFfnRefIdeal.RowValue

namespace Cert.MlaFfnIdeal.RowValue

open Cert.Layer

/-- On equal arguments the kernel and the reference end at the same result. -/
theorem algebraic : Cert.algebraic_MlaFfnIdeal_MlaFfnRefIdeal := by
  intro m g m' g' _ hag
  refine ⟨whole m, (θ_run _ _ _).mono (fun _ h c => ⟨(h c).1.trans (final m c), (h c).2⟩) (Value.run_blocks m g), (θ_run _ _ _).mono (fun _ h c => ⟨?_, (h c).2⟩) (Cert.MlaFfnRefIdeal.Value.run m' g')⟩
  rw [(h c).1]
  rw [Cert.MlaFfnRefIdeal.Read.val_main_v27_eq]
  obtain ⟨e0, e1, e2, e3, e4, e5⟩ := hag c
  rw [e0, e1, e2, e3, e4, e5]
  funext i
  exact Cert.MlaFfnRefIdeal.RowValue.result_at _ _ _ _ _ _ i

end Cert.MlaFfnIdeal.RowValue

end
-- ==== Proof.EvenFfnValue.lean ====
/- The feed-forward block behind an output projection of two streams: the kernel projects the streams one after the
   other, the reference their concatenation; both results are the one row function of FfnRow.lean, of rows mixed with the
   two halves, so the two programs end at the same array. -/
module

public import proofs.«01_k».proof.Defs
public import proofs.«01_k».proof.Proof.Gen.EvenFfnIdeal.Value
public import proofs.«01_k».proof.Proof.Gen.EvenFfnRefIdeal.Run
public import proofs.«01_k».proof.Proof.Gen.EvenFfnRefIdeal.Read
public import proofs.«01_k».proof.Proof.FfnRow

@[expose] public section

set_option maxRecDepth 16384

noncomputable section

open Idealize.ShloMosaic Idealize.ShloMosaic.TcCoe Idealize.SL.Sem

namespace Cert.EvenFfnIdeal.RowValue

open Cert.EvenFfnIdeal Cert.EvenFfnIdeal.Gen Cert.Layer

variable (m : (ℓ : Loc nD τ sig) → Buf (Elt Ideal) ℓ)

/-- What the first store of the body writes, read at one element: the block's row function of the mixed rows. -/
theorem pay1 (v : Vec Ideal S256x1024 .f32) (a b : Vec Ideal S256x512 .bf16) (p q : Vec Ideal S512x1024 .bf16)
    (P : Fin 1024 → Fin 1024 → EReal) (hp : ∀ n k, p (ix2 n k) = P ⟨n.val, by omega⟩ k) (hq : ∀ n k, q (ix2 n k) = P ⟨512 + n.val, by omega⟩ k)
    (g : Vec Ideal S1x1024 .f32) (w : Vec Ideal S1x1024x5632 .bf16) (u : Vec Ideal S1x2816x1024 .bf16) (r : Fin 256) (j : Fin 1024) :
    k0_pay1 (k0_pay3 v a p b q) (k0_pay8 (k0_pay3 v a p b q) (k0_pay5 g) (k0_pay6 v a p b q) (Scalar.ofBits .f32 0x44800000#32) w) u (ix2 r j)
      = ffnRow (mixedHalves (fun k => v (ix2 r k)) (fun n => a (ix2 r n)) (fun n => b (ix2 r n)) P) (fun k => g (ix2 0 k))
          (fun k n => w (ix3 0 k n)) (fun n j => u (ix3 0 n j)) j := by
  pointwise [k0_pay1, k0_pay3, k0_pay8, k0_pay5, k0_pay6]
  simp only [div_zero_sub_eq_gate, hp, hq]
  rfl

/-- What the second store of the body writes, read at one element: the block's row function of the mixed rows. -/
theorem pay2 (v : Vec Ideal S256x1024 .f32) (a b : Vec Ideal S256x512 .bf16) (p q : Vec Ideal S512x1024 .bf16)
    (P : Fin 1024 → Fin 1024 → EReal) (hp : ∀ n k, p (ix2 n k) = P ⟨n.val, by omega⟩ k) (hq : ∀ n k, q (ix2 n k) = P ⟨512 + n.val, by omega⟩ k)
    (g : Vec Ideal S1x1024 .f32) (w : Vec Ideal S1x1024x5632 .bf16) (u : Vec Ideal S1x2816x1024 .bf16) (r : Fin 256) (j : Fin 1024) :
    k0_pay2 (k0_pay4 v a p b q) (k0_pay7 (k0_pay4 v a p b q) g w) u (ix2 r j)
      = ffnRow (mixedHalves (fun k => v (ix2 r k)) (fun n => a (ix2 r n)) (fun n => b (ix2 r n)) P) (fun k => g (ix2 0 k))
          (fun k n => w (ix3 0 k n)) (fun n j => u (ix3 0 n j)) j := by
  pointwise [k0_pay2, k0_pay4, k0_pay7]
  simp only [div_zero_sub_eq_gate, hp, hq]
  rfl

/-- Where each window stands at a grid point. -/
theorem idx (t : Fin cfg0.N) : win0_0.index t = ![t.val, 0] ∧ win0_1.index t = ![0, 0] ∧ win0_2.index t = ![0, 0, 0]
    ∧ win0_3.index t = ![0, 0, 0] ∧ win0_4.index t = ![t.val, 0] ∧ win0_5.index t = ![t.val, 0] ∧ win0_6.index t = ![0, 0] ∧ win0_7.index t = ![t.val, 0] :=
  (by decide +kernel : ∀ t : Fin grid0.N, win0_0.index t = ![t.val, 0] ∧ win0_1.index t = ![0, 0] ∧ win0_2.index t = ![0, 0, 0]
    ∧ win0_3.index t = ![0, 0, 0] ∧ win0_4.index t = ![t.val, 0] ∧ win0_5.index t = ![t.val, 0] ∧ win0_6.index t = ![0, 0] ∧ win0_7.index t = ![t.val, 0]) t

/-- What the result array ends holding, as a function of the arguments. -/
abbrev whole (c : Dev nD) : Buf (Elt Ideal) ((c : Thread nD τ).loc main_v6) := fun i =>
  ffnRow (mixedHalves (fun k => m ((c : Thread nD τ).loc main_arg0) (ix2 (i 0) k)) (fun n => m ((c : Thread nD τ).loc main_arg1) (ix2 (i 0) n))
      (fun n => m ((c : Thread nD τ).loc main_arg2) (ix2 (i 0) n)) (fun n k => m ((c : Thread nD τ).loc main_arg3) (ix2 n k))) (fun k => m ((c : Thread nD τ).loc main_arg4) (ix1 k))
    (fun k n => m ((c : Thread nD τ).loc main_arg5) (ix3 0 k n)) (fun n j => m ((c : Thread nD τ).loc main_arg6) (ix3 0 n j)) (i 1)

/-- Row `r` of the block of rows at point `t` is row `512 t + r` of the array. -/
theorem rows_at (c : Dev nD) (t : Fin cfg0.N) (r : Fin 512) (k : Fin 1024) (i : Fin 32768) (h : i.val = t.val * 512 + r.val) :
    iblk m c 0 t (ix2 r k) = m ((c : Thread nD τ).loc main_arg0) (ix2 i k) := by
  unfold iblk
  entry_read
  blk_ext [idx t]

/-- The first stream is cut as the rows are, -/
theorem first_at (c : Dev nD) (t : Fin cfg0.N) (r : Fin 512) (k : Fin 512) (i : Fin 32768) (h : i.val = t.val * 512 + r.val) :
    iblk m c 4 t (ix2 r k) = m ((c : Thread nD τ).loc main_arg1) (ix2 i k) := by
  unfold iblk
  entry_read
  pointwise
  blk_ext [idx t]

/-- and so is the second; -/
theorem second_at (c : Dev nD) (t : Fin cfg0.N) (r : Fin 512) (k : Fin 512) (i : Fin 32768) (h : i.val = t.val * 512 + r.val) :
    iblk m c 5 t (ix2 r k) = m ((c : Thread nD τ).loc main_arg2) (ix2 i k) := by
  unfold iblk
  entry_read
  pointwise
  blk_ext [idx t]

/-- the projection's weights are staged whole. -/
theorem pw_at (c : Dev nD) (t : Fin cfg0.N) (n k : Fin 1024) :
    iblk m c 6 t (ix2 n k) = m ((c : Thread nD τ).loc main_arg3) (ix2 n k) := by
  unfold iblk
  entry_read
  pointwise
  blk_ext [idx t]

/-- The gain is staged whole, under a leading axis of extent one. -/
theorem gain_at (c : Dev nD) (t : Fin cfg0.N) (k : Fin 1024) :
    iblk m c 1 t (ix2 0 k) = m ((c : Thread nD τ).loc main_arg4) (ix1 k) := by
  unfold iblk
  entry_read
  have e : ((cfg0.win 1).blk t).view.emb (ix2 0 k) = ix2 0 k := by blk_ext [idx t]
  rw [View.read_apply, e]
  show shapeCast S1x1024 (m ((c : Thread nD τ).loc main_arg4)) shapeCasts_S1024_S1x1024 (ix2 0 k) = _
  pointwise

/-- The layer's first weights are staged whole, -/
theorem win_at (c : Dev nD) (t : Fin cfg0.N) (k : Fin 1024) (n : Fin 5632) :
    iblk m c 2 t (ix3 0 k n) = m ((c : Thread nD τ).loc main_arg5) (ix3 0 k n) := by
  unfold iblk
  entry_read
  pointwise
  blk_ext [idx t]

/-- and its second weights. -/
theorem wout_at (c : Dev nD) (t : Fin cfg0.N) (n : Fin 2816) (k : Fin 1024) :
    iblk m c 3 t (ix3 0 n k) = m ((c : Thread nD τ).loc main_arg6) (ix3 0 n k) := by
  unfold iblk
  entry_read
  pointwise
  blk_ext [idx t]

/-- Where an element of the result's block stands in the result. -/
theorem out_at (t : Fin cfg0.N) (y : ((cfg0.win 7).xblock (cfg0.grid.coords t)).Idx) :
   (((win0_7.blk t).view.emb y 0).val = t.val * 512 + (y 0).val) ∧ (((win0_7.blk t).view.emb y 1).val = (y 1).val) := by
  constructor
  · blk_simp [idx t]
  · blk_simp [idx t]

/-- A load of the upper half of a block of rows. -/
theorem ld_upper (X : Vec Ideal S512x1024 .f32) (r : Fin 256) (k : Fin 1024) :
    View.ld X r0_0 (ix2 r k) = X (ix2 ⟨r.val, by omega⟩ k) := by
  pointwise

/-- A load of the lower half. -/
theorem ld_lower (X : Vec Ideal S512x1024 .f32) (r : Fin 256) (k : Fin 1024) :
    View.ld X r0_4 (ix2 r k) = X (ix2 ⟨256 + r.val, by omega⟩ k) := by
  pointwise

/-- The loads of the two halves of a stream's rows, -/
theorem lds_upper (X : Vec Ideal S512x512 .bf16) (r : Fin 256) (k : Fin 512) :
    View.ld X r0_1 (ix2 r k) = X (ix2 ⟨r.val, by omega⟩ k) := by
  pointwise

/-- the lower half, -/
theorem lds_lower (X : Vec Ideal S512x512 .bf16) (r : Fin 256) (k : Fin 512) :
    View.ld X r0_5 (ix2 r k) = X (ix2 ⟨256 + r.val, by omega⟩ k) := by
  pointwise

/-- and the loads of the two halves of the projection's weights. -/
theorem ldw_upper (X : Vec Ideal S1024x1024 .bf16) (n : Fin 512) (k : Fin 1024) :
    View.ld X r0_2 (ix2 n k) = X (ix2 ⟨n.val, by omega⟩ k) := by
  pointwise

/-- The second stream's weights. -/
theorem ldw_lower (X : Vec Ideal S1024x1024 .bf16) (n : Fin 512) (k : Fin 1024) :
    View.ld X r0_3 (ix2 n k) = X (ix2 ⟨512 + n.val, by omega⟩ k) := by
  pointwise

/-- The array the blocks leave is the block's row function of the arguments, row by row. -/
theorem final (c : Dev nD) : (dats m 0 c).arrAt 7 cfg0.N = whole m c := by
  refine (dats m 0 c).arrAt_eq_of_covers 7 _ (by decide +kernel) fun t hf y => ?_
  have ho := out_at t y
  blk_simp
  rw [after0_7]
  frame_out
  canon_tiles x h
  all_goals idx_vars x
  · unfold k0_pay10
    rw [pay2 _ _ _ _ _ (fun n k => iblk m c 6 t (ix2 n k)) (ldw_upper _) (ldw_lower _)]
    refine ffnRow_congr (mixedHalves_congr (fun k => ?_) (fun k => ?_) (fun k => ?_) (pw_at m c t)) (gain_at m c t) (win_at m c t)
      (wout_at m c t) (Fin.ext (h1.symm.trans ho.2.symm))
    · rw [ld_lower]
      exact rows_at m c t _ k _ (by rw [ho.1, h0])
    · rw [lds_lower]
      exact first_at m c t _ k _ (by rw [ho.1, h0])
    · rw [lds_lower]
      exact second_at m c t _ k _ (by rw [ho.1, h0])
  · unfold k0_pay9
    rw [pay1 _ _ _ _ _ (fun n k => iblk m c 6 t (ix2 n k)) (ldw_upper _) (ldw_lower _)]
    refine ffnRow_congr (mixedHalves_congr (fun k => ?_) (fun k => ?_) (fun k => ?_) (pw_at m c t)) (gain_at m c t) (win_at m c t)
      (wout_at m c t) (Fin.ext (h1.symm.trans ho.2.symm))
    · rw [ld_upper]
      exact rows_at m c t _ k _ (by rw [ho.1, h0])
    · rw [lds_upper]
      exact first_at m c t _ k _ (by rw [ho.1, h0])
    · rw [lds_upper]
      exact second_at m c t _ k _ (by rw [ho.1, h0])

end Cert.EvenFfnIdeal.RowValue

namespace Cert.EvenFfnRefIdeal.RowValue

open Cert.EvenFfnRefIdeal Cert.EvenFfnRefIdeal.Read Cert.Layer

/-- The reference's result read at one element: the block's row function of the arguments. -/
theorem result_at (x : FVec Ideal S32768x1024 .f32) (a b : FVec Ideal S32768x512 .f32) (p : FVec Ideal S1024x1024 .f32)
    (g : FVec Ideal S1024 .f32) (w : FVec Ideal S4x1024x5632 .f32) (u : FVec Ideal S4x2816x1024 .f32) (i : S32768x1024.Idx) :
    val_main_v28 (F := Ideal) x a b p g w u i
      = ffnRow (mixedHalves (fun k => x (ix2 (i 0) k)) (fun n => a (ix2 (i 0) n)) (fun n => b (ix2 (i 0) n)) (fun n k => p (ix2 n k))) (fun k => g (ix1 k)) (fun k n => w (ix3 0 k n)) (fun n j => u (ix3 0 n j)) (i 1) := by
  idx_vars i
  pointwise [val_main_v0, val_main_v1, val_main_v2, val_main_v3, val_main_cst, val_main_v4, val_main_v5, val_main_cst_0,
    val_main_v6, val_main_v7, val_main_cst_1, val_main_v8, val_main_v9, val_main_v10, val_main_v11, val_main_v12,
    val_main_v13, val_main_v14, val_main_v15, val_main_v16, val_main_v17, val_main_v18, val_main_v19, val_main_v20,
    val_main_v21, val_main_v22, val_main_call0_v0, val_main_call0_v1, val_main_call0_cst, val_main_call0_v2,
    val_main_call0_v3, val_main_call0_cst_0, val_main_call0_v4, val_main_call0_v5, val_main_v23, val_main_v24,
    val_main_v25, val_main_cst_2, val_main_v26, val_main_v27, val_main_v28]
  simp only [mul_logistic_eq_gate, ← add_assoc]
  rfl

end Cert.EvenFfnRefIdeal.RowValue

namespace Cert.EvenFfnIdeal.RowValue

open Cert.Layer

/-- On equal arguments the kernel and the reference end at the same result. -/
theorem algebraic : Cert.algebraic_EvenFfnIdeal_EvenFfnRefIdeal := by
  intro m g m' g' _ hag
  refine ⟨whole m, (θ_run _ _ _).mono (fun _ h c => ⟨(h c).1.trans (final m c), (h c).2⟩) (Value.run_blocks m g), (θ_run _ _ _).mono (fun _ h c => ⟨?_, (h c).2⟩) (Cert.EvenFfnRefIdeal.Value.run m' g')⟩
  rw [(h c).1]
  rw [Cert.EvenFfnRefIdeal.Read.val_main_v28_eq]
  obtain ⟨e0, e1, e2, e3, e4, e5, e6⟩ := hag c
  rw [e0, e1, e2, e3, e4, e5, e6]
  funext i
  exact Cert.EvenFfnRefIdeal.RowValue.result_at _ _ _ _ _ _ _ i

end Cert.EvenFfnIdeal.RowValue

end
-- ==== Proof.InRow.lean ====
/- One row of the two input projections, over the extended reals: the projected columns, a head scaled to root mean
   square one, its rotation by the row's position, and the gated three-tap convolution along the rows. The kernels'
   blocks and the references' arrays are both read as these functions of the arguments. -/
module

public import Idealize.ShloMosaic.Lib.Pipeline.ValueKit
public import Idealize.ShloMosaic.Lib.Pointwise
public import proofs.«01_k».proof.Proof.FfnRow

@[expose] public section

set_option maxRecDepth 16384

noncomputable section

namespace Cert.Layer

open Idealize.ShloMosaic

/-- One column of the projection of a row scaled to root mean square one. -/
def proj (x g w : Fin 1024 → EReal) : EReal := ∑ k : Fin 1024, normed x g k * w k

/-- The same with each product written the other way round. -/
theorem proj_comm (x g w : Fin 1024 → EReal) : ∑ k : Fin 1024, w k * normed x g k = proj x g w :=
  Finset.sum_congr rfl fun _ _ => mul_comm _ _

/-- A column of equal rows, gains and weights. -/
theorem proj_congr {x x' g g' w w' : Fin 1024 → EReal} (hx : ∀ k, x k = x' k) (hg : ∀ k, g k = g' k) (hw : ∀ k, w k = w' k) :
    proj x g w = proj x' g' w' := by
  rw [funext hx, funext hg, funext hw]

/-- All the rows projected to all the columns. -/
def rows (x : Fin 16384 → Fin 1024 → EReal) (g : Fin 1024 → EReal) (w : Fin 1024 → Fin 3072 → EReal) (s : Fin 16384) (j : Fin 3072) : EReal :=
  proj (x s) g (fun k => w k j)

/-- The angle by which the pair `f` of a head is turned at position `s`. -/
def angle (s f : ℕ) : EReal :=
  FloatOps.sitofp (F := Ideal) .f32 (BitVec.ofNat 32 s) *
    Ideal.div 1 (Ideal.pow (Ideal.ofBits .f32 0x461C4000#32)
      (Ideal.div (Ideal.ofBits .f32 0x40000000#32 * FloatOps.sitofp (F := Ideal) .f32 (BitVec.ofNat 32 f)) (Ideal.ofBits .f32 0x42800000#32)))

/-- Its cosine -/
def rcos (s f : ℕ) : EReal := Ideal.cos (angle s f)

/-- and its sine. -/
def rsin (s f : ℕ) : EReal := Ideal.sin (angle s f)

/-- A head of 64 scaled to root mean square one and multiplied by the gain. -/
def headNorm (u g : Fin 64 → EReal) (d : Fin 64) : EReal :=
  u d * Ideal.rsqrt (Ideal.div (∑ i : Fin 64, u i * u i) (Ideal.ofBits .f32 0x42800000#32) + Ideal.ofBits .f32 0x358637BD#32) * g d

/-- The rotation of a head of 64 at position `s`: its entries in pairs 32 apart. -/
def rope (u : Fin 64 → EReal) (s : ℕ) (d : Fin 64) : EReal :=
  if h : d.val < 32 then u d * rcos s d - u ⟨32 + d.val, by omega⟩ * rsin s d
  else u ⟨d.val - 32, by omega⟩ * rsin s (d.val - 32) + u ⟨32 + (d.val - 32), by omega⟩ * rcos s (d.val - 32)

/-- The product of the second and the third part of a projected row, the convolution's input, -/
def zcol (p : Fin 3072 → EReal) (j : Fin 512) : EReal := p ⟨512 + j.val, by omega⟩ * p ⟨1024 + j.val, by omega⟩

/-- that input with a zero row on either side, -/
def zpad (P : Fin 16384 → Fin 3072 → EReal) (s : ℕ) (j : Fin 512) : EReal :=
  if h : 1 ≤ s ∧ s ≤ 16384 then zcol (P ⟨s - 1, by omega⟩) j else 0

/-- and the convolution along the rows, gated by the first part. -/
def conv (P : Fin 16384 → Fin 3072 → EReal) (cw : Fin 3 → Fin 512 → EReal) (s : Fin 16384) (j : Fin 512) : EReal :=
  P s ⟨j.val, by omega⟩ * (cw 0 j * zpad P s.val j + cw 1 j * zpad P (1 + s.val) j + cw 2 j * zpad P (2 + s.val) j)

/-- Head `e` of the part of a projected row that begins at column `o`. -/
def cut (p : Fin 3072 → EReal) (o : ℕ) (ho : o + 512 ≤ 3072) (e : Fin 8) (d : Fin 64) : EReal :=
  p ⟨o + (e.val * 64 + d.val), by omega⟩

/-- A head scaled and turned: what both programs hold of the queries and of the keys. -/
def turned (p : Fin 3072 → EReal) (o : ℕ) (ho : o + 512 ≤ 3072) (g : Fin 64 → EReal) (s : ℕ) (j : Fin 512) : EReal :=
  rope (headNorm (cut p o ho ⟨j.val / 64, by omega⟩) g) s ⟨j.val % 64, by omega⟩

/-- The reciprocal of 64 is exact, so a product with it is a quotient. -/
theorem mul_eq_div64 (a : EReal) : a * Ideal.ofBits .f32 0x3C800000#32 = Ideal.div a (Ideal.ofBits .f32 0x42800000#32) := by
  have h1 : Ideal.ofBits .f32 0x3C800000#32 = ((64⁻¹ : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2]
  unfold Ideal.div
  rw [if_neg (by norm_num), EReal.coe_inv]

end Cert.Layer

end
-- ==== Proof.EvenInBlocks.lean ====
/- The input projection with the convolution: what each block of the kernel's inputs holds, read at one element as the
   arguments, the tables of the rotation that the host builds among them. -/
module

public import proofs.«01_k».proof.Defs
public import proofs.«01_k».proof.Proof.Gen.EvenInIdeal.Value
public import proofs.«01_k».proof.Proof.InRow

@[expose] public section

set_option maxRecDepth 16384

noncomputable section

open Idealize.ShloMosaic Idealize.ShloMosaic.TcCoe Idealize.SL.Sem

namespace Cert.EvenInIdeal.RowValue

open Cert.EvenInIdeal Cert.EvenInIdeal.Gen Cert.Layer

variable (m : (ℓ : Loc nD τ sig) → Buf (Elt Ideal) ℓ)

/-- The windows and where each stands at a grid point. -/
def idxs (t : Fin grid0.N) : Prop := win0_0.index t = ![t.val / 16, t.val % 16, 0] ∧ win0_1.index t = ![t.val / 16, t.val % 16 * 128 - 1, 0]
    ∧ win0_2.index t = ![t.val / 16, min ((t.val % 16 + 1) * 128) 2047, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val % 16, 0] ∧ win0_10.index t = ![t.val % 16, 0]
    ∧ win0_11.index t = ![t.val % 16, 0] ∧ win0_12.index t = ![0, t.val % 16] ∧ win0_13.index t = ![0, t.val % 16]
    ∧ win0_14.index t = ![t.val / 16, t.val % 16, 0] ∧ win0_15.index t = ![t.val / 16, 0, t.val % 16]
    ∧ win0_16.index t = ![t.val / 16, t.val % 16, 0] ∧ win0_17.index t = ![t.val / 16, 0, t.val % 16]
theorem idx (t : Fin cfg0.N) : idxs t := (by unfold idxs; decide +kernel : ∀ t : Fin grid0.N, idxs t) t

/-- The batch of a grid point. -/
abbrev bat (t : Fin cfg0.N) : Fin 2 := ⟨t.val / 16, by have := (show t.val < 32 from t.isLt); omega⟩

/-- The position that row `r` of the block at a grid point has in its batch. -/
abbrev pos (t : Fin cfg0.N) (r : Fin 1024) : Fin 16384 := ⟨t.val % 16 * 1024 + r.val, by omega⟩

/-- The projected rows of a batch. -/
abbrev P (c : Dev nD) (b : Fin 2) : Fin 16384 → Fin 3072 → EReal :=
  rows (fun s k => m ((c : Thread nD τ).loc main_arg0) (ix3 b s k)) (fun k => m ((c : Thread nD τ).loc main_arg1) (ix1 k))
    (fun k j => m ((c : Thread nD τ).loc main_arg2) (ix2 k j))

/-- The host's test that lane `l` is in the first half of its head of 64, as its remainder of signed integers is printed, -/
def laneTest (l : Fin 128) : BitVec 1 :=
  IntOp.cmpi CmpIPredicate.slt
    (Scalar.select
      (IntOp.andi (IntOp.cmpi CmpIPredicate.ne (IntOp.cmpi CmpIPredicate.slt (IntOp.remsi ArithUnit.host (BitVec.ofNat 32 l.val) (Scalar.select (IntOp.cmpi CmpIPredicate.eq 64#32 0#32) 1#32 64#32)) 0#32) (IntOp.cmpi CmpIPredicate.slt (Scalar.select (IntOp.cmpi CmpIPredicate.eq 64#32 0#32) 1#32 64#32) 0#32))
        (IntOp.cmpi CmpIPredicate.ne (IntOp.remsi ArithUnit.host (BitVec.ofNat 32 l.val) (Scalar.select (IntOp.cmpi CmpIPredicate.eq 64#32 0#32) 1#32 64#32)) 0#32))
      (IntOp.addi (IntOp.remsi ArithUnit.host (BitVec.ofNat 32 l.val) (Scalar.select (IntOp.cmpi CmpIPredicate.eq 64#32 0#32) 1#32 64#32)) (Scalar.select (IntOp.cmpi CmpIPredicate.eq 64#32 0#32) 1#32 64#32)) (IntOp.remsi ArithUnit.host (BitVec.ofNat 32 l.val) (Scalar.select (IntOp.cmpi CmpIPredicate.eq 64#32 0#32) 1#32 64#32)))
    32#32

/-- is that test. -/
theorem laneTest_eq (l : Fin 128) : laneTest l = if l.val % 64 < 32 then 1 else 0 :=
  (by decide +kernel : ∀ l : Fin 128, laneTest l = if l.val % 64 < 32 then 1 else 0) l

/-- The block of rows at a grid point, -/
theorem w0_at (c : Dev nD) (t : Fin cfg0.N) (r : Fin 1024) (k : Fin 1024) :
    iblk m c 0 t (ix3 0 r k) = m ((c : Thread nD τ).loc main_arg0) (ix3 (bat t) (pos t r) k) := by
  have ⟨h0, _⟩ := idx t
  unfold iblk
  entry_read
  blk_ext [h0]

/-- the row before the block, -/
theorem w1_at (c : Dev nD) (t : Fin cfg0.N) (k : Fin 1024) (i : Fin 16384) (h : 1 ≤ t.val % 16) (hi : i.val = t.val % 16 * 1024 - 1) :
    iblk m c 1 t (ix3 0 7 k) = m ((c : Thread nD τ).loc main_arg0) (ix3 (bat t) i k) := by
  have ⟨_, h0, _⟩ := idx t
  unfold iblk
  entry_read
  blk_ext [h0]

/-- and the row behind it. -/
theorem w2_at (c : Dev nD) (t : Fin cfg0.N) (k : Fin 1024) (i : Fin 16384) (h : t.val % 16 < 15) (hi : i.val = t.val % 16 * 1024 + 1024) :
    iblk m c 2 t (ix3 0 0 k) = m ((c : Thread nD τ).loc main_arg0) (ix3 (bat t) i k) := by
  have ⟨_, _, h0, _⟩ := idx t
  unfold iblk
  entry_read
  blk_ext [h0]

/-- The gain, -/
theorem w3_at (c : Dev nD) (t : Fin cfg0.N) (k : Fin 1024) :
    (iblk m c 3 t (ix2 0 k) : EReal) = m ((c : Thread nD τ).loc main_arg1) (ix1 k) := by
  have ⟨_, _, _, h0, _⟩ := idx t
  unfold iblk
  simp only [V, hostOps0, hostOps0_1, hostOps0_2, hostOps0_3, hostOps0_4, hostOps0_5, hostOps0_6, List.flatten_cons, List.flatten_nil, List.cons_append,
    List.nil_append, List.append_nil]
  entry_read
  have e : ((cfg0.win 3).blk t).view.emb (ix2 0 k) = ix2 0 k := by blk_ext [h0]
  rw [View.read_apply, e]
  clear e
  try simp only [StableHlo.TRef.ofBuf_toBuf, StableHlo.TRef.ofBuf, StableHlo.TRef.toBuf, eq_mpr_eq_cast, cast_eq]
  pointwise

/-- the columns of the weights that the rows keep, -/
theorem w4_at (c : Dev nD) (t : Fin cfg0.N) (k : Fin 1024) (j : Fin 2048) :
    (iblk m c 4 t (ix2 k j) : EReal) = if h : j.val < 1536 then m ((c : Thread nD τ).loc main_arg2) (ix2 k ⟨j.val, by omega⟩) else m ((c : Thread nD τ).loc main_arg2) (ix2 k ⟨2048 + (j.val - 1536), by omega⟩) := by
  have ⟨_, _, _, _, h0, _⟩ := idx t
  unfold iblk
  simp only [V, hostOps0, hostOps0_1, hostOps0_2, hostOps0_3, hostOps0_4, hostOps0_5, hostOps0_6, List.flatten_cons, List.flatten_nil, List.cons_append,
    List.nil_append, List.append_nil]
  entry_read
  have e : ((cfg0.win 4).blk t).view.emb (ix2 k j) = ix2 k j := by blk_ext [h0]
  rw [View.read_apply, e]
  clear e
  try simp only [StableHlo.TRef.ofBuf_toBuf, StableHlo.TRef.ofBuf, StableHlo.TRef.toBuf, eq_mpr_eq_cast, cast_eq]
  pointwise

/-- the columns whose products are kept transposed, -/
theorem w5_at (c : Dev nD) (t : Fin cfg0.N) (j k : Fin 1024) :
    (iblk m c 5 t (ix2 j k) : EReal) = if h : j.val < 512 then m ((c : Thread nD τ).loc main_arg2) (ix2 k ⟨1536 + j.val, by omega⟩) else m ((c : Thread nD τ).loc main_arg2) (ix2 k ⟨2560 + (j.val - 512), by omega⟩) := by
  have ⟨_, _, _, _, _, h0, _⟩ := idx t
  unfold iblk
  simp only [V, hostOps0, hostOps0_1, hostOps0_2, hostOps0_3, hostOps0_4, hostOps0_5, hostOps0_6, List.flatten_cons, List.flatten_nil, List.cons_append,
    List.nil_append, List.append_nil]
  entry_read
  have e : ((cfg0.win 5).blk t).view.emb (ix2 j k) = ix2 j k := by blk_ext [h0]
  rw [View.read_apply, e]
  clear e
  try simp only [StableHlo.TRef.ofBuf_toBuf, StableHlo.TRef.ofBuf, StableHlo.TRef.toBuf, eq_mpr_eq_cast, cast_eq]
  pointwise

/-- the taps, -/
theorem w6_at (c : Dev nD) (t : Fin cfg0.N) (a : Fin 3) (j : Fin 512) :
    (iblk m c 6 t (ix2 a j) : EReal) = m ((c : Thread nD τ).loc main_arg3) (ix2 a j) := by
  have ⟨_, _, _, _, _, _, h0, _⟩ := idx t
  unfold iblk
  simp only [V, hostOps0, hostOps0_1, hostOps0_2, hostOps0_3, hostOps0_4, hostOps0_5, hostOps0_6, List.flatten_cons, List.flatten_nil, List.cons_append,
    List.nil_append, List.append_nil]
  entry_read
  have e : ((cfg0.win 6).blk t).view.emb (ix2 a j) = ix2 a j := by blk_ext [h0]
  rw [View.read_apply, e]
  clear e
  simp only [StableHlo.TRef.ofBuf_toBuf, StableHlo.TRef.ofBuf, StableHlo.TRef.toBuf, eq_mpr_eq_cast, cast_eq]

/-- the gain of the query heads, down the rows, -/
theorem w7_at (c : Dev nD) (t : Fin cfg0.N) (j : Fin 512) (r : Fin 1024) :
    (iblk m c 7 t (ix2 j r) : EReal) = m ((c : Thread nD τ).loc main_arg4) (ix1 ⟨j.val % 64, by omega⟩) := by
  have ⟨_, _, _, _, _, _, _, h0, _⟩ := idx t
  unfold iblk
  simp only [V, hostOps0, hostOps0_1, hostOps0_2, hostOps0_3, hostOps0_4, hostOps0_5, hostOps0_6, List.flatten_cons, List.flatten_nil, List.cons_append,
    List.nil_append, List.append_nil]
  entry_read
  have e : ((cfg0.win 7).blk t).view.emb (ix2 j r) = ix2 j r := by blk_ext [h0]
  rw [View.read_apply, e]
  clear e
  try simp only [StableHlo.TRef.ofBuf_toBuf, StableHlo.TRef.ofBuf, StableHlo.TRef.toBuf, eq_mpr_eq_cast, cast_eq]
  pointwise

/-- the gain of the key heads, along the lanes, -/
theorem w8_at (c : Dev nD) (t : Fin cfg0.N) (j : Fin 512) :
    (iblk m c 8 t (ix2 0 j) : EReal) = m ((c : Thread nD τ).loc main_arg5) (ix1 ⟨j.val % 64, by omega⟩) := by
  have ⟨_, _, _, _, _, _, _, _, h0, _⟩ := idx t
  unfold iblk
  simp only [V, hostOps0, hostOps0_1, hostOps0_2, hostOps0_3, hostOps0_4, hostOps0_5, hostOps0_6, List.flatten_cons, List.flatten_nil, List.cons_append,
    List.nil_append, List.append_nil]
  entry_read
  have e : ((cfg0.win 8).blk t).view.emb (ix2 0 j) = ix2 0 j := by blk_ext [h0]
  rw [View.read_apply, e]
  clear e
  try simp only [StableHlo.TRef.ofBuf_toBuf, StableHlo.TRef.ofBuf, StableHlo.TRef.toBuf, eq_mpr_eq_cast, cast_eq]
  pointwise

/-- the cosines by rows, -/
theorem w9_at (c : Dev nD) (t : Fin cfg0.N) (r : Fin 1024) (l : Fin 128) :
    (iblk m c 9 t (ix2 r l) : EReal) = rcos (t.val % 16 * 1024 + r.val) (l.val % 32) := by
  have ⟨_, _, _, _, _, _, _, _, _, h0, _⟩ := idx t
  unfold iblk
  simp only [V, hostOps0, hostOps0_1, hostOps0_2, hostOps0_3, hostOps0_4, hostOps0_5, hostOps0_6, List.flatten_cons, List.flatten_nil, List.cons_append,
    List.nil_append, List.append_nil]
  entry_read
  have e : ((cfg0.win 9).blk t).view.emb (ix2 r l) = ix2 ⟨t.val % 16 * 1024 + r.val, by omega⟩ l := by blk_ext [h0]
  rw [View.read_apply, e]
  clear e
  try simp only [StableHlo.TRef.ofBuf_toBuf, StableHlo.TRef.ofBuf, StableHlo.TRef.toBuf, eq_mpr_eq_cast, cast_eq]
  pointwise
  clear * -
  rfl

/-- the sines by rows on the first half of a head, negated, -/
theorem w10_at (c : Dev nD) (t : Fin cfg0.N) (r : Fin 1024) (l : Fin 128) :
    (iblk m c 10 t (ix2 r l) : EReal) = if l.val % 64 < 32 then -rsin (t.val % 16 * 1024 + r.val) (l.val % 32) else 0 := by
  have ⟨_, _, _, _, _, _, _, _, _, _, h0, _⟩ := idx t
  unfold iblk
  simp only [V, hostOps0, hostOps0_1, hostOps0_2, hostOps0_3, hostOps0_4, hostOps0_5, hostOps0_6, List.flatten_cons, List.flatten_nil, List.cons_append,
    List.nil_append, List.append_nil]
  entry_read
  have e : ((cfg0.win 10).blk t).view.emb (ix2 r l) = ix2 ⟨t.val % 16 * 1024 + r.val, by omega⟩ l := by blk_ext [h0]
  rw [View.read_apply, e]
  clear e
  try simp only [StableHlo.TRef.ofBuf_toBuf, StableHlo.TRef.ofBuf, StableHlo.TRef.toBuf, eq_mpr_eq_cast, cast_eq]
  pointwise
  clear * -
  clear * -
  show Scalar.select (laneTest l) _ _ = _
  rw [laneTest_eq]
  split
  · rfl
  · rfl

/-- those on the second half, -/
theorem w11_at (c : Dev nD) (t : Fin cfg0.N) (r : Fin 1024) (l : Fin 128) :
    (iblk m c 11 t (ix2 r l) : EReal) = if l.val % 64 < 32 then 0 else rsin (t.val % 16 * 1024 + r.val) (l.val % 32) := by
  have ⟨_, _, _, _, _, _, _, _, _, _, _, h0, _⟩ := idx t
  unfold iblk
  simp only [V, hostOps0, hostOps0_1, hostOps0_2, hostOps0_3, hostOps0_4, hostOps0_5, hostOps0_6, List.flatten_cons, List.flatten_nil, List.cons_append,
    List.nil_append, List.append_nil]
  entry_read
  have e : ((cfg0.win 11).blk t).view.emb (ix2 r l) = ix2 ⟨t.val % 16 * 1024 + r.val, by omega⟩ l := by blk_ext [h0]
  rw [View.read_apply, e]
  clear e
  try simp only [StableHlo.TRef.ofBuf_toBuf, StableHlo.TRef.ofBuf, StableHlo.TRef.toBuf, eq_mpr_eq_cast, cast_eq]
  pointwise
  clear * -
  clear * -
  show Scalar.select (laneTest l) _ _ = _
  rw [laneTest_eq]
  split
  · rfl
  · rfl

/-- the cosines by columns, -/
theorem w12_at (c : Dev nD) (t : Fin cfg0.N) (f : Fin 32) (r : Fin 1024) :
    (iblk m c 12 t (ix2 f r) : EReal) = rcos (t.val % 16 * 1024 + r.val) f.val := by
  have ⟨_, _, _, _, _, _, _, _, _, _, _, _, h0, _⟩ := idx t
  unfold iblk
  simp only [V, hostOps0, hostOps0_1, hostOps0_2, hostOps0_3, hostOps0_4, hostOps0_5, hostOps0_6, List.flatten_cons, List.flatten_nil, List.cons_append,
    List.nil_append, List.append_nil]
  entry_read
  have e : ((cfg0.win 12).blk t).view.emb (ix2 f r) = ix2 f ⟨t.val % 16 * 1024 + r.val, by omega⟩ := by blk_ext [h0]
  rw [View.read_apply, e]
  clear e
  try simp only [StableHlo.TRef.ofBuf_toBuf, StableHlo.TRef.ofBuf, StableHlo.TRef.toBuf, eq_mpr_eq_cast, cast_eq]
  pointwise
  clear * -
  rw [mul_comm]
  rfl

/-- and the sines. -/
theorem w13_at (c : Dev nD) (t : Fin cfg0.N) (f : Fin 32) (r : Fin 1024) :
    (iblk m c 13 t (ix2 f r) : EReal) = rsin (t.val % 16 * 1024 + r.val) f.val := by
  have ⟨_, _, _, _, _, _, _, _, _, _, _, _, _, h0, _⟩ := idx t
  unfold iblk
  simp only [V, hostOps0, hostOps0_1, hostOps0_2, hostOps0_3, hostOps0_4, hostOps0_5, hostOps0_6, List.flatten_cons, List.flatten_nil, List.cons_append,
    List.nil_append, List.append_nil]
  entry_read
  have e : ((cfg0.win 13).blk t).view.emb (ix2 f r) = ix2 f ⟨t.val % 16 * 1024 + r.val, by omega⟩ := by blk_ext [h0]
  rw [View.read_apply, e]
  clear e
  try simp only [StableHlo.TRef.ofBuf_toBuf, StableHlo.TRef.ofBuf, StableHlo.TRef.toBuf, eq_mpr_eq_cast, cast_eq]
  pointwise
  clear * -
  rw [mul_comm]
  rfl

end Cert.EvenInIdeal.RowValue

end
-- ==== Proof.EvenInRows.lean ====
/- The input projection with the convolution: the projected rows of a block, as the kernel holds them, are the rows of
   InRow.lean of the arguments. -/
module

public import proofs.«01_k».proof.Defs
public import proofs.«01_k».proof.Proof.Gen.EvenInIdeal.Value
public import proofs.«01_k».proof.Proof.InRow
public import proofs.«01_k».proof.Proof.EvenInBlocks

@[expose] public section

set_option maxRecDepth 16384

noncomputable section

open Idealize.ShloMosaic Idealize.ShloMosaic.TcCoe Idealize.SL.Sem

namespace Cert.EvenInIdeal.RowValue

open Cert.EvenInIdeal Cert.EvenInIdeal.Gen Cert.Layer

section Payloads

variable (g : Vec Ideal S1x1024 .f32) (x : Vec Ideal S1x256x1024 .f32) (w : Vec Ideal S1024x2048 .bf16) (v : Vec Ideal S1024x1024 .bf16)

/-! The products of the four blocks of 256 rows with the columns kept by rows, -/

theorem tok0 (r : Fin 256) (j : Fin 2048) : k0_pay7 (k0_pay2 g) x w (ix2 r j) = proj (fun k => x (ix3 0 r k)) (fun k => g (ix2 0 k)) (fun k => w (ix2 k j)) := by
  pointwise [k0_pay2, k0_pay6, k0_pay7]
  rfl

theorem tok1 (r : Fin 256) (j : Fin 2048) : k0_pay10 (k0_pay2 g) x w (ix2 r j) = proj (fun k => x (ix3 0 r k)) (fun k => g (ix2 0 k)) (fun k => w (ix2 k j)) := by
  pointwise [k0_pay2, k0_pay9, k0_pay10]
  rfl

theorem tok2 (r : Fin 256) (j : Fin 2048) : k0_pay13 (k0_pay2 g) x w (ix2 r j) = proj (fun k => x (ix3 0 r k)) (fun k => g (ix2 0 k)) (fun k => w (ix2 k j)) := by
  pointwise [k0_pay2, k0_pay12, k0_pay13]
  rfl

theorem tok3 (r : Fin 256) (j : Fin 2048) : k0_pay16 (k0_pay15 (k0_pay2 g) x) w (ix2 r j) = proj (fun k => x (ix3 0 r k)) (fun k => g (ix2 0 k)) (fun k => w (ix2 k j)) := by
  pointwise [k0_pay2, k0_pay15, k0_pay16]
  rfl

/-! with the columns kept transposed, -/

theorem flip0 (r : Fin 256) (j : Fin 1024) : k0_pay8 (k0_pay2 g) x v (ix2 j r) = proj (fun k => x (ix3 0 r k)) (fun k => g (ix2 0 k)) (fun k => v (ix2 j k)) := by
  pointwise [k0_pay2, k0_pay6, k0_pay8]
  exact proj_comm _ _ _

theorem flip1 (r : Fin 256) (j : Fin 1024) : k0_pay11 (k0_pay9 (k0_pay2 g) x) v (ix2 j r) = proj (fun k => x (ix3 0 r k)) (fun k => g (ix2 0 k)) (fun k => v (ix2 j k)) := by
  pointwise [k0_pay2, k0_pay9, k0_pay11]
  exact proj_comm _ _ _

theorem flip2 (r : Fin 256) (j : Fin 1024) : k0_pay14 (k0_pay2 g) x v (ix2 j r) = proj (fun k => x (ix3 0 r k)) (fun k => g (ix2 0 k)) (fun k => v (ix2 j k)) := by
  pointwise [k0_pay2, k0_pay12, k0_pay14]
  exact proj_comm _ _ _

theorem flip3 (r : Fin 256) (j : Fin 1024) : k0_pay17 (k0_pay15 (k0_pay2 g) x) v (ix2 j r) = proj (fun k => x (ix3 0 r k)) (fun k => g (ix2 0 k)) (fun k => v (ix2 j k)) := by
  pointwise [k0_pay2, k0_pay15, k0_pay17]
  exact proj_comm _ _ _

/-! and the inputs of the convolution. -/

theorem z0 (T : FVec Ideal S256x2048 .f32) (r : Fin 256) (j : Fin 512) : k0_pay18 T (ix2 r j) = T (ix2 r ⟨512 + j.val, by omega⟩) * T (ix2 r ⟨1024 + j.val, by omega⟩) := by
  pointwise [k0_pay18]

theorem z1 (T : FVec Ideal S256x2048 .f32) (r : Fin 256) (j : Fin 512) : k0_pay19 T (ix2 r j) = T (ix2 r ⟨512 + j.val, by omega⟩) * T (ix2 r ⟨1024 + j.val, by omega⟩) := by
  pointwise [k0_pay19]

theorem z2 (T : FVec Ideal S256x2048 .f32) (r : Fin 256) (j : Fin 512) : k0_pay20 T (ix2 r j) = T (ix2 r ⟨512 + j.val, by omega⟩) * T (ix2 r ⟨1024 + j.val, by omega⟩) := by
  pointwise [k0_pay20]

theorem z3 (r : Fin 256) (j : Fin 512) : k0_pay21 (k0_pay15 (k0_pay2 g) x) w (ix2 r j)
    = k0_pay16 (k0_pay15 (k0_pay2 g) x) w (ix2 r ⟨512 + j.val, by omega⟩) * k0_pay16 (k0_pay15 (k0_pay2 g) x) w (ix2 r ⟨1024 + j.val, by omega⟩) := by
  rw [tok3, tok3]
  pointwise [k0_pay2, k0_pay15, k0_pay16, k0_pay21]
  rfl

end Payloads

variable (m : (ℓ : Loc nD τ sig) → Buf (Elt Ideal) ℓ)

/-- The column of the weights that is column `j` of those kept by rows, -/
def kept (j : Fin 2048) : Fin 3072 := if h : j.val < 1536 then ⟨j.val, by omega⟩ else ⟨2048 + (j.val - 1536), by omega⟩

/-- and of those kept transposed. -/
def flipped (j : Fin 1024) : Fin 3072 := if h : j.val < 512 then ⟨1536 + j.val, by omega⟩ else ⟨2560 + (j.val - 512), by omega⟩

theorem w4_kept (c : Dev nD) (t : Fin cfg0.N) (k : Fin 1024) (j : Fin 2048) :
    iblk m c 4 t (ix2 k j) = m ((c : Thread nD τ).loc main_arg2) (ix2 k (kept j)) := by
  refine (w4_at m c t k j).trans ?_
  unfold kept
  split <;> rfl

theorem w5_flipped (c : Dev nD) (t : Fin cfg0.N) (k j : Fin 1024) :
    iblk m c 5 t (ix2 j k) = m ((c : Thread nD τ).loc main_arg2) (ix2 k (flipped j)) := by
  refine (w5_at m c t j k).trans ?_
  unfold flipped
  split <;> rfl

/-! The blocks of the projected rows at a grid point. -/

abbrev T0 (c : Dev nD) (t : Fin cfg0.N) : FVec Ideal S256x2048 .f32 :=
  k0_pay282 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

abbrev T1 (c : Dev nD) (t : Fin cfg0.N) : FVec Ideal S256x2048 .f32 :=
  k0_pay284 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

abbrev T2 (c : Dev nD) (t : Fin cfg0.N) : FVec Ideal S256x2048 .f32 :=
  k0_pay286 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

abbrev T3 (c : Dev nD) (t : Fin cfg0.N) : FVec Ideal S256x2048 .f32 :=
  k0_pay289 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

abbrev Q0 (c : Dev nD) (t : Fin cfg0.N) : FVec Ideal S1024x256 .f32 :=
  k0_pay283 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

abbrev Q1 (c : Dev nD) (t : Fin cfg0.N) : FVec Ideal S1024x256 .f32 :=
  k0_pay285 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

abbrev Q2 (c : Dev nD) (t : Fin cfg0.N) : FVec Ideal S1024x256 .f32 :=
  k0_pay287 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

abbrev Q3 (c : Dev nD) (t : Fin cfg0.N) : FVec Ideal S1024x256 .f32 :=
  k0_pay290 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

theorem T0_at (c : Dev nD) (t : Fin cfg0.N) (r : Fin 256) (j : Fin 2048) :
    T0 m c t (ix2 r j) = P m c (bat t) (pos t ⟨r.val, by omega⟩) (kept j) := by
  refine (tok0 _ _ _ r j).trans (proj_congr (fun k => ?_) (fun k => ?_) fun k => ?_)
  · pointwise
    exact w0_at m c t _ k
  · pointwise
    exact w3_at m c t k
  · pointwise
    exact w4_kept m c t k j

theorem Q0_at (c : Dev nD) (t : Fin cfg0.N) (r : Fin 256) (j : Fin 1024) :
    Q0 m c t (ix2 j r) = P m c (bat t) (pos t ⟨r.val, by omega⟩) (flipped j) := by
  refine (flip0 _ _ _ r j).trans (proj_congr (fun k => ?_) (fun k => ?_) fun k => ?_)
  · pointwise
    exact w0_at m c t _ k
  · pointwise
    exact w3_at m c t k
  · pointwise
    exact w5_flipped m c t k j

theorem T1_at (c : Dev nD) (t : Fin cfg0.N) (r : Fin 256) (j : Fin 2048) :
    T1 m c t (ix2 r j) = P m c (bat t) (pos t ⟨256 + r.val, by omega⟩) (kept j) := by
  refine (tok1 _ _ _ r j).trans (proj_congr (fun k => ?_) (fun k => ?_) fun k => ?_)
  · pointwise
    exact w0_at m c t _ k
  · pointwise
    exact w3_at m c t k
  · pointwise
    exact w4_kept m c t k j

theorem Q1_at (c : Dev nD) (t : Fin cfg0.N) (r : Fin 256) (j : Fin 1024) :
    Q1 m c t (ix2 j r) = P m c (bat t) (pos t ⟨256 + r.val, by omega⟩) (flipped j) := by
  refine (flip1 _ _ _ r j).trans (proj_congr (fun k => ?_) (fun k => ?_) fun k => ?_)
  · pointwise
    exact w0_at m c t _ k
  · pointwise
    exact w3_at m c t k
  · pointwise
    exact w5_flipped m c t k j

theorem T2_at (c : Dev nD) (t : Fin cfg0.N) (r : Fin 256) (j : Fin 2048) :
    T2 m c t (ix2 r j) = P m c (bat t) (pos t ⟨512 + r.val, by omega⟩) (kept j) := by
  refine (tok2 _ _ _ r j).trans (proj_congr (fun k => ?_) (fun k => ?_) fun k => ?_)
  · pointwise
    exact w0_at m c t _ k
  · pointwise
    exact w3_at m c t k
  · pointwise
    exact w4_kept m c t k j

theorem Q2_at (c : Dev nD) (t : Fin cfg0.N) (r : Fin 256) (j : Fin 1024) :
    Q2 m c t (ix2 j r) = P m c (bat t) (pos t ⟨512 + r.val, by omega⟩) (flipped j) := by
  refine (flip2 _ _ _ r j).trans (proj_congr (fun k => ?_) (fun k => ?_) fun k => ?_)
  · pointwise
    exact w0_at m c t _ k
  · pointwise
    exact w3_at m c t k
  · pointwise
    exact w5_flipped m c t k j

theorem T3_at (c : Dev nD) (t : Fin cfg0.N) (r : Fin 256) (j : Fin 2048) :
    T3 m c t (ix2 r j) = P m c (bat t) (pos t ⟨768 + r.val, by omega⟩) (kept j) := by
  refine (tok3 _ _ _ r j).trans (proj_congr (fun k => ?_) (fun k => ?_) fun k => ?_)
  · pointwise
    exact w0_at m c t _ k
  · pointwise
    exact w3_at m c t k
  · pointwise
    exact w4_kept m c t k j

theorem Q3_at (c : Dev nD) (t : Fin cfg0.N) (r : Fin 256) (j : Fin 1024) :
    Q3 m c t (ix2 j r) = P m c (bat t) (pos t ⟨768 + r.val, by omega⟩) (flipped j) := by
  refine (flip3 _ _ _ r j).trans (proj_congr (fun k => ?_) (fun k => ?_) fun k => ?_)
  · pointwise
    exact w0_at m c t _ k
  · pointwise
    exact w3_at m c t k
  · pointwise
    exact w5_flipped m c t k j

end Cert.EvenInIdeal.RowValue

end
-- ==== Proof.EvenInConv.lean ====
/- The input projection with the convolution: the kernel's convolution on a block, read at one element. The rows before
   and behind a block of 256 come from its neighbours, or from the halo at the ends of a block of 1024. -/
module

public import proofs.«01_k».proof.Defs
public import proofs.«01_k».proof.Proof.Gen.EvenInIdeal.Value
public import proofs.«01_k».proof.Proof.InRow

@[expose] public section

set_option maxRecDepth 16384

noncomputable section

open Idealize.ShloMosaic Idealize.ShloMosaic.TcCoe Idealize.SL.Sem

namespace Cert.EvenInIdeal.RowValue

open Cert.EvenInIdeal Cert.EvenInIdeal.Gen Cert.Layer

/-- One block's convolution as the kernel takes it: the rows are rotated, and the row that comes around is replaced. -/
def tap (p c0 c1 c2 : EReal) (r : Fin 256) (a b : EReal) (z : Fin 256 → EReal) : EReal :=
  p * (c0 * Scalar.select (IntOp.cmpi CmpIPredicate.eq (BitVec.ofNat 32 r.val) 0#32) a (z ⟨(r.val + 256 - 1) % 256, by omega⟩) + c1 * z r
    + c2 * Scalar.select (IntOp.cmpi CmpIPredicate.eq (BitVec.ofNat 32 r.val) 255#32) b (z ⟨(r.val + 256 - 255) % 256, by omega⟩))

theorem isFirst (r : Fin 256) : IntOp.cmpi CmpIPredicate.eq (BitVec.ofNat 32 r.val) 0#32 = if r.val = 0 then 1 else 0 :=
  (by decide +kernel : ∀ r : Fin 256, IntOp.cmpi CmpIPredicate.eq (BitVec.ofNat 32 r.val) 0#32 = if r.val = 0 then 1 else 0) r

theorem isLast (r : Fin 256) : IntOp.cmpi CmpIPredicate.eq (BitVec.ofNat 32 r.val) 255#32 = if r.val = 255 then 1 else 0 :=
  (by decide +kernel : ∀ r : Fin 256, IntOp.cmpi CmpIPredicate.eq (BitVec.ofNat 32 r.val) 255#32 = if r.val = 255 then 1 else 0) r

/-- It is the convolution of the rows, where the block and its two neighbouring rows are those of the padded input. -/
theorem tap_eq (P : Fin 16384 → Fin 3072 → EReal) (cw : Fin 3 → Fin 512 → EReal) (s : Fin 16384) (j : Fin 512) (S : ℕ) (r : Fin 256)
    (hs : s.val = S + r.val) (p c0 c1 c2 a b : EReal) (h0 : c0 = cw 0 j) (h1 : c1 = cw 1 j) (h2 : c2 = cw 2 j) (z : Fin 256 → EReal) (hp : p = P s ⟨j.val, by omega⟩) (ha : a = zpad P S j)
    (hz : ∀ q : Fin 256, z q = zpad P (S + q.val + 1) j) (hb : b = zpad P (S + 257) j) :
    tap p c0 c1 c2 r a b z = conv P cw s j := by
  have e1 : Scalar.select (IntOp.cmpi CmpIPredicate.eq (BitVec.ofNat 32 r.val) 0#32) a (z ⟨(r.val + 256 - 1) % 256, by omega⟩) = zpad P s.val j := by
    rw [isFirst]
    by_cases h : r.val = 0
    · rw [if_pos h]
      show a = _
      rw [ha, hs, h, Nat.add_zero]
    · rw [if_neg h]
      show z _ = _
      rw [hz]
      exact congrArg (fun n => zpad P n j) (by show S + (r.val + 256 - 1) % 256 + 1 = s.val; omega)
  have e2 : Scalar.select (IntOp.cmpi CmpIPredicate.eq (BitVec.ofNat 32 r.val) 255#32) b (z ⟨(r.val + 256 - 255) % 256, by omega⟩) = zpad P (2 + s.val) j := by
    rw [isLast]
    by_cases h : r.val = 255
    · rw [if_pos h]
      show b = _
      rw [hb]
      exact congrArg (fun n => zpad P n j) (by omega)
    · rw [if_neg h]
      show z _ = _
      rw [hz]
      exact congrArg (fun n => zpad P n j) (by show S + (r.val + 256 - 255) % 256 + 1 = 2 + s.val; omega)
  unfold tap conv
  rw [e1, e2, h0, h1, h2, hp, hz, show S + r.val + 1 = 1 + s.val by omega]

/-! What the four stores write. -/

theorem conv0 (T : FVec Ideal S256x2048 .f32) (Tn : FVec Ideal S256x2048 .f32) (z0 : FVec Ideal S256x512 .f32) (a : FVec Ideal S1x512 .f32) (cw : Vec Ideal S3x512 .f32) (r : Fin 256) (j : Fin 512) :
    k0_pay73 cw a T z0 (k0_pay22 Tn) (ix3 0 r j)
      = tap (T (ix2 r ⟨j.val, by omega⟩)) (cw (ix2 0 j)) (cw (ix2 1 j)) (cw (ix2 2 j)) r (a (ix2 0 j)) (Tn (ix2 0 ⟨512 + j.val, by omega⟩) * Tn (ix2 0 ⟨1024 + j.val, by omega⟩)) (fun q => z0 (ix2 q j)) := by
  pointwise [k0_pay19, k0_pay22, k0_pay73]
  rfl

theorem conv1 (T : FVec Ideal S256x2048 .f32) (z0 z1 z2 : FVec Ideal S256x512 .f32) (cw : Vec Ideal S3x512 .f32) (r : Fin 256) (j : Fin 512) :
    k0_pay138 T (k0_pay136 cw z1 (k0_pay81 z0)) (k0_pay137 cw z1 (k0_pay82 z2)) (ix3 0 r j)
      = tap (T (ix2 r ⟨j.val, by omega⟩)) (cw (ix2 0 j)) (cw (ix2 1 j)) (cw (ix2 2 j)) r (z0 (ix2 255 j)) (z2 (ix2 0 j)) (fun q => z1 (ix2 q j)) := by
  pointwise [k0_pay81, k0_pay82, k0_pay136, k0_pay137, k0_pay138]
  rfl

theorem conv2 (T : FVec Ideal S256x2048 .f32) (z1 z2 z3 : FVec Ideal S256x512 .f32) (cw : Vec Ideal S3x512 .f32) (r : Fin 256) (j : Fin 512) :
    k0_pay205 cw T z2 (k0_pay203 z2 (k0_pay149 z1)) (k0_pay204 z2 (k0_pay150 z3)) (ix3 0 r j)
      = tap (T (ix2 r ⟨j.val, by omega⟩)) (cw (ix2 0 j)) (cw (ix2 1 j)) (cw (ix2 2 j)) r (z1 (ix2 255 j)) (z3 (ix2 0 j)) (fun q => z2 (ix2 q j)) := by
  pointwise [k0_pay149, k0_pay150, k0_pay203, k0_pay204, k0_pay205]
  rfl

theorem conv3 (T : FVec Ideal S256x2048 .f32) (z2 z3 : FVec Ideal S256x512 .f32) (a : FVec Ideal S1x512 .f32) (cw : Vec Ideal S3x512 .f32) (r : Fin 256) (j : Fin 512) :
    k0_pay271 cw a T z3 (iota .tc S256x512 32 [0] iota_S256x512_d0_w32) k0_pay268 (k0_pay269 z3) (k0_pay270 (k0_pay217 z2)) (ix3 0 r j)
      = tap (T (ix2 r ⟨j.val, by omega⟩)) (cw (ix2 0 j)) (cw (ix2 1 j)) (cw (ix2 2 j)) r (z2 (ix2 255 j)) (a (ix2 0 j)) (fun q => z3 (ix2 q j)) := by
  pointwise [k0_pay217, k0_pay268, k0_pay269, k0_pay270, k0_pay271]
  rfl

/-- The row before the block, in the halo's first half, or zero at the beginning of a batch, -/
theorem before (i : grid0.Coords) (g : Vec Ideal S1x1024 .f32) (x y : Vec Ideal S1x8x1024 .f32) (w : Vec Ideal S1024x1024 .bf16) (j : Fin 512) :
    k0_pay4 i g x y w (ix2 0 j)
      = Scalar.select (IntOp.cmpi CmpIPredicate.sgt (BitVec.ofNat 32 (i 1).val) 0#32)
          (proj (fun k => x (ix3 0 7 k)) (fun k => g (ix2 0 k)) (fun k => w (ix2 k ⟨j.val, by omega⟩))
            * proj (fun k => x (ix3 0 7 k)) (fun k => g (ix2 0 k)) (fun k => w (ix2 k ⟨512 + j.val, by omega⟩))) 0 := by
  pointwise [k0_pay4, k0_pay3, k0_pay2]
  rfl

/-- and the row behind it, in the second half, or zero at the end. -/
theorem behind (i : grid0.Coords) (g : Vec Ideal S1x1024 .f32) (x y : Vec Ideal S1x8x1024 .f32) (w : Vec Ideal S1024x1024 .bf16) (j : Fin 512) :
    k0_pay5 i g x y w (ix2 0 j)
      = Scalar.select (IntOp.cmpi CmpIPredicate.slt (BitVec.ofNat 32 (i 1).val) 15#32)
          (proj (fun k => y (ix3 0 0 k)) (fun k => g (ix2 0 k)) (fun k => w (ix2 k ⟨j.val, by omega⟩))
            * proj (fun k => y (ix3 0 0 k)) (fun k => g (ix2 0 k)) (fun k => w (ix2 k ⟨512 + j.val, by omega⟩))) 0 := by
  pointwise [k0_pay5, k0_pay3, k0_pay2]
  rfl

end Cert.EvenInIdeal.RowValue

end
-- ==== Proof.EvenInKeys.lean ====
/- The input projection with the convolution: what each store of the keys writes, read at one element. Two heads lie in
   each 128 lanes; the scale of each head is taken over its half of the lanes, and a head is turned by rotating all the
   lanes by 32 either way and taking what comes around times zero. -/
module

public import proofs.«01_k».proof.Defs
public import proofs.«01_k».proof.Proof.Gen.EvenInIdeal.Value
public import proofs.«01_k».proof.Proof.InRow

@[expose] public section

set_option maxRecDepth 16384

noncomputable section

open Idealize.ShloMosaic Idealize.ShloMosaic.TcCoe Idealize.SL.Sem

namespace Cert.EvenInIdeal.RowValue

open Cert.EvenInIdeal Cert.EvenInIdeal.Gen Cert.Layer

theorem lowHalf (x : Fin 128) : IntOp.cmpi CmpIPredicate.slt (BitVec.ofNat 32 x.val) 64#32 = if x.val < 64 then 1 else 0 :=
  (by decide +kernel : ∀ x : Fin 128, IntOp.cmpi CmpIPredicate.slt (BitVec.ofNat 32 x.val) 64#32 = if x.val < 64 then 1 else 0) x

/-- The scale of lane `l` of a pair of heads, as the kernel takes it, -/
def pairScale (t : Fin 128 → EReal) (l : ℕ) : EReal :=
  Ideal.rsqrt (Scalar.select (IntOp.cmpi CmpIPredicate.slt (BitVec.ofNat 32 l) 64#32)
      (∑ x : Fin 128, Scalar.select (IntOp.cmpi CmpIPredicate.slt (BitVec.ofNat 32 x.val) 64#32) (t x * t x) 0)
      (∑ x : Fin 128, Scalar.select (IntOp.cmpi CmpIPredicate.slt (BitVec.ofNat 32 x.val) 64#32) 0 (t x * t x))
    * Ideal.ofBits .f32 0x3C800000#32 + Ideal.ofBits .f32 0x358637BD#32)

theorem lowSum (t : Fin 128 → EReal) :
    ∑ x : Fin 128, Scalar.select (IntOp.cmpi CmpIPredicate.slt (BitVec.ofNat 32 x.val) 64#32) (t x) 0 = ∑ i : Fin 64, t ⟨i.val, by omega⟩ := by
  rw [Fin.sum_univ_add (a := 64) (b := 64) (fun x : Fin 128 => Scalar.select (IntOp.cmpi CmpIPredicate.slt (BitVec.ofNat 32 x.val) 64#32) (t x) 0)]
  have h1 : ∀ i : Fin 64, Scalar.select (IntOp.cmpi CmpIPredicate.slt (BitVec.ofNat 32 (Fin.castAdd 64 i).val) 64#32) (t (Fin.castAdd 64 i)) 0 = t ⟨i.val, by omega⟩ := by
    intro i
    rw [lowHalf (Fin.castAdd 64 i), if_pos (by show i.val < 64; omega)]
    rfl
  have h2 : ∀ i : Fin 64, Scalar.select (IntOp.cmpi CmpIPredicate.slt (BitVec.ofNat 32 (Fin.natAdd 64 i).val) 64#32) (t (Fin.natAdd 64 i)) 0 = 0 := by
    intro i
    rw [lowHalf (Fin.natAdd 64 i), if_neg (by show ¬64 + i.val < 64; omega)]
    rfl
  rw [Finset.sum_congr rfl fun i _ => h1 i, Finset.sum_congr rfl fun i _ => h2 i, Finset.sum_const_zero, add_zero]

theorem highSum (t : Fin 128 → EReal) :
    ∑ x : Fin 128, Scalar.select (IntOp.cmpi CmpIPredicate.slt (BitVec.ofNat 32 x.val) 64#32) 0 (t x) = ∑ i : Fin 64, t ⟨64 + i.val, by omega⟩ := by
  rw [Fin.sum_univ_add (a := 64) (b := 64) (fun x : Fin 128 => Scalar.select (IntOp.cmpi CmpIPredicate.slt (BitVec.ofNat 32 x.val) 64#32) 0 (t x))]
  have h1 : ∀ i : Fin 64, Scalar.select (IntOp.cmpi CmpIPredicate.slt (BitVec.ofNat 32 (Fin.castAdd 64 i).val) 64#32) 0 (t (Fin.castAdd 64 i)) = 0 := by
    intro i
    rw [lowHalf (Fin.castAdd 64 i), if_pos (by show i.val < 64; omega)]
    rfl
  have h2 : ∀ i : Fin 64, Scalar.select (IntOp.cmpi CmpIPredicate.slt (BitVec.ofNat 32 (Fin.natAdd 64 i).val) 64#32) 0 (t (Fin.natAdd 64 i)) = t ⟨64 + i.val, by omega⟩ := by
    intro i
    rw [lowHalf (Fin.natAdd 64 i), if_neg (by show ¬64 + i.val < 64; omega)]
    rfl
  rw [Finset.sum_congr rfl fun i _ => h1 i, Finset.sum_congr rfl fun i _ => h2 i, Finset.sum_const_zero, zero_add]

/-- is the scale of the head the lane is in. -/
theorem pairScale_eq (t : Fin 128 → EReal) (l : Fin 128) (u : Fin 64 → EReal) (hu : ∀ i : Fin 64, u i = t ⟨l.val / 64 * 64 + i.val, by omega⟩) :
    pairScale t l.val = Ideal.rsqrt (Ideal.div (∑ i : Fin 64, u i * u i) (Ideal.ofBits .f32 0x42800000#32) + Ideal.ofBits .f32 0x358637BD#32) := by
  unfold pairScale
  rw [lowSum (fun x => t x * t x), highSum (fun x => t x * t x), lowHalf, mul_eq_div64]
  by_cases h : l.val < 64
  · rw [if_pos h]
    show Ideal.rsqrt (Ideal.div (∑ i : Fin 64, t ⟨i.val, by omega⟩ * t ⟨i.val, by omega⟩) _ + _) = _
    rw [Finset.sum_congr rfl fun i _ => show t ⟨i.val, by omega⟩ * t ⟨i.val, by omega⟩ = u i * u i by
      rw [hu]; rw [show (⟨l.val / 64 * 64 + i.val, by omega⟩ : Fin 128) = ⟨i.val, by omega⟩ from Fin.ext (by show l.val / 64 * 64 + i.val = i.val; omega)]]
  · rw [if_neg h]
    show Ideal.rsqrt (Ideal.div (∑ i : Fin 64, t ⟨64 + i.val, by omega⟩ * t ⟨64 + i.val, by omega⟩) _ + _) = _
    rw [Finset.sum_congr rfl fun i _ => show t ⟨64 + i.val, by omega⟩ * t ⟨64 + i.val, by omega⟩ = u i * u i by
      rw [hu]; rw [show (⟨l.val / 64 * 64 + i.val, by omega⟩ : Fin 128) = ⟨64 + i.val, by omega⟩ from Fin.ext (by show l.val / 64 * 64 + i.val = 64 + i.val; omega)]]

/-- The scales of four pairs side by side, -/
def scales (t : Fin 512 → EReal) (j : Fin 512) : EReal :=
  if j.val < 128 then pairScale (fun x => t ⟨x.val, by omega⟩) j.val
  else if j.val - 128 < 128 then pairScale (fun x => t ⟨128 + x.val, by omega⟩) (j.val - 128)
  else if j.val - 128 - 128 < 128 then pairScale (fun x => t ⟨256 + x.val, by omega⟩) (j.val - 128 - 128)
  else pairScale (fun x => t ⟨384 + x.val, by omega⟩) (j.val - 128 - 128 - 128)

/-- and a table of 128 lanes laid out four times. -/
def four (C : Fin 128 → EReal) (j : Fin 512) : EReal :=
  if h : j.val < 128 then C ⟨j.val, h⟩
  else if h : j.val - 128 < 128 then C ⟨j.val - 128, h⟩
  else if h : j.val - 128 - 128 < 128 then C ⟨j.val - 128 - 128, h⟩
  else C ⟨j.val - 128 - 128 - 128, by omega⟩

theorem four_eq (C : Fin 128 → EReal) (j : Fin 512) : four C j = C ⟨j.val % 128, by omega⟩ := by
  unfold four
  split
  · exact congrArg C (Fin.ext (by show j.val = j.val % 128; omega))
  split
  · exact congrArg C (Fin.ext (by show j.val - 128 = j.val % 128; omega))
  split
  · exact congrArg C (Fin.ext (by show j.val - 128 - 128 = j.val % 128; omega))
  · exact congrArg C (Fin.ext (by show j.val - 128 - 128 - 128 = j.val % 128; omega))

/-- A scaled key, -/
def scaledKey (t g : Fin 512 → EReal) (j : Fin 512) : EReal := t j * scales t j * g j

/-- and a turned one, as the kernel takes them. -/
def turnedKey (t g : Fin 512 → EReal) (C A B : Fin 128 → EReal) (j : Fin 512) : EReal :=
  scaledKey t g j * four C j + scaledKey t g ⟨(j.val + 512 - 480) % 512, by omega⟩ * four A j
    + scaledKey t g ⟨(j.val + 512 - 32) % 512, by omega⟩ * four B j

/-- The scaled key is the scaled head of the projected row, -/
theorem scaledKey_eq (p : Fin 3072 → EReal) (n : Fin 64 → EReal) (t g : Fin 512 → EReal) (ht : ∀ i : Fin 512, t i = p ⟨2048 + i.val, by omega⟩)
    (hg : ∀ i : Fin 512, g i = n ⟨i.val % 64, by omega⟩) (j : Fin 512) (e : Fin 8) (d : Fin 64) (hj : j.val = e.val * 64 + d.val) :
    scaledKey t g j = headNorm (cut p 2048 (by omega) e) n d := by
  have hc : t j = cut p 2048 (by omega) e d := by
    rw [ht]
    exact congrArg p (Fin.ext (by show 2048 + j.val = 2048 + (e.val * 64 + d.val); omega))
  have hd : g j = n d := by
    rw [hg]
    exact congrArg n (Fin.ext (by show j.val % 64 = d.val; omega))
  have hs : scales t j = Ideal.rsqrt (Ideal.div (∑ i : Fin 64, cut p 2048 (by omega) e i * cut p 2048 (by omega) e i) (Ideal.ofBits .f32 0x42800000#32)
      + Ideal.ofBits .f32 0x358637BD#32) := by
    unfold scales
    split
    · next h =>
      refine pairScale_eq _ ⟨j.val, h⟩ _ fun i => ?_
      show cut p 2048 _ e i = t _
      rw [ht]
      exact congrArg p (Fin.ext (by show 2048 + (e.val * 64 + i.val) = 2048 + (j.val / 64 * 64 + i.val); omega))
    split
    · next h =>
      refine pairScale_eq _ ⟨j.val - 128, h⟩ _ fun i => ?_
      show cut p 2048 _ e i = t _
      rw [ht]
      exact congrArg p (Fin.ext (by show 2048 + (e.val * 64 + i.val) = 2048 + (128 + ((j.val - 128) / 64 * 64 + i.val)); omega))
    split
    · next h =>
      refine pairScale_eq _ ⟨j.val - 128 - 128, h⟩ _ fun i => ?_
      show cut p 2048 _ e i = t _
      rw [ht]
      exact congrArg p (Fin.ext (by show 2048 + (e.val * 64 + i.val) = 2048 + (256 + ((j.val - 128 - 128) / 64 * 64 + i.val)); omega))
    · next h =>
      refine pairScale_eq _ ⟨j.val - 128 - 128 - 128, by omega⟩ _ fun i => ?_
      show cut p 2048 _ e i = t _
      rw [ht]
      exact congrArg p (Fin.ext (by show 2048 + (e.val * 64 + i.val) = 2048 + (384 + ((j.val - 128 - 128 - 128) / 64 * 64 + i.val)); omega))
  unfold scaledKey headNorm
  rw [hs, hd, hc]

/-- and the turned one is that head turned, where the tables hold the cosines and the signed sines. -/
theorem turnedKey_eq (p : Fin 3072 → EReal) (n : Fin 64 → EReal) (t g : Fin 512 → EReal) (C A B : Fin 128 → EReal) (s : ℕ)
    (ht : ∀ i : Fin 512, t i = p ⟨2048 + i.val, by omega⟩) (hg : ∀ i : Fin 512, g i = n ⟨i.val % 64, by omega⟩)
    (hC : ∀ l : Fin 128, C l = rcos s (l.val % 32)) (hA : ∀ l : Fin 128, A l = if l.val % 64 < 32 then -rsin s (l.val % 32) else 0)
    (hB : ∀ l : Fin 128, B l = if l.val % 64 < 32 then 0 else rsin s (l.val % 32)) (j : Fin 512) :
    turnedKey t g C A B j = turned p 2048 (by omega) n s j := by
  unfold turnedKey turned rope
  rw [four_eq, four_eq, four_eq, hC, hA, hB]
  rw [scaledKey_eq p n t g ht hg j ⟨j.val / 64, by omega⟩ ⟨j.val % 64, by omega⟩ (by show j.val = j.val / 64 * 64 + j.val % 64; omega)]
  by_cases h : j.val % 64 < 32
  · have hl : j.val % 128 % 64 < 32 := by omega
    rw [if_pos hl, if_pos hl, dif_pos h]
    rw [scaledKey_eq p n t g ht hg ⟨(j.val + 512 - 480) % 512, by omega⟩ ⟨j.val / 64, by omega⟩ ⟨32 + j.val % 64, by omega⟩
      (by show (j.val + 512 - 480) % 512 = j.val / 64 * 64 + (32 + j.val % 64); omega)]
    rw [mul_zero, add_zero, mul_neg, ← sub_eq_add_neg, show j.val % 128 % 32 = j.val % 64 by omega]
  · have hl : ¬j.val % 128 % 64 < 32 := by omega
    rw [if_neg hl, if_neg hl, dif_neg h]
    rw [scaledKey_eq p n t g ht hg ⟨(j.val + 512 - 32) % 512, by omega⟩ ⟨j.val / 64, by omega⟩ ⟨j.val % 64 - 32, by omega⟩
      (by show (j.val + 512 - 32) % 512 = j.val / 64 * 64 + (j.val % 64 - 32); omega)]
    rw [mul_zero, add_zero, show j.val % 128 % 32 = j.val % 64 - 32 by omega, add_comm]
    exact congrArg (fun d => _ + headNorm _ n d * _) (Fin.ext (by show j.val % 64 = 32 + (j.val % 64 - 32); omega))

/-! What the four stores write. -/

theorem keys0 (T : FVec Ideal S256x2048 .f32) (g : Vec Ideal S1x512 .f32) (C A B : Vec Ideal S256x128 .f32) (r : Fin 256) (j : Fin 512) :
    k0_pay80 (k0_pay79 (k0_pay74 T) k0_pay75 (k0_pay76 T) (k0_pay77 T) (k0_pay78 T) g) C A B (ix3 0 r j)
      = turnedKey (fun i => T (ix2 r ⟨1536 + i.val, by omega⟩)) (fun i => g (ix2 0 i)) (fun l => C (ix2 r l)) (fun l => A (ix2 r l)) (fun l => B (ix2 r l)) j := by
  pointwise [k0_pay74, k0_pay75, k0_pay76, k0_pay77, k0_pay78, k0_pay79, k0_pay80]
  rfl

theorem keys1 (T : FVec Ideal S256x2048 .f32) (g : Vec Ideal S1x512 .f32) (C A B : Vec Ideal S256x128 .f32) (r : Fin 256) (j : Fin 512) :
    k0_pay148 (k0_pay139 T) (k0_pay141 T) (k0_pay145 k0_pay140 (k0_pay143 T) (k0_pay144 T)) (k0_pay146 (k0_pay139 T) k0_pay140) (k0_pay147 (k0_pay139 T) k0_pay140) g C A B (ix3 0 r j)
      = turnedKey (fun i => T (ix2 r ⟨1536 + i.val, by omega⟩)) (fun i => g (ix2 0 i)) (fun l => C (ix2 r l)) (fun l => A (ix2 r l)) (fun l => B (ix2 r l)) j := by
  pointwise [k0_pay139, k0_pay140, k0_pay141, k0_pay142, k0_pay143, k0_pay144, k0_pay145, k0_pay146, k0_pay147, k0_pay148]
  rfl

theorem keys2 (T : FVec Ideal S256x2048 .f32) (g : Vec Ideal S1x512 .f32) (C A B : Vec Ideal S256x128 .f32) (r : Fin 256) (j : Fin 512) :
    k0_pay216 (k0_pay206 T) k0_pay207 (k0_pay208 T) (k0_pay211 k0_pay207 (k0_pay209 T) (k0_pay210 T)) (k0_pay212 (k0_pay206 T) k0_pay207) (k0_pay214 (k0_pay206 T) k0_pay207) (k0_pay215 (k0_pay206 T) k0_pay207) g C A B (ix3 0 r j)
      = turnedKey (fun i => T (ix2 r ⟨1536 + i.val, by omega⟩)) (fun i => g (ix2 0 i)) (fun l => C (ix2 r l)) (fun l => A (ix2 r l)) (fun l => B (ix2 r l)) j := by
  pointwise [k0_pay206, k0_pay207, k0_pay208, k0_pay209, k0_pay210, k0_pay211, k0_pay212, k0_pay213, k0_pay214, k0_pay215, k0_pay216]
  rfl

theorem keys3 (T : FVec Ideal S256x2048 .f32) (g : Vec Ideal S1x512 .f32) (C A B : Vec Ideal S256x128 .f32) (r : Fin 256) (j : Fin 512) :
    k0_pay1 (k0_pay280 (k0_pay272 T) k0_pay273 (k0_pay275 (k0_pay274 T)) (k0_pay276 (k0_pay272 T) k0_pay273) (k0_pay277 (k0_pay272 T) k0_pay273) (k0_pay278 (k0_pay272 T)) (k0_pay279 (k0_pay272 T) k0_pay273)) g C A B (ix3 0 r j)
      = turnedKey (fun i => T (ix2 r ⟨1536 + i.val, by omega⟩)) (fun i => g (ix2 0 i)) (fun l => C (ix2 r l)) (fun l => A (ix2 r l)) (fun l => B (ix2 r l)) j := by
  pointwise [k0_pay1, k0_pay272, k0_pay273, k0_pay274, k0_pay275, k0_pay276, k0_pay277, k0_pay278, k0_pay279, k0_pay280]
  rfl

end Cert.EvenInIdeal.RowValue

end
-- ==== Proof.EvenInStores.lean ====
/- The input projection with the convolution: what the stores of the keys, of the values and of the convolution write, as
   functions of InRow.lean of the arguments. -/
module

public import proofs.«01_k».proof.Defs
public import proofs.«01_k».proof.Proof.Gen.EvenInIdeal.Value
public import proofs.«01_k».proof.Proof.InRow
public import proofs.«01_k».proof.Proof.EvenInRows
public import proofs.«01_k».proof.Proof.EvenInConv
public import proofs.«01_k».proof.Proof.EvenInKeys

@[expose] public section

set_option maxRecDepth 16384

noncomputable section

open Idealize.ShloMosaic Idealize.ShloMosaic.TcCoe Idealize.SL.Sem

namespace Cert.EvenInIdeal.RowValue

open Cert.EvenInIdeal Cert.EvenInIdeal.Gen Cert.Layer

variable (m : (ℓ : Loc nD τ sig) → Buf (Elt Ideal) ℓ)

theorem kept_low (i : Fin 2048) (k : Fin 3072) (h : i.val < 1536) (hk : k.val = i.val) : kept i = k := by
  unfold kept
  rw [dif_pos h]
  exact Fin.ext hk.symm

theorem kept_high (i : Fin 2048) (k : Fin 3072) (h : ¬i.val < 1536) (hk : k.val = 2048 + (i.val - 1536)) : kept i = k := by
  unfold kept
  rw [dif_neg h]
  exact Fin.ext hk.symm

theorem flipped_high (i : Fin 1024) (k : Fin 3072) (h : ¬i.val < 512) (hk : k.val = 2560 + (i.val - 512)) : flipped i = k := by
  unfold flipped
  rw [dif_neg h]
  exact Fin.ext hk.symm

/-! The keys. -/

theorem key0 (c : Dev nD) (t : Fin cfg0.N) (r : Fin 256) (j : Fin 512) :
    k0_pay80 (k0_pay79 (k0_pay74 (T0 m c t)) k0_pay75 (k0_pay76 (T0 m c t)) (k0_pay77 (T0 m c t)) (k0_pay78 (T0 m c t)) (View.ld (iblk m c 8 t) r0_37)) (View.ld (iblk m c 9 t) r0_38) (View.ld (iblk m c 10 t) r0_38) (View.ld (iblk m c 11 t) r0_38) (ix3 0 r j)
      = turned (P m c (bat t) (pos t ⟨r.val, by omega⟩)) 2048 (by omega) (fun d => m ((c : Thread nD τ).loc main_arg5) (ix1 d)) (pos t ⟨r.val, by omega⟩).val j := by
  refine (keys0 _ _ _ _ _ r j).trans (turnedKey_eq _ (fun d => m ((c : Thread nD τ).loc main_arg5) (ix1 d)) _ _ _ _ _ _ (fun i => ?_) (fun i => ?_) (fun l => ?_) (fun l => ?_) (fun l => ?_) j)
  · exact (T0_at m c t r _).trans (congrArg _ (kept_high _ _ (by show ¬1536 + i.val < 1536; omega) (by show 2048 + i.val = 2048 + (1536 + i.val - 1536); omega)))
  · pointwise
    exact w8_at m c t i
  · pointwise
    exact w9_at m c t _ l
  · pointwise
    exact w10_at m c t _ l
  · pointwise
    exact w11_at m c t _ l

theorem key1 (c : Dev nD) (t : Fin cfg0.N) (r : Fin 256) (j : Fin 512) :
    k0_pay148 (k0_pay139 (T1 m c t)) (k0_pay141 (T1 m c t)) (k0_pay145 k0_pay140 (k0_pay143 (T1 m c t)) (k0_pay144 (T1 m c t))) (k0_pay146 (k0_pay139 (T1 m c t)) k0_pay140) (k0_pay147 (k0_pay139 (T1 m c t)) k0_pay140) (View.ld (iblk m c 8 t) r0_37) (View.ld (iblk m c 9 t) r0_66) (View.ld (iblk m c 10 t) r0_66) (View.ld (iblk m c 11 t) r0_66) (ix3 0 r j)
      = turned (P m c (bat t) (pos t ⟨256 + r.val, by omega⟩)) 2048 (by omega) (fun d => m ((c : Thread nD τ).loc main_arg5) (ix1 d)) (pos t ⟨256 + r.val, by omega⟩).val j := by
  refine (keys1 _ _ _ _ _ r j).trans (turnedKey_eq _ (fun d => m ((c : Thread nD τ).loc main_arg5) (ix1 d)) _ _ _ _ _ _ (fun i => ?_) (fun i => ?_) (fun l => ?_) (fun l => ?_) (fun l => ?_) j)
  · exact (T1_at m c t r _).trans (congrArg _ (kept_high _ _ (by show ¬1536 + i.val < 1536; omega) (by show 2048 + i.val = 2048 + (1536 + i.val - 1536); omega)))
  · pointwise
    exact w8_at m c t i
  · pointwise
    exact w9_at m c t _ l
  · pointwise
    exact w10_at m c t _ l
  · pointwise
    exact w11_at m c t _ l

theorem key2 (c : Dev nD) (t : Fin cfg0.N) (r : Fin 256) (j : Fin 512) :
    k0_pay216 (k0_pay206 (T2 m c t)) k0_pay207 (k0_pay208 (T2 m c t)) (k0_pay211 k0_pay207 (k0_pay209 (T2 m c t)) (k0_pay210 (T2 m c t))) (k0_pay212 (k0_pay206 (T2 m c t)) k0_pay207) (k0_pay214 (k0_pay206 (T2 m c t)) k0_pay207) (k0_pay215 (k0_pay206 (T2 m c t)) k0_pay207) (View.ld (iblk m c 8 t) r0_37) (View.ld (iblk m c 9 t) r0_94) (View.ld (iblk m c 10 t) r0_94) (View.ld (iblk m c 11 t) r0_94) (ix3 0 r j)
      = turned (P m c (bat t) (pos t ⟨512 + r.val, by omega⟩)) 2048 (by omega) (fun d => m ((c : Thread nD τ).loc main_arg5) (ix1 d)) (pos t ⟨512 + r.val, by omega⟩).val j := by
  refine (keys2 _ _ _ _ _ r j).trans (turnedKey_eq _ (fun d => m ((c : Thread nD τ).loc main_arg5) (ix1 d)) _ _ _ _ _ _ (fun i => ?_) (fun i => ?_) (fun l => ?_) (fun l => ?_) (fun l => ?_) j)
  · exact (T2_at m c t r _).trans (congrArg _ (kept_high _ _ (by show ¬1536 + i.val < 1536; omega) (by show 2048 + i.val = 2048 + (1536 + i.val - 1536); omega)))
  · pointwise
    exact w8_at m c t i
  · pointwise
    exact w9_at m c t _ l
  · pointwise
    exact w10_at m c t _ l
  · pointwise
    exact w11_at m c t _ l

theorem key3 (c : Dev nD) (t : Fin cfg0.N) (r : Fin 256) (j : Fin 512) :
    k0_pay1 (k0_pay280 (k0_pay272 (T3 m c t)) k0_pay273 (k0_pay275 (k0_pay274 (T3 m c t))) (k0_pay276 (k0_pay272 (T3 m c t)) k0_pay273) (k0_pay277 (k0_pay272 (T3 m c t)) k0_pay273) (k0_pay278 (k0_pay272 (T3 m c t))) (k0_pay279 (k0_pay272 (T3 m c t)) k0_pay273)) (View.ld (iblk m c 8 t) r0_37) (View.ld (iblk m c 9 t) r0_122) (View.ld (iblk m c 10 t) r0_122) (View.ld (iblk m c 11 t) r0_122) (ix3 0 r j)
      = turned (P m c (bat t) (pos t ⟨768 + r.val, by omega⟩)) 2048 (by omega) (fun d => m ((c : Thread nD τ).loc main_arg5) (ix1 d)) (pos t ⟨768 + r.val, by omega⟩).val j := by
  refine (keys3 _ _ _ _ _ r j).trans (turnedKey_eq _ (fun d => m ((c : Thread nD τ).loc main_arg5) (ix1 d)) _ _ _ _ _ _ (fun i => ?_) (fun i => ?_) (fun l => ?_) (fun l => ?_) (fun l => ?_) j)
  · exact (T3_at m c t r _).trans (congrArg _ (kept_high _ _ (by show ¬1536 + i.val < 1536; omega) (by show 2048 + i.val = 2048 + (1536 + i.val - 1536); omega)))
  · pointwise
    exact w8_at m c t i
  · pointwise
    exact w9_at m c t _ l
  · pointwise
    exact w10_at m c t _ l
  · pointwise
    exact w11_at m c t _ l

/-! The values. -/

theorem value0 (c : Dev nD) (t : Fin cfg0.N) (j : Fin 512) (r : Fin 256) :
    k0_pay23 (Q0 m c t) (ix3 0 j r) = P m c (bat t) (pos t ⟨r.val, by omega⟩) ⟨2560 + j.val, by omega⟩ := by
  have e : k0_pay23 (Q0 m c t) (ix3 0 j r) = Q0 m c t (ix2 ⟨512 + j.val, by omega⟩ r) := by pointwise [k0_pay23]
  rw [e, Q0_at]
  exact congrArg _ (flipped_high _ _ (by show ¬512 + j.val < 512; omega) (by show 2560 + j.val = 2560 + (512 + j.val - 512); omega))

theorem value1 (c : Dev nD) (t : Fin cfg0.N) (j : Fin 512) (r : Fin 256) :
    k0_pay83 (Q1 m c t) (ix3 0 j r) = P m c (bat t) (pos t ⟨256 + r.val, by omega⟩) ⟨2560 + j.val, by omega⟩ := by
  have e : k0_pay83 (Q1 m c t) (ix3 0 j r) = Q1 m c t (ix2 ⟨512 + j.val, by omega⟩ r) := by pointwise [k0_pay83]
  rw [e, Q1_at]
  exact congrArg _ (flipped_high _ _ (by show ¬512 + j.val < 512; omega) (by show 2560 + j.val = 2560 + (512 + j.val - 512); omega))

theorem value2 (c : Dev nD) (t : Fin cfg0.N) (j : Fin 512) (r : Fin 256) :
    k0_pay151 (Q2 m c t) (ix3 0 j r) = P m c (bat t) (pos t ⟨512 + r.val, by omega⟩) ⟨2560 + j.val, by omega⟩ := by
  have e : k0_pay151 (Q2 m c t) (ix3 0 j r) = Q2 m c t (ix2 ⟨512 + j.val, by omega⟩ r) := by pointwise [k0_pay151]
  rw [e, Q2_at]
  exact congrArg _ (flipped_high _ _ (by show ¬512 + j.val < 512; omega) (by show 2560 + j.val = 2560 + (512 + j.val - 512); omega))

theorem value3 (c : Dev nD) (t : Fin cfg0.N) (j : Fin 512) (r : Fin 256) :
    k0_pay218 (Q3 m c t) (ix3 0 j r) = P m c (bat t) (pos t ⟨768 + r.val, by omega⟩) ⟨2560 + j.val, by omega⟩ := by
  have e : k0_pay218 (Q3 m c t) (ix3 0 j r) = Q3 m c t (ix2 ⟨512 + j.val, by omega⟩ r) := by pointwise [k0_pay218]
  rw [e, Q3_at]
  exact congrArg _ (flipped_high _ _ (by show ¬512 + j.val < 512; omega) (by show 2560 + j.val = 2560 + (512 + j.val - 512); omega))

/-! The convolution: its input, -/

theorem zpad_at (P : Fin 16384 → Fin 3072 → EReal) (n : ℕ) (s : Fin 16384) (j : Fin 512) (h : n = s.val + 1) : zpad P n j = zcol (P s) j := by
  unfold zpad
  rw [dif_pos (by omega)]
  exact congrArg (fun s => zcol (P s) j) (Fin.ext (by show n - 1 = s.val; omega))

abbrev Z0 (c : Dev nD) (t : Fin cfg0.N) : FVec Ideal S256x512 .f32 :=
  k0_pay291 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

theorem Z0_at (c : Dev nD) (t : Fin cfg0.N) (r : Fin 256) (j : Fin 512) (n : ℕ) (h : n = t.val % 16 * 1024 + 0 + r.val + 1) :
    Z0 m c t (ix2 r j) = zpad (P m c (bat t)) n j := by
  rw [zpad_at _ n (pos t ⟨r.val, by omega⟩) j (by show n = t.val % 16 * 1024 + (r.val) + 1; omega)]
  have e : Z0 m c t (ix2 r j) = T0 m c t (ix2 r ⟨512 + j.val, by omega⟩) * T0 m c t (ix2 r ⟨1024 + j.val, by omega⟩) :=
    z0 _ r j
  rw [e, T0_at, T0_at]
  rw [kept_low _ ⟨512 + j.val, by omega⟩ (by show 512 + j.val < 1536; omega) rfl, kept_low _ ⟨1024 + j.val, by omega⟩ (by show 1024 + j.val < 1536; omega) rfl]
  rfl

abbrev Z1 (c : Dev nD) (t : Fin cfg0.N) : FVec Ideal S256x512 .f32 :=
  k0_pay292 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

theorem Z1_at (c : Dev nD) (t : Fin cfg0.N) (r : Fin 256) (j : Fin 512) (n : ℕ) (h : n = t.val % 16 * 1024 + 256 + r.val + 1) :
    Z1 m c t (ix2 r j) = zpad (P m c (bat t)) n j := by
  rw [zpad_at _ n (pos t ⟨256 + r.val, by omega⟩) j (by show n = t.val % 16 * 1024 + (256 + r.val) + 1; omega)]
  have e : Z1 m c t (ix2 r j) = T1 m c t (ix2 r ⟨512 + j.val, by omega⟩) * T1 m c t (ix2 r ⟨1024 + j.val, by omega⟩) :=
    z1 _ r j
  rw [e, T1_at, T1_at]
  rw [kept_low _ ⟨512 + j.val, by omega⟩ (by show 512 + j.val < 1536; omega) rfl, kept_low _ ⟨1024 + j.val, by omega⟩ (by show 1024 + j.val < 1536; omega) rfl]
  rfl

abbrev Z2 (c : Dev nD) (t : Fin cfg0.N) : FVec Ideal S256x512 .f32 :=
  k0_pay293 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

theorem Z2_at (c : Dev nD) (t : Fin cfg0.N) (r : Fin 256) (j : Fin 512) (n : ℕ) (h : n = t.val % 16 * 1024 + 512 + r.val + 1) :
    Z2 m c t (ix2 r j) = zpad (P m c (bat t)) n j := by
  rw [zpad_at _ n (pos t ⟨512 + r.val, by omega⟩) j (by show n = t.val % 16 * 1024 + (512 + r.val) + 1; omega)]
  have e : Z2 m c t (ix2 r j) = T2 m c t (ix2 r ⟨512 + j.val, by omega⟩) * T2 m c t (ix2 r ⟨1024 + j.val, by omega⟩) :=
    z2 _ r j
  rw [e, T2_at, T2_at]
  rw [kept_low _ ⟨512 + j.val, by omega⟩ (by show 512 + j.val < 1536; omega) rfl, kept_low _ ⟨1024 + j.val, by omega⟩ (by show 1024 + j.val < 1536; omega) rfl]
  rfl

abbrev Z3 (c : Dev nD) (t : Fin cfg0.N) : FVec Ideal S256x512 .f32 :=
  k0_pay294 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

theorem Z3_at (c : Dev nD) (t : Fin cfg0.N) (r : Fin 256) (j : Fin 512) (n : ℕ) (h : n = t.val % 16 * 1024 + 768 + r.val + 1) :
    Z3 m c t (ix2 r j) = zpad (P m c (bat t)) n j := by
  rw [zpad_at _ n (pos t ⟨768 + r.val, by omega⟩) j (by show n = t.val % 16 * 1024 + (768 + r.val) + 1; omega)]
  have e : Z3 m c t (ix2 r j) = T3 m c t (ix2 r ⟨512 + j.val, by omega⟩) * T3 m c t (ix2 r ⟨1024 + j.val, by omega⟩) :=
    z3 _ _ _ r j
  rw [e, T3_at, T3_at]
  rw [kept_low _ ⟨512 + j.val, by omega⟩ (by show 512 + j.val < 1536; omega) rfl, kept_low _ ⟨1024 + j.val, by omega⟩ (by show 1024 + j.val < 1536; omega) rfl]
  rfl

/-! the halo, -/

theorem coord (t : Fin cfg0.N) : ((grid0.coords t) 1).val = t.val % 16 :=
  (by decide +kernel : ∀ t : Fin grid0.N, ((grid0.coords t) 1).val = t.val % 16) t

theorem positive (n : Fin 16) : IntOp.cmpi CmpIPredicate.sgt (BitVec.ofNat 32 n.val) 0#32 = if n.val = 0 then 0 else 1 :=
  (by decide +kernel : ∀ n : Fin 16, IntOp.cmpi CmpIPredicate.sgt (BitVec.ofNat 32 n.val) 0#32 = if n.val = 0 then 0 else 1) n

theorem notLast (n : Fin 16) : IntOp.cmpi CmpIPredicate.slt (BitVec.ofNat 32 n.val) 15#32 = if n.val = 15 then 0 else 1 :=
  (by decide +kernel : ∀ n : Fin 16, IntOp.cmpi CmpIPredicate.slt (BitVec.ofNat 32 n.val) 15#32 = if n.val = 15 then 0 else 1) n

/-- The gain and the columns that the halo's product is taken with. -/
theorem halo_cols (c : Dev nD) (t : Fin cfg0.N) (k : Fin 1024) (i : Fin 1024) :
    View.ld (iblk m c 4 t) r0_3 (ix2 k i) = m ((c : Thread nD τ).loc main_arg2) (ix2 k ⟨512 + i.val, by omega⟩) := by
  pointwise
  rw [w4_kept, kept_low _ ⟨512 + i.val, by omega⟩ (by show 512 + i.val < 1536; omega) rfl]

theorem before_at (c : Dev nD) (t : Fin cfg0.N) (j : Fin 512) :
    k0_pay4 (grid0.coords t) (View.ld (iblk m c 3 t) r0_0) (View.ld (iblk m c 1 t) r0_2) (View.ld (iblk m c 2 t) r0_2) (View.ld (iblk m c 4 t) r0_3) (ix2 0 j)
      = zpad (P m c (bat t)) (t.val % 16 * 1024) j := by
  rw [before, coord, positive ⟨t.val % 16, by omega⟩]
  by_cases h : t.val % 16 = 0
  · rw [if_pos h]
    show 0 = _
    unfold zpad
    rw [dif_neg (by omega)]
  · rw [if_neg h]
    show proj _ _ _ * proj _ _ _ = _
    rw [zpad_at _ _ ⟨t.val % 16 * 1024 - 1, by omega⟩ j (by show _ = t.val % 16 * 1024 - 1 + 1; omega)]
    refine congrArg₂ (· * ·) (proj_congr (fun k => ?_) (fun k => ?_) fun k => ?_) (proj_congr (fun k => ?_) (fun k => ?_) fun k => ?_)
    · pointwise
      exact w1_at m c t k _ (by omega) rfl
    · pointwise
      exact w3_at m c t k
    · exact halo_cols m c t k _
    · pointwise
      exact w1_at m c t k _ (by omega) rfl
    · pointwise
      exact w3_at m c t k
    · exact (halo_cols m c t k _).trans (congrArg (fun i => m ((c : Thread nD τ).loc main_arg2) (ix2 k i)) (Fin.ext (by show 512 + (512 + j.val) = 1024 + j.val; omega)))

theorem behind_at (c : Dev nD) (t : Fin cfg0.N) (j : Fin 512) :
    k0_pay5 (grid0.coords t) (View.ld (iblk m c 3 t) r0_0) (View.ld (iblk m c 1 t) r0_2) (View.ld (iblk m c 2 t) r0_2) (View.ld (iblk m c 4 t) r0_3) (ix2 0 j)
      = zpad (P m c (bat t)) (t.val % 16 * 1024 + 1025) j := by
  rw [behind, coord, notLast ⟨t.val % 16, by omega⟩]
  by_cases h : t.val % 16 = 15
  · rw [if_pos h]
    show 0 = _
    unfold zpad
    rw [dif_neg (by omega)]
  · rw [if_neg h]
    show proj _ _ _ * proj _ _ _ = _
    rw [zpad_at _ _ ⟨t.val % 16 * 1024 + 1024, by omega⟩ j (by show _ = t.val % 16 * 1024 + 1024 + 1; omega)]
    refine congrArg₂ (· * ·) (proj_congr (fun k => ?_) (fun k => ?_) fun k => ?_) (proj_congr (fun k => ?_) (fun k => ?_) fun k => ?_)
    · pointwise
      exact w2_at m c t k _ (by omega) rfl
    · pointwise
      exact w3_at m c t k
    · exact halo_cols m c t k _
    · pointwise
      exact w2_at m c t k _ (by omega) rfl
    · pointwise
      exact w3_at m c t k
    · exact (halo_cols m c t k _).trans (congrArg (fun i => m ((c : Thread nD τ).loc main_arg2) (ix2 k i)) (Fin.ext (by show 512 + (512 + j.val) = 1024 + j.val; omega)))

/-! and what is stored. -/

theorem taps (c : Dev nD) (t : Fin cfg0.N) (a : Fin 3) (j : Fin 512) :
    View.ld (iblk m c 6 t) r0_1 (ix2 a j) = m ((c : Thread nD τ).loc main_arg3) (ix2 a j) := by
  pointwise
  exact w6_at m c t a j

theorem row0 (c : Dev nD) (t : Fin cfg0.N) (r : Fin 256) (j : Fin 512) :
    k0_pay73 (View.ld (iblk m c 6 t) r0_1) (k0_pay4 (grid0.coords t) (View.ld (iblk m c 3 t) r0_0) (View.ld (iblk m c 1 t) r0_2) (View.ld (iblk m c 2 t) r0_2) (View.ld (iblk m c 4 t) r0_3)) (T0 m c t) (Z0 m c t) (k0_pay22 (T1 m c t)) (ix3 0 r j)
      = conv (P m c (bat t)) (fun a j => m ((c : Thread nD τ).loc main_arg3) (ix2 a j)) (pos t ⟨r.val, by omega⟩) j := by
  have e := kept_low ⟨j.val, by omega⟩ ⟨j.val, by omega⟩ (by show j.val < 1536; omega) rfl
  refine (conv0 _ _ _ _ _ r j).trans
    (tap_eq _ _ _ j (t.val % 16 * 1024) r (by show t.val % 16 * 1024 + (r.val) = t.val % 16 * 1024 + r.val; omega) _ _ _ _ _ _ (taps m c t 0 j) (taps m c t 1 j) (taps m c t 2 j) _
      ((T0_at m c t r _).trans (congrArg _ e)) (before_at m c t j)
      (fun q => Z0_at m c t q j _ (by show t.val % 16 * 1024 + q.val + 1 = t.val % 16 * 1024 + 0 + q.val + 1; omega)) ((z1 (T1 m c t) 0 j).symm.trans (Z1_at m c t 0 j _ (by show t.val % 16 * 1024 + 257 = t.val % 16 * 1024 + 256 + 0 + 1; omega))))

theorem row1 (c : Dev nD) (t : Fin cfg0.N) (r : Fin 256) (j : Fin 512) :
    k0_pay138 (T1 m c t) (k0_pay136 (View.ld (iblk m c 6 t) r0_1) (Z1 m c t) (k0_pay81 (Z0 m c t))) (k0_pay137 (View.ld (iblk m c 6 t) r0_1) (Z1 m c t) (k0_pay82 (Z2 m c t))) (ix3 0 r j)
      = conv (P m c (bat t)) (fun a j => m ((c : Thread nD τ).loc main_arg3) (ix2 a j)) (pos t ⟨256 + r.val, by omega⟩) j := by
  have e := kept_low ⟨j.val, by omega⟩ ⟨j.val, by omega⟩ (by show j.val < 1536; omega) rfl
  refine (conv1 _ _ _ _ _ r j).trans
    (tap_eq _ _ _ j (t.val % 16 * 1024 + 256) r (by show t.val % 16 * 1024 + (256 + r.val) = t.val % 16 * 1024 + 256 + r.val; omega) _ _ _ _ _ _ (taps m c t 0 j) (taps m c t 1 j) (taps m c t 2 j) _
      ((T1_at m c t r _).trans (congrArg _ e)) (Z0_at m c t 255 j _ (by show t.val % 16 * 1024 + 256 = t.val % 16 * 1024 + 0 + 255 + 1; omega))
      (fun q => Z1_at m c t q j _ (by show t.val % 16 * 1024 + 256 + q.val + 1 = t.val % 16 * 1024 + 256 + q.val + 1; omega)) (Z2_at m c t 0 j _ (by show t.val % 16 * 1024 + 256 + 257 = t.val % 16 * 1024 + 512 + 0 + 1; omega)))

theorem row2 (c : Dev nD) (t : Fin cfg0.N) (r : Fin 256) (j : Fin 512) :
    k0_pay205 (View.ld (iblk m c 6 t) r0_1) (T2 m c t) (Z2 m c t) (k0_pay203 (Z2 m c t) (k0_pay149 (Z1 m c t))) (k0_pay204 (Z2 m c t) (k0_pay150 (Z3 m c t))) (ix3 0 r j)
      = conv (P m c (bat t)) (fun a j => m ((c : Thread nD τ).loc main_arg3) (ix2 a j)) (pos t ⟨512 + r.val, by omega⟩) j := by
  have e := kept_low ⟨j.val, by omega⟩ ⟨j.val, by omega⟩ (by show j.val < 1536; omega) rfl
  refine (conv2 _ _ _ _ _ r j).trans
    (tap_eq _ _ _ j (t.val % 16 * 1024 + 512) r (by show t.val % 16 * 1024 + (512 + r.val) = t.val % 16 * 1024 + 512 + r.val; omega) _ _ _ _ _ _ (taps m c t 0 j) (taps m c t 1 j) (taps m c t 2 j) _
      ((T2_at m c t r _).trans (congrArg _ e)) (Z1_at m c t 255 j _ (by show t.val % 16 * 1024 + 512 = t.val % 16 * 1024 + 256 + 255 + 1; omega))
      (fun q => Z2_at m c t q j _ (by show t.val % 16 * 1024 + 512 + q.val + 1 = t.val % 16 * 1024 + 512 + q.val + 1; omega)) (Z3_at m c t 0 j _ (by show t.val % 16 * 1024 + 512 + 257 = t.val % 16 * 1024 + 768 + 0 + 1; omega)))

theorem row3 (c : Dev nD) (t : Fin cfg0.N) (r : Fin 256) (j : Fin 512) :
    k0_pay271 (View.ld (iblk m c 6 t) r0_1) (k0_pay5 (grid0.coords t) (View.ld (iblk m c 3 t) r0_0) (View.ld (iblk m c 1 t) r0_2) (View.ld (iblk m c 2 t) r0_2) (View.ld (iblk m c 4 t) r0_3)) (T3 m c t) (Z3 m c t) (iota .tc S256x512 32 [0] iota_S256x512_d0_w32) k0_pay268 (k0_pay269 (Z3 m c t)) (k0_pay270 (k0_pay217 (Z2 m c t))) (ix3 0 r j)
      = conv (P m c (bat t)) (fun a j => m ((c : Thread nD τ).loc main_arg3) (ix2 a j)) (pos t ⟨768 + r.val, by omega⟩) j := by
  have e := kept_low ⟨j.val, by omega⟩ ⟨j.val, by omega⟩ (by show j.val < 1536; omega) rfl
  refine (conv3 _ _ _ _ _ r j).trans
    (tap_eq _ _ _ j (t.val % 16 * 1024 + 768) r (by show t.val % 16 * 1024 + (768 + r.val) = t.val % 16 * 1024 + 768 + r.val; omega) _ _ _ _ _ _ (taps m c t 0 j) (taps m c t 1 j) (taps m c t 2 j) _
      ((T3_at m c t r _).trans (congrArg _ e)) (Z2_at m c t 255 j _ (by show t.val % 16 * 1024 + 768 = t.val % 16 * 1024 + 512 + 255 + 1; omega))
      (fun q => Z3_at m c t q j _ (by show t.val % 16 * 1024 + 768 + q.val + 1 = t.val % 16 * 1024 + 768 + q.val + 1; omega)) (behind_at m c t j))

end Cert.EvenInIdeal.RowValue

end
-- ==== Proof.EvenInHeads.lean ====
/- The input projection with the convolution: what each store of a query head writes, read at one element. The head is
   scaled to root mean square one and turned; its two halves are stored one after the other. -/
module

public import proofs.«01_k».proof.Defs
public import proofs.«01_k».proof.Proof.Gen.EvenInIdeal.Value
public import proofs.«01_k».proof.Proof.InRow

@[expose] public section

set_option maxRecDepth 16384

noncomputable section

open Idealize.ShloMosaic Idealize.ShloMosaic.TcCoe Idealize.SL.Sem

namespace Cert.EvenInIdeal.RowValue

open Cert.EvenInIdeal Cert.EvenInIdeal.Gen Cert.Layer

/-- The first half of a turned head whose entries are `u`, gains `g`, by the angle of cosine `c` and sine `s`, -/
def low (u g : Fin 64 → EReal) (c s : EReal) (f : Fin 32) : EReal :=
  u ⟨f.val, by omega⟩ * Ideal.rsqrt ((∑ i : Fin 64, u i * u i) * Ideal.ofBits .f32 0x3C800000#32 + Ideal.ofBits .f32 0x358637BD#32) * g ⟨f.val, by omega⟩ * c
    - u ⟨32 + f.val, by omega⟩ * Ideal.rsqrt ((∑ i : Fin 64, u i * u i) * Ideal.ofBits .f32 0x3C800000#32 + Ideal.ofBits .f32 0x358637BD#32) * g ⟨32 + f.val, by omega⟩ * s

/-- and the second. -/
def high (u g : Fin 64 → EReal) (c s : EReal) (f : Fin 32) : EReal :=
  u ⟨f.val, by omega⟩ * Ideal.rsqrt ((∑ i : Fin 64, u i * u i) * Ideal.ofBits .f32 0x3C800000#32 + Ideal.ofBits .f32 0x358637BD#32) * g ⟨f.val, by omega⟩ * s
    + u ⟨32 + f.val, by omega⟩ * Ideal.rsqrt ((∑ i : Fin 64, u i * u i) * Ideal.ofBits .f32 0x3C800000#32 + Ideal.ofBits .f32 0x358637BD#32) * g ⟨32 + f.val, by omega⟩ * c

/-- The first half, given the tables' entries, is the head turned at the position, -/
theorem low_eq (p : Fin 3072 → EReal) (o : ℕ) (ho : o + 512 ≤ 3072) (g : Fin 64 → EReal) (s : ℕ) (j : Fin 512) (h : Fin 8) (f : Fin 32)
    (hj : j.val = h.val * 64 + f.val) (u v : Fin 64 → EReal) (C S : EReal) (hu : ∀ d, u d = p ⟨o + (h.val * 64 + d.val), by omega⟩) (hv : ∀ d, v d = g d)
    (hC : C = rcos s f.val) (hS : S = rsin s f.val) : low u v C S f = turned p o ho g s j := by
  have e : (⟨j.val / 64, by omega⟩ : Fin 8) = h := Fin.ext (by show j.val / 64 = h.val; omega)
  have e' : (⟨j.val % 64, by omega⟩ : Fin 64) = ⟨f.val, by omega⟩ := Fin.ext (by show j.val % 64 = f.val; omega)
  unfold turned
  rw [e, e', funext hv, hC, hS, show u = cut p o ho h from funext hu]
  unfold low rope headNorm
  rw [dif_pos f.isLt]
  simp only [mul_eq_div64]

/-- and so is the second. -/
theorem high_eq (p : Fin 3072 → EReal) (o : ℕ) (ho : o + 512 ≤ 3072) (g : Fin 64 → EReal) (s : ℕ) (j : Fin 512) (h : Fin 8) (f : Fin 32)
    (hj : j.val = h.val * 64 + 32 + f.val) (u v : Fin 64 → EReal) (C S : EReal) (hu : ∀ d, u d = p ⟨o + (h.val * 64 + d.val), by omega⟩) (hv : ∀ d, v d = g d)
    (hC : C = rcos s f.val) (hS : S = rsin s f.val) : high u v C S f = turned p o ho g s j := by
  have e : (⟨j.val / 64, by omega⟩ : Fin 8) = h := Fin.ext (by show j.val / 64 = h.val; omega)
  have e' : (⟨j.val % 64, by omega⟩ : Fin 64) = ⟨32 + f.val, by omega⟩ := Fin.ext (by show j.val % 64 = 32 + f.val; omega)
  unfold turned
  rw [e, e', funext hv, hC, hS, show u = cut p o ho h from funext hu]
  unfold high rope headNorm
  rw [dif_neg (by show ¬32 + f.val < 32; omega)]
  simp only [mul_eq_div64, Nat.add_sub_cancel_left]

/-! What each store writes: by blocks of 256 rows, heads and halves. -/

theorem head0 (q : FVec Ideal S1024x256 .f32) (C S : Vec Ideal S32x256 .f32) (G : Vec Ideal S64x256 .f32) (f : Fin 32) (r : Fin 256) :
    k0_pay29 (k0_pay24 C) (k0_pay25 S) (k0_pay27 q G) (k0_pay28 q G) (ix3 0 f r)
      = low (fun d => q (ix2 ⟨d.val, by omega⟩ r)) (fun d => G (ix2 d r)) (C (ix2 f r)) (S (ix2 f r)) f := by
  pointwise [k0_pay24, k0_pay25, k0_pay26, k0_pay27, k0_pay28, k0_pay29]
  rfl

theorem head1 (q : FVec Ideal S1024x256 .f32) (C S : Vec Ideal S32x256 .f32) (G : Vec Ideal S64x256 .f32) (f : Fin 32) (r : Fin 256) :
    k0_pay30 (k0_pay24 C) (k0_pay25 S) (k0_pay27 q G) (k0_pay28 q G) (ix3 0 f r)
      = high (fun d => q (ix2 ⟨d.val, by omega⟩ r)) (fun d => G (ix2 d r)) (C (ix2 f r)) (S (ix2 f r)) f := by
  pointwise [k0_pay24, k0_pay25, k0_pay26, k0_pay27, k0_pay28, k0_pay30]
  rfl

theorem head2 (q : FVec Ideal S1024x256 .f32) (C S : Vec Ideal S32x256 .f32) (G : Vec Ideal S64x256 .f32) (f : Fin 32) (r : Fin 256) :
    k0_pay34 q (k0_pay24 C) (k0_pay25 S) G (ix3 0 f r)
      = low (fun d => q (ix2 ⟨64 + d.val, by omega⟩ r)) (fun d => G (ix2 d r)) (C (ix2 f r)) (S (ix2 f r)) f := by
  pointwise [k0_pay24, k0_pay25, k0_pay31, k0_pay32, k0_pay33, k0_pay34]
  rfl

theorem head3 (q : FVec Ideal S1024x256 .f32) (C S : Vec Ideal S32x256 .f32) (G : Vec Ideal S64x256 .f32) (f : Fin 32) (r : Fin 256) :
    k0_pay36 (k0_pay35 q (k0_pay24 C) (k0_pay25 S) G) (ix3 0 f r)
      = high (fun d => q (ix2 ⟨64 + d.val, by omega⟩ r)) (fun d => G (ix2 d r)) (C (ix2 f r)) (S (ix2 f r)) f := by
  pointwise [k0_pay24, k0_pay25, k0_pay31, k0_pay32, k0_pay33, k0_pay35, k0_pay36]
  rfl

theorem head4 (q : FVec Ideal S1024x256 .f32) (C S : Vec Ideal S32x256 .f32) (G : Vec Ideal S64x256 .f32) (f : Fin 32) (r : Fin 256) :
    k0_pay40 q (k0_pay24 C) (k0_pay25 S) G (ix3 0 f r)
      = low (fun d => q (ix2 ⟨128 + d.val, by omega⟩ r)) (fun d => G (ix2 d r)) (C (ix2 f r)) (S (ix2 f r)) f := by
  pointwise [k0_pay24, k0_pay25, k0_pay37, k0_pay38, k0_pay39, k0_pay40]
  rfl

theorem head5 (q : FVec Ideal S1024x256 .f32) (C S : Vec Ideal S32x256 .f32) (G : Vec Ideal S64x256 .f32) (f : Fin 32) (r : Fin 256) :
    k0_pay41 q (k0_pay24 C) (k0_pay25 S) G (ix3 0 f r)
      = high (fun d => q (ix2 ⟨128 + d.val, by omega⟩ r)) (fun d => G (ix2 d r)) (C (ix2 f r)) (S (ix2 f r)) f := by
  pointwise [k0_pay24, k0_pay25, k0_pay37, k0_pay38, k0_pay39, k0_pay41]
  rfl

theorem head6 (q : FVec Ideal S1024x256 .f32) (C S : Vec Ideal S32x256 .f32) (G : Vec Ideal S64x256 .f32) (f : Fin 32) (r : Fin 256) :
    k0_pay47 (k0_pay24 C) (k0_pay25 S) (k0_pay42 q) (k0_pay43 q) G (ix3 0 f r)
      = low (fun d => q (ix2 ⟨192 + d.val, by omega⟩ r)) (fun d => G (ix2 d r)) (C (ix2 f r)) (S (ix2 f r)) f := by
  pointwise [k0_pay24, k0_pay25, k0_pay42, k0_pay43, k0_pay44, k0_pay45, k0_pay46, k0_pay47]
  rfl

theorem head7 (q : FVec Ideal S1024x256 .f32) (C S : Vec Ideal S32x256 .f32) (G : Vec Ideal S64x256 .f32) (f : Fin 32) (r : Fin 256) :
    k0_pay48 (k0_pay24 C) (k0_pay25 S) (k0_pay42 q) (k0_pay43 q) G (ix3 0 f r)
      = high (fun d => q (ix2 ⟨192 + d.val, by omega⟩ r)) (fun d => G (ix2 d r)) (C (ix2 f r)) (S (ix2 f r)) f := by
  pointwise [k0_pay24, k0_pay25, k0_pay42, k0_pay43, k0_pay44, k0_pay45, k0_pay46, k0_pay48]
  rfl

theorem head8 (q : FVec Ideal S1024x256 .f32) (C S : Vec Ideal S32x256 .f32) (G : Vec Ideal S64x256 .f32) (f : Fin 32) (r : Fin 256) :
    k0_pay54 (k0_pay53 q (k0_pay24 C) (k0_pay25 S) G) (ix3 0 f r)
      = low (fun d => q (ix2 ⟨256 + d.val, by omega⟩ r)) (fun d => G (ix2 d r)) (C (ix2 f r)) (S (ix2 f r)) f := by
  pointwise [k0_pay24, k0_pay25, k0_pay49, k0_pay50, k0_pay51, k0_pay53, k0_pay54]
  rfl

theorem head9 (q : FVec Ideal S1024x256 .f32) (C S : Vec Ideal S32x256 .f32) (G : Vec Ideal S64x256 .f32) (f : Fin 32) (r : Fin 256) :
    k0_pay55 (k0_pay52 q (k0_pay24 C) (k0_pay25 S) G) (ix3 0 f r)
      = high (fun d => q (ix2 ⟨256 + d.val, by omega⟩ r)) (fun d => G (ix2 d r)) (C (ix2 f r)) (S (ix2 f r)) f := by
  pointwise [k0_pay24, k0_pay25, k0_pay49, k0_pay50, k0_pay51, k0_pay52, k0_pay55]
  rfl

theorem head10 (q : FVec Ideal S1024x256 .f32) (C S : Vec Ideal S32x256 .f32) (G : Vec Ideal S64x256 .f32) (f : Fin 32) (r : Fin 256) :
    k0_pay59 q (k0_pay24 C) (k0_pay25 S) G (ix3 0 f r)
      = low (fun d => q (ix2 ⟨320 + d.val, by omega⟩ r)) (fun d => G (ix2 d r)) (C (ix2 f r)) (S (ix2 f r)) f := by
  pointwise [k0_pay24, k0_pay25, k0_pay56, k0_pay57, k0_pay58, k0_pay59]
  rfl

theorem head11 (q : FVec Ideal S1024x256 .f32) (C S : Vec Ideal S32x256 .f32) (G : Vec Ideal S64x256 .f32) (f : Fin 32) (r : Fin 256) :
    k0_pay60 q (k0_pay24 C) (k0_pay25 S) G (ix3 0 f r)
      = high (fun d => q (ix2 ⟨320 + d.val, by omega⟩ r)) (fun d => G (ix2 d r)) (C (ix2 f r)) (S (ix2 f r)) f := by
  pointwise [k0_pay24, k0_pay25, k0_pay56, k0_pay57, k0_pay58, k0_pay60]
  rfl

theorem head12 (q : FVec Ideal S1024x256 .f32) (C S : Vec Ideal S32x256 .f32) (G : Vec Ideal S64x256 .f32) (f : Fin 32) (r : Fin 256) :
    k0_pay66 (k0_pay24 C) (k0_pay25 S) (k0_pay61 q) (k0_pay62 q) G (ix3 0 f r)
      = low (fun d => q (ix2 ⟨384 + d.val, by omega⟩ r)) (fun d => G (ix2 d r)) (C (ix2 f r)) (S (ix2 f r)) f := by
  pointwise [k0_pay24, k0_pay25, k0_pay61, k0_pay62, k0_pay63, k0_pay64, k0_pay65, k0_pay66]
  rfl

theorem head13 (q : FVec Ideal S1024x256 .f32) (C S : Vec Ideal S32x256 .f32) (G : Vec Ideal S64x256 .f32) (f : Fin 32) (r : Fin 256) :
    k0_pay67 (k0_pay24 C) (k0_pay25 S) (k0_pay61 q) (k0_pay62 q) G (ix3 0 f r)
      = high (fun d => q (ix2 ⟨384 + d.val, by omega⟩ r)) (fun d => G (ix2 d r)) (C (ix2 f r)) (S (ix2 f r)) f := by
  pointwise [k0_pay24, k0_pay25, k0_pay61, k0_pay62, k0_pay63, k0_pay64, k0_pay65, k0_pay67]
  rfl

theorem head14 (q : FVec Ideal S1024x256 .f32) (C S : Vec Ideal S32x256 .f32) (G : Vec Ideal S64x256 .f32) (f : Fin 32) (r : Fin 256) :
    k0_pay71 (k0_pay24 C) (k0_pay25 S) (k0_pay68 q G) (k0_pay69 q G) (ix3 0 f r)
      = low (fun d => q (ix2 ⟨448 + d.val, by omega⟩ r)) (fun d => G (ix2 d r)) (C (ix2 f r)) (S (ix2 f r)) f := by
  pointwise [k0_pay24, k0_pay25, k0_pay68, k0_pay69, k0_pay70, k0_pay71]
  rfl

theorem head15 (q : FVec Ideal S1024x256 .f32) (C S : Vec Ideal S32x256 .f32) (G : Vec Ideal S64x256 .f32) (f : Fin 32) (r : Fin 256) :
    k0_pay72 (k0_pay24 C) (k0_pay25 S) (k0_pay68 q G) (k0_pay69 q G) (ix3 0 f r)
      = high (fun d => q (ix2 ⟨448 + d.val, by omega⟩ r)) (fun d => G (ix2 d r)) (C (ix2 f r)) (S (ix2 f r)) f := by
  pointwise [k0_pay24, k0_pay25, k0_pay68, k0_pay69, k0_pay70, k0_pay72]
  rfl

theorem head16 (q : FVec Ideal S1024x256 .f32) (C S : Vec Ideal S32x256 .f32) (G : Vec Ideal S64x256 .f32) (f : Fin 32) (r : Fin 256) :
    k0_pay91 (k0_pay84 C) (k0_pay85 S) (k0_pay86 q) (k0_pay87 q) G (ix3 0 f r)
      = low (fun d => q (ix2 ⟨d.val, by omega⟩ r)) (fun d => G (ix2 d r)) (C (ix2 f r)) (S (ix2 f r)) f := by
  pointwise [k0_pay84, k0_pay85, k0_pay86, k0_pay87, k0_pay88, k0_pay89, k0_pay90, k0_pay91]
  rfl

theorem head17 (q : FVec Ideal S1024x256 .f32) (C S : Vec Ideal S32x256 .f32) (G : Vec Ideal S64x256 .f32) (f : Fin 32) (r : Fin 256) :
    k0_pay92 (k0_pay84 C) (k0_pay85 S) (k0_pay86 q) (k0_pay87 q) G (ix3 0 f r)
      = high (fun d => q (ix2 ⟨d.val, by omega⟩ r)) (fun d => G (ix2 d r)) (C (ix2 f r)) (S (ix2 f r)) f := by
  pointwise [k0_pay84, k0_pay85, k0_pay86, k0_pay87, k0_pay88, k0_pay89, k0_pay90, k0_pay92]
  rfl

theorem head18 (q : FVec Ideal S1024x256 .f32) (C S : Vec Ideal S32x256 .f32) (G : Vec Ideal S64x256 .f32) (f : Fin 32) (r : Fin 256) :
    k0_pay98 (k0_pay97 q (k0_pay84 C) (k0_pay85 S) G) (ix3 0 f r)
      = low (fun d => q (ix2 ⟨64 + d.val, by omega⟩ r)) (fun d => G (ix2 d r)) (C (ix2 f r)) (S (ix2 f r)) f := by
  pointwise [k0_pay84, k0_pay85, k0_pay93, k0_pay94, k0_pay95, k0_pay97, k0_pay98]
  rfl

theorem head19 (q : FVec Ideal S1024x256 .f32) (C S : Vec Ideal S32x256 .f32) (G : Vec Ideal S64x256 .f32) (f : Fin 32) (r : Fin 256) :
    k0_pay99 (k0_pay96 q (k0_pay84 C) (k0_pay85 S) G) (ix3 0 f r)
      = high (fun d => q (ix2 ⟨64 + d.val, by omega⟩ r)) (fun d => G (ix2 d r)) (C (ix2 f r)) (S (ix2 f r)) f := by
  pointwise [k0_pay84, k0_pay85, k0_pay93, k0_pay94, k0_pay95, k0_pay96, k0_pay99]
  rfl

theorem head20 (q : FVec Ideal S1024x256 .f32) (C S : Vec Ideal S32x256 .f32) (G : Vec Ideal S64x256 .f32) (f : Fin 32) (r : Fin 256) :
    k0_pay103 q (k0_pay84 C) (k0_pay85 S) G (ix3 0 f r)
      = low (fun d => q (ix2 ⟨128 + d.val, by omega⟩ r)) (fun d => G (ix2 d r)) (C (ix2 f r)) (S (ix2 f r)) f := by
  pointwise [k0_pay84, k0_pay85, k0_pay100, k0_pay101, k0_pay102, k0_pay103]
  rfl

theorem head21 (q : FVec Ideal S1024x256 .f32) (C S : Vec Ideal S32x256 .f32) (G : Vec Ideal S64x256 .f32) (f : Fin 32) (r : Fin 256) :
    k0_pay104 q (k0_pay84 C) (k0_pay85 S) G (ix3 0 f r)
      = high (fun d => q (ix2 ⟨128 + d.val, by omega⟩ r)) (fun d => G (ix2 d r)) (C (ix2 f r)) (S (ix2 f r)) f := by
  pointwise [k0_pay84, k0_pay85, k0_pay100, k0_pay101, k0_pay102, k0_pay104]
  rfl

theorem head22 (q : FVec Ideal S1024x256 .f32) (C S : Vec Ideal S32x256 .f32) (G : Vec Ideal S64x256 .f32) (f : Fin 32) (r : Fin 256) :
    k0_pay110 (k0_pay84 C) (k0_pay85 S) (k0_pay105 q) (k0_pay106 q) G (ix3 0 f r)
      = low (fun d => q (ix2 ⟨192 + d.val, by omega⟩ r)) (fun d => G (ix2 d r)) (C (ix2 f r)) (S (ix2 f r)) f := by
  pointwise [k0_pay84, k0_pay85, k0_pay105, k0_pay106, k0_pay107, k0_pay108, k0_pay109, k0_pay110]
  rfl

theorem head23 (q : FVec Ideal S1024x256 .f32) (C S : Vec Ideal S32x256 .f32) (G : Vec Ideal S64x256 .f32) (f : Fin 32) (r : Fin 256) :
    k0_pay111 (k0_pay84 C) (k0_pay85 S) (k0_pay105 q) (k0_pay106 q) G (ix3 0 f r)
      = high (fun d => q (ix2 ⟨192 + d.val, by omega⟩ r)) (fun d => G (ix2 d r)) (C (ix2 f r)) (S (ix2 f r)) f := by
  pointwise [k0_pay84, k0_pay85, k0_pay105, k0_pay106, k0_pay107, k0_pay108, k0_pay109, k0_pay111]
  rfl

theorem head24 (q : FVec Ideal S1024x256 .f32) (C S : Vec Ideal S32x256 .f32) (G : Vec Ideal S64x256 .f32) (f : Fin 32) (r : Fin 256) :
    k0_pay115 (k0_pay84 C) (k0_pay85 S) (k0_pay112 q G) (ix3 0 f r)
      = low (fun d => q (ix2 ⟨256 + d.val, by omega⟩ r)) (fun d => G (ix2 d r)) (C (ix2 f r)) (S (ix2 f r)) f := by
  pointwise [k0_pay84, k0_pay85, k0_pay112, k0_pay113, k0_pay114, k0_pay115]
  rfl

theorem head25 (q : FVec Ideal S1024x256 .f32) (C S : Vec Ideal S32x256 .f32) (G : Vec Ideal S64x256 .f32) (f : Fin 32) (r : Fin 256) :
    k0_pay116 (k0_pay84 C) (k0_pay85 S) (k0_pay112 q G) (ix3 0 f r)
      = high (fun d => q (ix2 ⟨256 + d.val, by omega⟩ r)) (fun d => G (ix2 d r)) (C (ix2 f r)) (S (ix2 f r)) f := by
  pointwise [k0_pay84, k0_pay85, k0_pay112, k0_pay113, k0_pay114, k0_pay116]
  rfl

theorem head26 (q : FVec Ideal S1024x256 .f32) (C S : Vec Ideal S32x256 .f32) (G : Vec Ideal S64x256 .f32) (f : Fin 32) (r : Fin 256) :
    k0_pay120 q (k0_pay84 C) (k0_pay85 S) G (ix3 0 f r)
      = low (fun d => q (ix2 ⟨320 + d.val, by omega⟩ r)) (fun d => G (ix2 d r)) (C (ix2 f r)) (S (ix2 f r)) f := by
  pointwise [k0_pay84, k0_pay85, k0_pay117, k0_pay118, k0_pay119, k0_pay120]
  rfl

theorem head27 (q : FVec Ideal S1024x256 .f32) (C S : Vec Ideal S32x256 .f32) (G : Vec Ideal S64x256 .f32) (f : Fin 32) (r : Fin 256) :
    k0_pay122 (k0_pay121 q (k0_pay84 C) (k0_pay85 S) G) (ix3 0 f r)
      = high (fun d => q (ix2 ⟨320 + d.val, by omega⟩ r)) (fun d => G (ix2 d r)) (C (ix2 f r)) (S (ix2 f r)) f := by
  pointwise [k0_pay84, k0_pay85, k0_pay117, k0_pay118, k0_pay119, k0_pay121, k0_pay122]
  rfl

theorem head28 (q : FVec Ideal S1024x256 .f32) (C S : Vec Ideal S32x256 .f32) (G : Vec Ideal S64x256 .f32) (f : Fin 32) (r : Fin 256) :
    k0_pay126 q (k0_pay84 C) (k0_pay85 S) G (ix3 0 f r)
      = low (fun d => q (ix2 ⟨384 + d.val, by omega⟩ r)) (fun d => G (ix2 d r)) (C (ix2 f r)) (S (ix2 f r)) f := by
  pointwise [k0_pay84, k0_pay85, k0_pay123, k0_pay124, k0_pay125, k0_pay126]
  rfl

theorem head29 (q : FVec Ideal S1024x256 .f32) (C S : Vec Ideal S32x256 .f32) (G : Vec Ideal S64x256 .f32) (f : Fin 32) (r : Fin 256) :
    k0_pay127 q (k0_pay84 C) (k0_pay85 S) G (ix3 0 f r)
      = high (fun d => q (ix2 ⟨384 + d.val, by omega⟩ r)) (fun d => G (ix2 d r)) (C (ix2 f r)) (S (ix2 f r)) f := by
  pointwise [k0_pay84, k0_pay85, k0_pay123, k0_pay124, k0_pay125, k0_pay127]
  rfl

theorem head30 (q : FVec Ideal S1024x256 .f32) (C S : Vec Ideal S32x256 .f32) (G : Vec Ideal S64x256 .f32) (f : Fin 32) (r : Fin 256) :
    k0_pay134 (k0_pay84 C) (k0_pay85 S) (k0_pay128 q) (k0_pay129 q) (k0_pay130 (F := Ideal)) G (ix3 0 f r)
      = low (fun d => q (ix2 ⟨448 + d.val, by omega⟩ r)) (fun d => G (ix2 d r)) (C (ix2 f r)) (S (ix2 f r)) f := by
  pointwise [k0_pay84, k0_pay85, k0_pay128, k0_pay129, k0_pay130, k0_pay131, k0_pay132, k0_pay133, k0_pay134]
  rfl

theorem head31 (q : FVec Ideal S1024x256 .f32) (C S : Vec Ideal S32x256 .f32) (G : Vec Ideal S64x256 .f32) (f : Fin 32) (r : Fin 256) :
    k0_pay135 (k0_pay84 C) (k0_pay85 S) (k0_pay128 q) (k0_pay129 q) (k0_pay130 (F := Ideal)) G (ix3 0 f r)
      = high (fun d => q (ix2 ⟨448 + d.val, by omega⟩ r)) (fun d => G (ix2 d r)) (C (ix2 f r)) (S (ix2 f r)) f := by
  pointwise [k0_pay84, k0_pay85, k0_pay128, k0_pay129, k0_pay130, k0_pay131, k0_pay132, k0_pay133, k0_pay135]
  rfl

theorem head32 (q : FVec Ideal S1024x256 .f32) (C S : Vec Ideal S32x256 .f32) (G : Vec Ideal S64x256 .f32) (f : Fin 32) (r : Fin 256) :
    k0_pay158 (k0_pay152 C) (k0_pay153 S) (k0_pay154 q) G (ix3 0 f r)
      = low (fun d => q (ix2 ⟨d.val, by omega⟩ r)) (fun d => G (ix2 d r)) (C (ix2 f r)) (S (ix2 f r)) f := by
  pointwise [k0_pay152, k0_pay153, k0_pay154, k0_pay155, k0_pay156, k0_pay157, k0_pay158]
  rfl

theorem head33 (q : FVec Ideal S1024x256 .f32) (C S : Vec Ideal S32x256 .f32) (G : Vec Ideal S64x256 .f32) (f : Fin 32) (r : Fin 256) :
    k0_pay159 (k0_pay152 C) (k0_pay153 S) (k0_pay154 q) G (ix3 0 f r)
      = high (fun d => q (ix2 ⟨d.val, by omega⟩ r)) (fun d => G (ix2 d r)) (C (ix2 f r)) (S (ix2 f r)) f := by
  pointwise [k0_pay152, k0_pay153, k0_pay154, k0_pay155, k0_pay156, k0_pay157, k0_pay159]
  rfl

theorem head34 (q : FVec Ideal S1024x256 .f32) (C S : Vec Ideal S32x256 .f32) (G : Vec Ideal S64x256 .f32) (f : Fin 32) (r : Fin 256) :
    k0_pay165 (k0_pay152 C) (k0_pay153 S) (k0_pay160 q) (k0_pay161 G) (ix3 0 f r)
      = low (fun d => q (ix2 ⟨64 + d.val, by omega⟩ r)) (fun d => G (ix2 d r)) (C (ix2 f r)) (S (ix2 f r)) f := by
  pointwise [k0_pay152, k0_pay153, k0_pay160, k0_pay161, k0_pay162, k0_pay163, k0_pay164, k0_pay165]
  rfl

theorem head35 (q : FVec Ideal S1024x256 .f32) (C S : Vec Ideal S32x256 .f32) (G : Vec Ideal S64x256 .f32) (f : Fin 32) (r : Fin 256) :
    k0_pay166 (k0_pay152 C) (k0_pay153 S) (k0_pay160 q) (k0_pay161 G) (ix3 0 f r)
      = high (fun d => q (ix2 ⟨64 + d.val, by omega⟩ r)) (fun d => G (ix2 d r)) (C (ix2 f r)) (S (ix2 f r)) f := by
  pointwise [k0_pay152, k0_pay153, k0_pay160, k0_pay161, k0_pay162, k0_pay163, k0_pay164, k0_pay166]
  rfl

theorem head36 (q : FVec Ideal S1024x256 .f32) (C S : Vec Ideal S32x256 .f32) (G : Vec Ideal S64x256 .f32) (f : Fin 32) (r : Fin 256) :
    k0_pay171 q (k0_pay152 C) (k0_pay153 S) G (ix3 0 f r)
      = low (fun d => q (ix2 ⟨128 + d.val, by omega⟩ r)) (fun d => G (ix2 d r)) (C (ix2 f r)) (S (ix2 f r)) f := by
  pointwise [k0_pay152, k0_pay153, k0_pay167, k0_pay168, k0_pay169, k0_pay171]
  rfl

theorem head37 (q : FVec Ideal S1024x256 .f32) (C S : Vec Ideal S32x256 .f32) (G : Vec Ideal S64x256 .f32) (f : Fin 32) (r : Fin 256) :
    k0_pay172 (k0_pay170 q (k0_pay152 C) (k0_pay153 S) G) (ix3 0 f r)
      = high (fun d => q (ix2 ⟨128 + d.val, by omega⟩ r)) (fun d => G (ix2 d r)) (C (ix2 f r)) (S (ix2 f r)) f := by
  pointwise [k0_pay152, k0_pay153, k0_pay167, k0_pay168, k0_pay169, k0_pay170, k0_pay172]
  rfl

theorem head38 (q : FVec Ideal S1024x256 .f32) (C S : Vec Ideal S32x256 .f32) (G : Vec Ideal S64x256 .f32) (f : Fin 32) (r : Fin 256) :
    k0_pay176 q (k0_pay152 C) (k0_pay153 S) G (ix3 0 f r)
      = low (fun d => q (ix2 ⟨192 + d.val, by omega⟩ r)) (fun d => G (ix2 d r)) (C (ix2 f r)) (S (ix2 f r)) f := by
  pointwise [k0_pay152, k0_pay153, k0_pay173, k0_pay174, k0_pay175, k0_pay176]
  rfl

theorem head39 (q : FVec Ideal S1024x256 .f32) (C S : Vec Ideal S32x256 .f32) (G : Vec Ideal S64x256 .f32) (f : Fin 32) (r : Fin 256) :
    k0_pay177 q (k0_pay152 C) (k0_pay153 S) G (ix3 0 f r)
      = high (fun d => q (ix2 ⟨192 + d.val, by omega⟩ r)) (fun d => G (ix2 d r)) (C (ix2 f r)) (S (ix2 f r)) f := by
  pointwise [k0_pay152, k0_pay153, k0_pay173, k0_pay174, k0_pay175, k0_pay177]
  rfl

theorem head40 (q : FVec Ideal S1024x256 .f32) (C S : Vec Ideal S32x256 .f32) (G : Vec Ideal S64x256 .f32) (f : Fin 32) (r : Fin 256) :
    k0_pay183 (k0_pay152 C) (k0_pay153 S) (k0_pay178 q) (k0_pay179 q) (Scalar.ofBits .f32 0x358637BD#32) G (ix3 0 f r)
      = low (fun d => q (ix2 ⟨256 + d.val, by omega⟩ r)) (fun d => G (ix2 d r)) (C (ix2 f r)) (S (ix2 f r)) f := by
  pointwise [k0_pay152, k0_pay153, k0_pay178, k0_pay179, k0_pay180, k0_pay181, k0_pay182, k0_pay183]
  rfl

theorem head41 (q : FVec Ideal S1024x256 .f32) (C S : Vec Ideal S32x256 .f32) (G : Vec Ideal S64x256 .f32) (f : Fin 32) (r : Fin 256) :
    k0_pay184 (k0_pay152 C) (k0_pay153 S) (k0_pay178 q) (k0_pay179 q) (Scalar.ofBits .f32 0x358637BD#32) G (ix3 0 f r)
      = high (fun d => q (ix2 ⟨256 + d.val, by omega⟩ r)) (fun d => G (ix2 d r)) (C (ix2 f r)) (S (ix2 f r)) f := by
  pointwise [k0_pay152, k0_pay153, k0_pay178, k0_pay179, k0_pay180, k0_pay181, k0_pay182, k0_pay184]
  rfl

theorem head42 (q : FVec Ideal S1024x256 .f32) (C S : Vec Ideal S32x256 .f32) (G : Vec Ideal S64x256 .f32) (f : Fin 32) (r : Fin 256) :
    k0_pay191 (k0_pay188 q (k0_pay152 C) (k0_pay153 S) G) (ix3 0 f r)
      = low (fun d => q (ix2 ⟨320 + d.val, by omega⟩ r)) (fun d => G (ix2 d r)) (C (ix2 f r)) (S (ix2 f r)) f := by
  pointwise [k0_pay152, k0_pay153, k0_pay185, k0_pay186, k0_pay187, k0_pay188, k0_pay191]
  rfl

theorem head43 (q : FVec Ideal S1024x256 .f32) (C S : Vec Ideal S32x256 .f32) (G : Vec Ideal S64x256 .f32) (f : Fin 32) (r : Fin 256) :
    k0_pay192 (k0_pay189 q (k0_pay153 S) G) (k0_pay190 q (k0_pay152 C) G) (ix3 0 f r)
      = high (fun d => q (ix2 ⟨320 + d.val, by omega⟩ r)) (fun d => G (ix2 d r)) (C (ix2 f r)) (S (ix2 f r)) f := by
  pointwise [k0_pay152, k0_pay153, k0_pay185, k0_pay186, k0_pay187, k0_pay189, k0_pay190, k0_pay192]
  rfl

theorem head44 (q : FVec Ideal S1024x256 .f32) (C S : Vec Ideal S32x256 .f32) (G : Vec Ideal S64x256 .f32) (f : Fin 32) (r : Fin 256) :
    k0_pay196 q (k0_pay152 C) (k0_pay153 S) G (ix3 0 f r)
      = low (fun d => q (ix2 ⟨384 + d.val, by omega⟩ r)) (fun d => G (ix2 d r)) (C (ix2 f r)) (S (ix2 f r)) f := by
  pointwise [k0_pay152, k0_pay153, k0_pay193, k0_pay194, k0_pay195, k0_pay196]
  rfl

theorem head45 (q : FVec Ideal S1024x256 .f32) (C S : Vec Ideal S32x256 .f32) (G : Vec Ideal S64x256 .f32) (f : Fin 32) (r : Fin 256) :
    k0_pay197 q (k0_pay152 C) (k0_pay153 S) G (ix3 0 f r)
      = high (fun d => q (ix2 ⟨384 + d.val, by omega⟩ r)) (fun d => G (ix2 d r)) (C (ix2 f r)) (S (ix2 f r)) f := by
  pointwise [k0_pay152, k0_pay153, k0_pay193, k0_pay194, k0_pay195, k0_pay197]
  rfl

theorem head46 (q : FVec Ideal S1024x256 .f32) (C S : Vec Ideal S32x256 .f32) (G : Vec Ideal S64x256 .f32) (f : Fin 32) (r : Fin 256) :
    k0_pay201 q (k0_pay152 C) (k0_pay153 S) G (ix3 0 f r)
      = low (fun d => q (ix2 ⟨448 + d.val, by omega⟩ r)) (fun d => G (ix2 d r)) (C (ix2 f r)) (S (ix2 f r)) f := by
  pointwise [k0_pay152, k0_pay153, k0_pay198, k0_pay199, k0_pay200, k0_pay201]
  rfl

theorem head47 (q : FVec Ideal S1024x256 .f32) (C S : Vec Ideal S32x256 .f32) (G : Vec Ideal S64x256 .f32) (f : Fin 32) (r : Fin 256) :
    k0_pay202 q (k0_pay152 C) (k0_pay153 S) G (ix3 0 f r)
      = high (fun d => q (ix2 ⟨448 + d.val, by omega⟩ r)) (fun d => G (ix2 d r)) (C (ix2 f r)) (S (ix2 f r)) f := by
  pointwise [k0_pay152, k0_pay153, k0_pay198, k0_pay199, k0_pay200, k0_pay202]
  rfl

theorem head48 (q : FVec Ideal S1024x256 .f32) (C S : Vec Ideal S32x256 .f32) (G : Vec Ideal S64x256 .f32) (f : Fin 32) (r : Fin 256) :
    k0_pay224 q C S G (ix3 0 f r)
      = low (fun d => q (ix2 ⟨d.val, by omega⟩ r)) (fun d => G (ix2 d r)) (C (ix2 f r)) (S (ix2 f r)) f := by
  pointwise [k0_pay219, k0_pay220, k0_pay221, k0_pay222, k0_pay223, k0_pay224]
  rfl

theorem head49 (q : FVec Ideal S1024x256 .f32) (C S : Vec Ideal S32x256 .f32) (G : Vec Ideal S64x256 .f32) (f : Fin 32) (r : Fin 256) :
    k0_pay225 q C S G (ix3 0 f r)
      = high (fun d => q (ix2 ⟨d.val, by omega⟩ r)) (fun d => G (ix2 d r)) (C (ix2 f r)) (S (ix2 f r)) f := by
  pointwise [k0_pay219, k0_pay220, k0_pay221, k0_pay222, k0_pay223, k0_pay225]
  rfl

theorem head50 (q : FVec Ideal S1024x256 .f32) (C S : Vec Ideal S32x256 .f32) (G : Vec Ideal S64x256 .f32) (f : Fin 32) (r : Fin 256) :
    k0_pay231 (k0_pay219 C) (k0_pay220 S) (k0_pay226 q) (k0_pay227 q) (Scalar.ofBits .f32 0x358637BD#32) G (ix3 0 f r)
      = low (fun d => q (ix2 ⟨64 + d.val, by omega⟩ r)) (fun d => G (ix2 d r)) (C (ix2 f r)) (S (ix2 f r)) f := by
  pointwise [k0_pay219, k0_pay220, k0_pay226, k0_pay227, k0_pay228, k0_pay229, k0_pay230, k0_pay231]
  rfl

theorem head51 (q : FVec Ideal S1024x256 .f32) (C S : Vec Ideal S32x256 .f32) (G : Vec Ideal S64x256 .f32) (f : Fin 32) (r : Fin 256) :
    k0_pay232 (k0_pay219 C) (k0_pay220 S) (k0_pay226 q) (k0_pay227 q) (Scalar.ofBits .f32 0x358637BD#32) G (ix3 0 f r)
      = high (fun d => q (ix2 ⟨64 + d.val, by omega⟩ r)) (fun d => G (ix2 d r)) (C (ix2 f r)) (S (ix2 f r)) f := by
  pointwise [k0_pay219, k0_pay220, k0_pay226, k0_pay227, k0_pay228, k0_pay229, k0_pay230, k0_pay232]
  rfl

theorem head52 (q : FVec Ideal S1024x256 .f32) (C S : Vec Ideal S32x256 .f32) (G : Vec Ideal S64x256 .f32) (f : Fin 32) (r : Fin 256) :
    k0_pay239 (k0_pay236 q (k0_pay219 C) (k0_pay220 S) G) (ix3 0 f r)
      = low (fun d => q (ix2 ⟨128 + d.val, by omega⟩ r)) (fun d => G (ix2 d r)) (C (ix2 f r)) (S (ix2 f r)) f := by
  pointwise [k0_pay219, k0_pay220, k0_pay233, k0_pay234, k0_pay235, k0_pay236, k0_pay239]
  rfl

theorem head53 (q : FVec Ideal S1024x256 .f32) (C S : Vec Ideal S32x256 .f32) (G : Vec Ideal S64x256 .f32) (f : Fin 32) (r : Fin 256) :
    k0_pay240 (k0_pay237 q (k0_pay220 S) G) (k0_pay238 q (k0_pay219 C) G) (ix3 0 f r)
      = high (fun d => q (ix2 ⟨128 + d.val, by omega⟩ r)) (fun d => G (ix2 d r)) (C (ix2 f r)) (S (ix2 f r)) f := by
  pointwise [k0_pay219, k0_pay220, k0_pay233, k0_pay234, k0_pay235, k0_pay237, k0_pay238, k0_pay240]
  rfl

theorem head54 (q : FVec Ideal S1024x256 .f32) (C S : Vec Ideal S32x256 .f32) (G : Vec Ideal S64x256 .f32) (f : Fin 32) (r : Fin 256) :
    k0_pay244 q (k0_pay219 C) (k0_pay220 S) G (ix3 0 f r)
      = low (fun d => q (ix2 ⟨192 + d.val, by omega⟩ r)) (fun d => G (ix2 d r)) (C (ix2 f r)) (S (ix2 f r)) f := by
  pointwise [k0_pay219, k0_pay220, k0_pay241, k0_pay242, k0_pay243, k0_pay244]
  rfl

theorem head55 (q : FVec Ideal S1024x256 .f32) (C S : Vec Ideal S32x256 .f32) (G : Vec Ideal S64x256 .f32) (f : Fin 32) (r : Fin 256) :
    k0_pay245 q (k0_pay219 C) (k0_pay220 S) G (ix3 0 f r)
      = high (fun d => q (ix2 ⟨192 + d.val, by omega⟩ r)) (fun d => G (ix2 d r)) (C (ix2 f r)) (S (ix2 f r)) f := by
  pointwise [k0_pay219, k0_pay220, k0_pay241, k0_pay242, k0_pay243, k0_pay245]
  rfl

theorem head56 (q : FVec Ideal S1024x256 .f32) (C S : Vec Ideal S32x256 .f32) (G : Vec Ideal S64x256 .f32) (f : Fin 32) (r : Fin 256) :
    k0_pay249 q (k0_pay219 C) (k0_pay220 S) G (ix3 0 f r)
      = low (fun d => q (ix2 ⟨256 + d.val, by omega⟩ r)) (fun d => G (ix2 d r)) (C (ix2 f r)) (S (ix2 f r)) f := by
  pointwise [k0_pay219, k0_pay220, k0_pay246, k0_pay247, k0_pay248, k0_pay249]
  rfl

theorem head57 (q : FVec Ideal S1024x256 .f32) (C S : Vec Ideal S32x256 .f32) (G : Vec Ideal S64x256 .f32) (f : Fin 32) (r : Fin 256) :
    k0_pay250 q (k0_pay219 C) (k0_pay220 S) G (ix3 0 f r)
      = high (fun d => q (ix2 ⟨256 + d.val, by omega⟩ r)) (fun d => G (ix2 d r)) (C (ix2 f r)) (S (ix2 f r)) f := by
  pointwise [k0_pay219, k0_pay220, k0_pay246, k0_pay247, k0_pay248, k0_pay250]
  rfl

theorem head58 (q : FVec Ideal S1024x256 .f32) (C S : Vec Ideal S32x256 .f32) (G : Vec Ideal S64x256 .f32) (f : Fin 32) (r : Fin 256) :
    k0_pay255 (k0_pay219 C) (k0_pay220 S) (k0_pay251 q) G (ix3 0 f r)
      = low (fun d => q (ix2 ⟨320 + d.val, by omega⟩ r)) (fun d => G (ix2 d r)) (C (ix2 f r)) (S (ix2 f r)) f := by
  pointwise [k0_pay219, k0_pay220, k0_pay251, k0_pay252, k0_pay253, k0_pay254, k0_pay255]
  rfl

theorem head59 (q : FVec Ideal S1024x256 .f32) (C S : Vec Ideal S32x256 .f32) (G : Vec Ideal S64x256 .f32) (f : Fin 32) (r : Fin 256) :
    k0_pay256 (k0_pay219 C) (k0_pay220 S) (k0_pay251 q) G (ix3 0 f r)
      = high (fun d => q (ix2 ⟨320 + d.val, by omega⟩ r)) (fun d => G (ix2 d r)) (C (ix2 f r)) (S (ix2 f r)) f := by
  pointwise [k0_pay219, k0_pay220, k0_pay251, k0_pay252, k0_pay253, k0_pay254, k0_pay256]
  rfl

theorem head60 (q : FVec Ideal S1024x256 .f32) (C S : Vec Ideal S32x256 .f32) (G : Vec Ideal S64x256 .f32) (f : Fin 32) (r : Fin 256) :
    k0_pay261 q (k0_pay219 C) (k0_pay220 S) G (ix3 0 f r)
      = low (fun d => q (ix2 ⟨384 + d.val, by omega⟩ r)) (fun d => G (ix2 d r)) (C (ix2 f r)) (S (ix2 f r)) f := by
  pointwise [k0_pay219, k0_pay220, k0_pay257, k0_pay258, k0_pay259, k0_pay261]
  rfl

theorem head61 (q : FVec Ideal S1024x256 .f32) (C S : Vec Ideal S32x256 .f32) (G : Vec Ideal S64x256 .f32) (f : Fin 32) (r : Fin 256) :
    k0_pay262 (k0_pay260 q (k0_pay219 C) (k0_pay220 S) G) (ix3 0 f r)
      = high (fun d => q (ix2 ⟨384 + d.val, by omega⟩ r)) (fun d => G (ix2 d r)) (C (ix2 f r)) (S (ix2 f r)) f := by
  pointwise [k0_pay219, k0_pay220, k0_pay257, k0_pay258, k0_pay259, k0_pay260, k0_pay262]
  rfl

theorem head62 (q : FVec Ideal S1024x256 .f32) (C S : Vec Ideal S32x256 .f32) (G : Vec Ideal S64x256 .f32) (f : Fin 32) (r : Fin 256) :
    k0_pay266 q (k0_pay219 C) (k0_pay220 S) G (ix3 0 f r)
      = low (fun d => q (ix2 ⟨448 + d.val, by omega⟩ r)) (fun d => G (ix2 d r)) (C (ix2 f r)) (S (ix2 f r)) f := by
  pointwise [k0_pay219, k0_pay220, k0_pay263, k0_pay264, k0_pay265, k0_pay266]
  rfl

theorem head63 (q : FVec Ideal S1024x256 .f32) (C S : Vec Ideal S32x256 .f32) (G : Vec Ideal S64x256 .f32) (f : Fin 32) (r : Fin 256) :
    k0_pay267 q (k0_pay219 C) (k0_pay220 S) G (ix3 0 f r)
      = high (fun d => q (ix2 ⟨448 + d.val, by omega⟩ r)) (fun d => G (ix2 d r)) (C (ix2 f r)) (S (ix2 f r)) f := by
  pointwise [k0_pay219, k0_pay220, k0_pay263, k0_pay264, k0_pay265, k0_pay267]
  rfl

end Cert.EvenInIdeal.RowValue

end
-- ==== Proof.EvenInQueries.lean ====
/- The input projection with the convolution: the queries. Each store of half a head writes the turned head of its rows. -/
module

public import proofs.«01_k».proof.Defs
public import proofs.«01_k».proof.Proof.Gen.EvenInIdeal.Value
public import proofs.«01_k».proof.Proof.InRow
public import proofs.«01_k».proof.Proof.EvenInRows
public import proofs.«01_k».proof.Proof.EvenInHeads

@[expose] public section

set_option maxRecDepth 16384

noncomputable section

open Idealize.ShloMosaic Idealize.ShloMosaic.TcCoe Idealize.SL.Sem

namespace Cert.EvenInIdeal.RowValue

open Cert.EvenInIdeal Cert.EvenInIdeal.Gen Cert.Layer

variable (m : (ℓ : Loc nD τ sig) → Buf (Elt Ideal) ℓ)

theorem flipped_low (i : Fin 1024) (k : Fin 3072) (h : i.val < 512) (hk : k.val = 1536 + i.val) : flipped i = k := by
  unfold flipped
  rw [dif_pos h]
  exact Fin.ext hk.symm

/-! The stores, by blocks of 256 rows, heads and halves. -/

theorem query0 (c : Dev nD) (t : Fin cfg0.N) (f : Fin 32) (r : Fin 256) :
    k0_pay29 (k0_pay24 (View.ld (iblk m c 12 t) r0_11)) (k0_pay25 (View.ld (iblk m c 13 t) r0_11)) (k0_pay27 (Q0 m c t) (View.ld (iblk m c 7 t) r0_12)) (k0_pay28 (Q0 m c t) (View.ld (iblk m c 7 t) r0_12)) (ix3 0 f r)
      = turned (P m c (bat t) (pos t ⟨r.val, by omega⟩)) 1536 (by omega) (fun d => m ((c : Thread nD τ).loc main_arg4) (ix1 d)) (pos t ⟨r.val, by omega⟩).val ⟨f.val, by omega⟩ := by
  refine (head0 (Q0 m c t) (View.ld (iblk m c 12 t) r0_11) (View.ld (iblk m c 13 t) r0_11) (View.ld (iblk m c 7 t) r0_12) f r).trans
    (low_eq _ _ _ _ _ _ 0 f (by show f.val = 0 * 64 + f.val; omega) _ _ _ _ (fun d => ?_) (fun d => ?_) ?_ ?_)
  · exact (Q0_at m c t r _).trans (congrArg _ (flipped_low _ _ (by show d.val < 512; omega) (by show 1536 + (0 * 64 + d.val) = 1536 + (d.val); omega)))
  · pointwise
    exact (w7_at m c t _ _).trans (congrArg (fun i => m ((c : Thread nD τ).loc main_arg4) (ix1 i)) (Fin.ext (by show (d.val) % 64 = d.val; omega)))
  · pointwise
    exact w12_at m c t f _
  · pointwise
    exact w13_at m c t f _

theorem query1 (c : Dev nD) (t : Fin cfg0.N) (f : Fin 32) (r : Fin 256) :
    k0_pay30 (k0_pay24 (View.ld (iblk m c 12 t) r0_11)) (k0_pay25 (View.ld (iblk m c 13 t) r0_11)) (k0_pay27 (Q0 m c t) (View.ld (iblk m c 7 t) r0_12)) (k0_pay28 (Q0 m c t) (View.ld (iblk m c 7 t) r0_12)) (ix3 0 f r)
      = turned (P m c (bat t) (pos t ⟨r.val, by omega⟩)) 1536 (by omega) (fun d => m ((c : Thread nD τ).loc main_arg4) (ix1 d)) (pos t ⟨r.val, by omega⟩).val ⟨32 + f.val, by omega⟩ := by
  refine (head1 (Q0 m c t) (View.ld (iblk m c 12 t) r0_11) (View.ld (iblk m c 13 t) r0_11) (View.ld (iblk m c 7 t) r0_12) f r).trans
    (high_eq _ _ _ _ _ _ 0 f (by show 32 + f.val = 0 * 64 + 32 + f.val; omega) _ _ _ _ (fun d => ?_) (fun d => ?_) ?_ ?_)
  · exact (Q0_at m c t r _).trans (congrArg _ (flipped_low _ _ (by show d.val < 512; omega) (by show 1536 + (0 * 64 + d.val) = 1536 + (d.val); omega)))
  · pointwise
    exact (w7_at m c t _ _).trans (congrArg (fun i => m ((c : Thread nD τ).loc main_arg4) (ix1 i)) (Fin.ext (by show (d.val) % 64 = d.val; omega)))
  · pointwise
    exact w12_at m c t f _
  · pointwise
    exact w13_at m c t f _

theorem query2 (c : Dev nD) (t : Fin cfg0.N) (f : Fin 32) (r : Fin 256) :
    k0_pay34 (Q0 m c t) (k0_pay24 (View.ld (iblk m c 12 t) r0_11)) (k0_pay25 (View.ld (iblk m c 13 t) r0_11)) (View.ld (iblk m c 7 t) r0_15) (ix3 0 f r)
      = turned (P m c (bat t) (pos t ⟨r.val, by omega⟩)) 1536 (by omega) (fun d => m ((c : Thread nD τ).loc main_arg4) (ix1 d)) (pos t ⟨r.val, by omega⟩).val ⟨64 + f.val, by omega⟩ := by
  refine (head2 (Q0 m c t) (View.ld (iblk m c 12 t) r0_11) (View.ld (iblk m c 13 t) r0_11) (View.ld (iblk m c 7 t) r0_15) f r).trans
    (low_eq _ _ _ _ _ _ 1 f (by show 64 + f.val = 1 * 64 + f.val; omega) _ _ _ _ (fun d => ?_) (fun d => ?_) ?_ ?_)
  · exact (Q0_at m c t r _).trans (congrArg _ (flipped_low _ _ (by show 64 + d.val < 512; omega) (by show 1536 + (1 * 64 + d.val) = 1536 + (64 + d.val); omega)))
  · pointwise
    exact (w7_at m c t _ _).trans (congrArg (fun i => m ((c : Thread nD τ).loc main_arg4) (ix1 i)) (Fin.ext (by show (64 + d.val) % 64 = d.val; omega)))
  · pointwise
    exact w12_at m c t f _
  · pointwise
    exact w13_at m c t f _

theorem query3 (c : Dev nD) (t : Fin cfg0.N) (f : Fin 32) (r : Fin 256) :
    k0_pay36 (k0_pay35 (Q0 m c t) (k0_pay24 (View.ld (iblk m c 12 t) r0_11)) (k0_pay25 (View.ld (iblk m c 13 t) r0_11)) (View.ld (iblk m c 7 t) r0_15)) (ix3 0 f r)
      = turned (P m c (bat t) (pos t ⟨r.val, by omega⟩)) 1536 (by omega) (fun d => m ((c : Thread nD τ).loc main_arg4) (ix1 d)) (pos t ⟨r.val, by omega⟩).val ⟨96 + f.val, by omega⟩ := by
  refine (head3 (Q0 m c t) (View.ld (iblk m c 12 t) r0_11) (View.ld (iblk m c 13 t) r0_11) (View.ld (iblk m c 7 t) r0_15) f r).trans
    (high_eq _ _ _ _ _ _ 1 f (by show 96 + f.val = 1 * 64 + 32 + f.val; omega) _ _ _ _ (fun d => ?_) (fun d => ?_) ?_ ?_)
  · exact (Q0_at m c t r _).trans (congrArg _ (flipped_low _ _ (by show 64 + d.val < 512; omega) (by show 1536 + (1 * 64 + d.val) = 1536 + (64 + d.val); omega)))
  · pointwise
    exact (w7_at m c t _ _).trans (congrArg (fun i => m ((c : Thread nD τ).loc main_arg4) (ix1 i)) (Fin.ext (by show (64 + d.val) % 64 = d.val; omega)))
  · pointwise
    exact w12_at m c t f _
  · pointwise
    exact w13_at m c t f _

theorem query4 (c : Dev nD) (t : Fin cfg0.N) (f : Fin 32) (r : Fin 256) :
    k0_pay40 (Q0 m c t) (k0_pay24 (View.ld (iblk m c 12 t) r0_11)) (k0_pay25 (View.ld (iblk m c 13 t) r0_11)) (View.ld (iblk m c 7 t) r0_18) (ix3 0 f r)
      = turned (P m c (bat t) (pos t ⟨r.val, by omega⟩)) 1536 (by omega) (fun d => m ((c : Thread nD τ).loc main_arg4) (ix1 d)) (pos t ⟨r.val, by omega⟩).val ⟨128 + f.val, by omega⟩ := by
  refine (head4 (Q0 m c t) (View.ld (iblk m c 12 t) r0_11) (View.ld (iblk m c 13 t) r0_11) (View.ld (iblk m c 7 t) r0_18) f r).trans
    (low_eq _ _ _ _ _ _ 2 f (by show 128 + f.val = 2 * 64 + f.val; omega) _ _ _ _ (fun d => ?_) (fun d => ?_) ?_ ?_)
  · exact (Q0_at m c t r _).trans (congrArg _ (flipped_low _ _ (by show 128 + d.val < 512; omega) (by show 1536 + (2 * 64 + d.val) = 1536 + (128 + d.val); omega)))
  · pointwise
    exact (w7_at m c t _ _).trans (congrArg (fun i => m ((c : Thread nD τ).loc main_arg4) (ix1 i)) (Fin.ext (by show (128 + d.val) % 64 = d.val; omega)))
  · pointwise
    exact w12_at m c t f _
  · pointwise
    exact w13_at m c t f _

theorem query5 (c : Dev nD) (t : Fin cfg0.N) (f : Fin 32) (r : Fin 256) :
    k0_pay41 (Q0 m c t) (k0_pay24 (View.ld (iblk m c 12 t) r0_11)) (k0_pay25 (View.ld (iblk m c 13 t) r0_11)) (View.ld (iblk m c 7 t) r0_18) (ix3 0 f r)
      = turned (P m c (bat t) (pos t ⟨r.val, by omega⟩)) 1536 (by omega) (fun d => m ((c : Thread nD τ).loc main_arg4) (ix1 d)) (pos t ⟨r.val, by omega⟩).val ⟨160 + f.val, by omega⟩ := by
  refine (head5 (Q0 m c t) (View.ld (iblk m c 12 t) r0_11) (View.ld (iblk m c 13 t) r0_11) (View.ld (iblk m c 7 t) r0_18) f r).trans
    (high_eq _ _ _ _ _ _ 2 f (by show 160 + f.val = 2 * 64 + 32 + f.val; omega) _ _ _ _ (fun d => ?_) (fun d => ?_) ?_ ?_)
  · exact (Q0_at m c t r _).trans (congrArg _ (flipped_low _ _ (by show 128 + d.val < 512; omega) (by show 1536 + (2 * 64 + d.val) = 1536 + (128 + d.val); omega)))
  · pointwise
    exact (w7_at m c t _ _).trans (congrArg (fun i => m ((c : Thread nD τ).loc main_arg4) (ix1 i)) (Fin.ext (by show (128 + d.val) % 64 = d.val; omega)))
  · pointwise
    exact w12_at m c t f _
  · pointwise
    exact w13_at m c t f _

theorem query6 (c : Dev nD) (t : Fin cfg0.N) (f : Fin 32) (r : Fin 256) :
    k0_pay47 (k0_pay24 (View.ld (iblk m c 12 t) r0_11)) (k0_pay25 (View.ld (iblk m c 13 t) r0_11)) (k0_pay42 (Q0 m c t)) (k0_pay43 (Q0 m c t)) (View.ld (iblk m c 7 t) r0_21) (ix3 0 f r)
      = turned (P m c (bat t) (pos t ⟨r.val, by omega⟩)) 1536 (by omega) (fun d => m ((c : Thread nD τ).loc main_arg4) (ix1 d)) (pos t ⟨r.val, by omega⟩).val ⟨192 + f.val, by omega⟩ := by
  refine (head6 (Q0 m c t) (View.ld (iblk m c 12 t) r0_11) (View.ld (iblk m c 13 t) r0_11) (View.ld (iblk m c 7 t) r0_21) f r).trans
    (low_eq _ _ _ _ _ _ 3 f (by show 192 + f.val = 3 * 64 + f.val; omega) _ _ _ _ (fun d => ?_) (fun d => ?_) ?_ ?_)
  · exact (Q0_at m c t r _).trans (congrArg _ (flipped_low _ _ (by show 192 + d.val < 512; omega) (by show 1536 + (3 * 64 + d.val) = 1536 + (192 + d.val); omega)))
  · pointwise
    exact (w7_at m c t _ _).trans (congrArg (fun i => m ((c : Thread nD τ).loc main_arg4) (ix1 i)) (Fin.ext (by show (192 + d.val) % 64 = d.val; omega)))
  · pointwise
    exact w12_at m c t f _
  · pointwise
    exact w13_at m c t f _

theorem query7 (c : Dev nD) (t : Fin cfg0.N) (f : Fin 32) (r : Fin 256) :
    k0_pay48 (k0_pay24 (View.ld (iblk m c 12 t) r0_11)) (k0_pay25 (View.ld (iblk m c 13 t) r0_11)) (k0_pay42 (Q0 m c t)) (k0_pay43 (Q0 m c t)) (View.ld (iblk m c 7 t) r0_21) (ix3 0 f r)
      = turned (P m c (bat t) (pos t ⟨r.val, by omega⟩)) 1536 (by omega) (fun d => m ((c : Thread nD τ).loc main_arg4) (ix1 d)) (pos t ⟨r.val, by omega⟩).val ⟨224 + f.val, by omega⟩ := by
  refine (head7 (Q0 m c t) (View.ld (iblk m c 12 t) r0_11) (View.ld (iblk m c 13 t) r0_11) (View.ld (iblk m c 7 t) r0_21) f r).trans
    (high_eq _ _ _ _ _ _ 3 f (by show 224 + f.val = 3 * 64 + 32 + f.val; omega) _ _ _ _ (fun d => ?_) (fun d => ?_) ?_ ?_)
  · exact (Q0_at m c t r _).trans (congrArg _ (flipped_low _ _ (by show 192 + d.val < 512; omega) (by show 1536 + (3 * 64 + d.val) = 1536 + (192 + d.val); omega)))
  · pointwise
    exact (w7_at m c t _ _).trans (congrArg (fun i => m ((c : Thread nD τ).loc main_arg4) (ix1 i)) (Fin.ext (by show (192 + d.val) % 64 = d.val; omega)))
  · pointwise
    exact w12_at m c t f _
  · pointwise
    exact w13_at m c t f _

theorem query8 (c : Dev nD) (t : Fin cfg0.N) (f : Fin 32) (r : Fin 256) :
    k0_pay54 (k0_pay53 (Q0 m c t) (k0_pay24 (View.ld (iblk m c 12 t) r0_11)) (k0_pay25 (View.ld (iblk m c 13 t) r0_11)) (View.ld (iblk m c 7 t) r0_24)) (ix3 0 f r)
      = turned (P m c (bat t) (pos t ⟨r.val, by omega⟩)) 1536 (by omega) (fun d => m ((c : Thread nD τ).loc main_arg4) (ix1 d)) (pos t ⟨r.val, by omega⟩).val ⟨256 + f.val, by omega⟩ := by
  refine (head8 (Q0 m c t) (View.ld (iblk m c 12 t) r0_11) (View.ld (iblk m c 13 t) r0_11) (View.ld (iblk m c 7 t) r0_24) f r).trans
    (low_eq _ _ _ _ _ _ 4 f (by show 256 + f.val = 4 * 64 + f.val; omega) _ _ _ _ (fun d => ?_) (fun d => ?_) ?_ ?_)
  · exact (Q0_at m c t r _).trans (congrArg _ (flipped_low _ _ (by show 256 + d.val < 512; omega) (by show 1536 + (4 * 64 + d.val) = 1536 + (256 + d.val); omega)))
  · pointwise
    exact (w7_at m c t _ _).trans (congrArg (fun i => m ((c : Thread nD τ).loc main_arg4) (ix1 i)) (Fin.ext (by show (256 + d.val) % 64 = d.val; omega)))
  · pointwise
    exact w12_at m c t f _
  · pointwise
    exact w13_at m c t f _

theorem query9 (c : Dev nD) (t : Fin cfg0.N) (f : Fin 32) (r : Fin 256) :
    k0_pay55 (k0_pay52 (Q0 m c t) (k0_pay24 (View.ld (iblk m c 12 t) r0_11)) (k0_pay25 (View.ld (iblk m c 13 t) r0_11)) (View.ld (iblk m c 7 t) r0_24)) (ix3 0 f r)
      = turned (P m c (bat t) (pos t ⟨r.val, by omega⟩)) 1536 (by omega) (fun d => m ((c : Thread nD τ).loc main_arg4) (ix1 d)) (pos t ⟨r.val, by omega⟩).val ⟨288 + f.val, by omega⟩ := by
  refine (head9 (Q0 m c t) (View.ld (iblk m c 12 t) r0_11) (View.ld (iblk m c 13 t) r0_11) (View.ld (iblk m c 7 t) r0_24) f r).trans
    (high_eq _ _ _ _ _ _ 4 f (by show 288 + f.val = 4 * 64 + 32 + f.val; omega) _ _ _ _ (fun d => ?_) (fun d => ?_) ?_ ?_)
  · exact (Q0_at m c t r _).trans (congrArg _ (flipped_low _ _ (by show 256 + d.val < 512; omega) (by show 1536 + (4 * 64 + d.val) = 1536 + (256 + d.val); omega)))
  · pointwise
    exact (w7_at m c t _ _).trans (congrArg (fun i => m ((c : Thread nD τ).loc main_arg4) (ix1 i)) (Fin.ext (by show (256 + d.val) % 64 = d.val; omega)))
  · pointwise
    exact w12_at m c t f _
  · pointwise
    exact w13_at m c t f _

theorem query10 (c : Dev nD) (t : Fin cfg0.N) (f : Fin 32) (r : Fin 256) :
    k0_pay59 (Q0 m c t) (k0_pay24 (View.ld (iblk m c 12 t) r0_11)) (k0_pay25 (View.ld (iblk m c 13 t) r0_11)) (View.ld (iblk m c 7 t) r0_27) (ix3 0 f r)
      = turned (P m c (bat t) (pos t ⟨r.val, by omega⟩)) 1536 (by omega) (fun d => m ((c : Thread nD τ).loc main_arg4) (ix1 d)) (pos t ⟨r.val, by omega⟩).val ⟨320 + f.val, by omega⟩ := by
  refine (head10 (Q0 m c t) (View.ld (iblk m c 12 t) r0_11) (View.ld (iblk m c 13 t) r0_11) (View.ld (iblk m c 7 t) r0_27) f r).trans
    (low_eq _ _ _ _ _ _ 5 f (by show 320 + f.val = 5 * 64 + f.val; omega) _ _ _ _ (fun d => ?_) (fun d => ?_) ?_ ?_)
  · exact (Q0_at m c t r _).trans (congrArg _ (flipped_low _ _ (by show 320 + d.val < 512; omega) (by show 1536 + (5 * 64 + d.val) = 1536 + (320 + d.val); omega)))
  · pointwise
    exact (w7_at m c t _ _).trans (congrArg (fun i => m ((c : Thread nD τ).loc main_arg4) (ix1 i)) (Fin.ext (by show (320 + d.val) % 64 = d.val; omega)))
  · pointwise
    exact w12_at m c t f _
  · pointwise
    exact w13_at m c t f _

theorem query11 (c : Dev nD) (t : Fin cfg0.N) (f : Fin 32) (r : Fin 256) :
    k0_pay60 (Q0 m c t) (k0_pay24 (View.ld (iblk m c 12 t) r0_11)) (k0_pay25 (View.ld (iblk m c 13 t) r0_11)) (View.ld (iblk m c 7 t) r0_27) (ix3 0 f r)
      = turned (P m c (bat t) (pos t ⟨r.val, by omega⟩)) 1536 (by omega) (fun d => m ((c : Thread nD τ).loc main_arg4) (ix1 d)) (pos t ⟨r.val, by omega⟩).val ⟨352 + f.val, by omega⟩ := by
  refine (head11 (Q0 m c t) (View.ld (iblk m c 12 t) r0_11) (View.ld (iblk m c 13 t) r0_11) (View.ld (iblk m c 7 t) r0_27) f r).trans
    (high_eq _ _ _ _ _ _ 5 f (by show 352 + f.val = 5 * 64 + 32 + f.val; omega) _ _ _ _ (fun d => ?_) (fun d => ?_) ?_ ?_)
  · exact (Q0_at m c t r _).trans (congrArg _ (flipped_low _ _ (by show 320 + d.val < 512; omega) (by show 1536 + (5 * 64 + d.val) = 1536 + (320 + d.val); omega)))
  · pointwise
    exact (w7_at m c t _ _).trans (congrArg (fun i => m ((c : Thread nD τ).loc main_arg4) (ix1 i)) (Fin.ext (by show (320 + d.val) % 64 = d.val; omega)))
  · pointwise
    exact w12_at m c t f _
  · pointwise
    exact w13_at m c t f _

theorem query12 (c : Dev nD) (t : Fin cfg0.N) (f : Fin 32) (r : Fin 256) :
    k0_pay66 (k0_pay24 (View.ld (iblk m c 12 t) r0_11)) (k0_pay25 (View.ld (iblk m c 13 t) r0_11)) (k0_pay61 (Q0 m c t)) (k0_pay62 (Q0 m c t)) (View.ld (iblk m c 7 t) r0_30) (ix3 0 f r)
      = turned (P m c (bat t) (pos t ⟨r.val, by omega⟩)) 1536 (by omega) (fun d => m ((c : Thread nD τ).loc main_arg4) (ix1 d)) (pos t ⟨r.val, by omega⟩).val ⟨384 + f.val, by omega⟩ := by
  refine (head12 (Q0 m c t) (View.ld (iblk m c 12 t) r0_11) (View.ld (iblk m c 13 t) r0_11) (View.ld (iblk m c 7 t) r0_30) f r).trans
    (low_eq _ _ _ _ _ _ 6 f (by show 384 + f.val = 6 * 64 + f.val; omega) _ _ _ _ (fun d => ?_) (fun d => ?_) ?_ ?_)
  · exact (Q0_at m c t r _).trans (congrArg _ (flipped_low _ _ (by show 384 + d.val < 512; omega) (by show 1536 + (6 * 64 + d.val) = 1536 + (384 + d.val); omega)))
  · pointwise
    exact (w7_at m c t _ _).trans (congrArg (fun i => m ((c : Thread nD τ).loc main_arg4) (ix1 i)) (Fin.ext (by show (384 + d.val) % 64 = d.val; omega)))
  · pointwise
    exact w12_at m c t f _
  · pointwise
    exact w13_at m c t f _

theorem query13 (c : Dev nD) (t : Fin cfg0.N) (f : Fin 32) (r : Fin 256) :
    k0_pay67 (k0_pay24 (View.ld (iblk m c 12 t) r0_11)) (k0_pay25 (View.ld (iblk m c 13 t) r0_11)) (k0_pay61 (Q0 m c t)) (k0_pay62 (Q0 m c t)) (View.ld (iblk m c 7 t) r0_30) (ix3 0 f r)
      = turned (P m c (bat t) (pos t ⟨r.val, by omega⟩)) 1536 (by omega) (fun d => m ((c : Thread nD τ).loc main_arg4) (ix1 d)) (pos t ⟨r.val, by omega⟩).val ⟨416 + f.val, by omega⟩ := by
  refine (head13 (Q0 m c t) (View.ld (iblk m c 12 t) r0_11) (View.ld (iblk m c 13 t) r0_11) (View.ld (iblk m c 7 t) r0_30) f r).trans
    (high_eq _ _ _ _ _ _ 6 f (by show 416 + f.val = 6 * 64 + 32 + f.val; omega) _ _ _ _ (fun d => ?_) (fun d => ?_) ?_ ?_)
  · exact (Q0_at m c t r _).trans (congrArg _ (flipped_low _ _ (by show 384 + d.val < 512; omega) (by show 1536 + (6 * 64 + d.val) = 1536 + (384 + d.val); omega)))
  · pointwise
    exact (w7_at m c t _ _).trans (congrArg (fun i => m ((c : Thread nD τ).loc main_arg4) (ix1 i)) (Fin.ext (by show (384 + d.val) % 64 = d.val; omega)))
  · pointwise
    exact w12_at m c t f _
  · pointwise
    exact w13_at m c t f _

theorem query14 (c : Dev nD) (t : Fin cfg0.N) (f : Fin 32) (r : Fin 256) :
    k0_pay71 (k0_pay24 (View.ld (iblk m c 12 t) r0_11)) (k0_pay25 (View.ld (iblk m c 13 t) r0_11)) (k0_pay68 (Q0 m c t) (View.ld (iblk m c 7 t) r0_33)) (k0_pay69 (Q0 m c t) (View.ld (iblk m c 7 t) r0_33)) (ix3 0 f r)
      = turned (P m c (bat t) (pos t ⟨r.val, by omega⟩)) 1536 (by omega) (fun d => m ((c : Thread nD τ).loc main_arg4) (ix1 d)) (pos t ⟨r.val, by omega⟩).val ⟨448 + f.val, by omega⟩ := by
  refine (head14 (Q0 m c t) (View.ld (iblk m c 12 t) r0_11) (View.ld (iblk m c 13 t) r0_11) (View.ld (iblk m c 7 t) r0_33) f r).trans
    (low_eq _ _ _ _ _ _ 7 f (by show 448 + f.val = 7 * 64 + f.val; omega) _ _ _ _ (fun d => ?_) (fun d => ?_) ?_ ?_)
  · exact (Q0_at m c t r _).trans (congrArg _ (flipped_low _ _ (by show 448 + d.val < 512; omega) (by show 1536 + (7 * 64 + d.val) = 1536 + (448 + d.val); omega)))
  · pointwise
    exact (w7_at m c t _ _).trans (congrArg (fun i => m ((c : Thread nD τ).loc main_arg4) (ix1 i)) (Fin.ext (by show (448 + d.val) % 64 = d.val; omega)))
  · pointwise
    exact w12_at m c t f _
  · pointwise
    exact w13_at m c t f _

theorem query15 (c : Dev nD) (t : Fin cfg0.N) (f : Fin 32) (r : Fin 256) :
    k0_pay72 (k0_pay24 (View.ld (iblk m c 12 t) r0_11)) (k0_pay25 (View.ld (iblk m c 13 t) r0_11)) (k0_pay68 (Q0 m c t) (View.ld (iblk m c 7 t) r0_33)) (k0_pay69 (Q0 m c t) (View.ld (iblk m c 7 t) r0_33)) (ix3 0 f r)
      = turned (P m c (bat t) (pos t ⟨r.val, by omega⟩)) 1536 (by omega) (fun d => m ((c : Thread nD τ).loc main_arg4) (ix1 d)) (pos t ⟨r.val, by omega⟩).val ⟨480 + f.val, by omega⟩ := by
  refine (head15 (Q0 m c t) (View.ld (iblk m c 12 t) r0_11) (View.ld (iblk m c 13 t) r0_11) (View.ld (iblk m c 7 t) r0_33) f r).trans
    (high_eq _ _ _ _ _ _ 7 f (by show 480 + f.val = 7 * 64 + 32 + f.val; omega) _ _ _ _ (fun d => ?_) (fun d => ?_) ?_ ?_)
  · exact (Q0_at m c t r _).trans (congrArg _ (flipped_low _ _ (by show 448 + d.val < 512; omega) (by show 1536 + (7 * 64 + d.val) = 1536 + (448 + d.val); omega)))
  · pointwise
    exact (w7_at m c t _ _).trans (congrArg (fun i => m ((c : Thread nD τ).loc main_arg4) (ix1 i)) (Fin.ext (by show (448 + d.val) % 64 = d.val; omega)))
  · pointwise
    exact w12_at m c t f _
  · pointwise
    exact w13_at m c t f _

theorem query16 (c : Dev nD) (t : Fin cfg0.N) (f : Fin 32) (r : Fin 256) :
    k0_pay91 (k0_pay84 (View.ld (iblk m c 12 t) r0_40)) (k0_pay85 (View.ld (iblk m c 13 t) r0_40)) (k0_pay86 (Q1 m c t)) (k0_pay87 (Q1 m c t)) (View.ld (iblk m c 7 t) r0_41) (ix3 0 f r)
      = turned (P m c (bat t) (pos t ⟨256 + r.val, by omega⟩)) 1536 (by omega) (fun d => m ((c : Thread nD τ).loc main_arg4) (ix1 d)) (pos t ⟨256 + r.val, by omega⟩).val ⟨f.val, by omega⟩ := by
  refine (head16 (Q1 m c t) (View.ld (iblk m c 12 t) r0_40) (View.ld (iblk m c 13 t) r0_40) (View.ld (iblk m c 7 t) r0_41) f r).trans
    (low_eq _ _ _ _ _ _ 0 f (by show f.val = 0 * 64 + f.val; omega) _ _ _ _ (fun d => ?_) (fun d => ?_) ?_ ?_)
  · exact (Q1_at m c t r _).trans (congrArg _ (flipped_low _ _ (by show d.val < 512; omega) (by show 1536 + (0 * 64 + d.val) = 1536 + (d.val); omega)))
  · pointwise
    exact (w7_at m c t _ _).trans (congrArg (fun i => m ((c : Thread nD τ).loc main_arg4) (ix1 i)) (Fin.ext (by show (d.val) % 64 = d.val; omega)))
  · pointwise
    exact w12_at m c t f _
  · pointwise
    exact w13_at m c t f _

theorem query17 (c : Dev nD) (t : Fin cfg0.N) (f : Fin 32) (r : Fin 256) :
    k0_pay92 (k0_pay84 (View.ld (iblk m c 12 t) r0_40)) (k0_pay85 (View.ld (iblk m c 13 t) r0_40)) (k0_pay86 (Q1 m c t)) (k0_pay87 (Q1 m c t)) (View.ld (iblk m c 7 t) r0_41) (ix3 0 f r)
      = turned (P m c (bat t) (pos t ⟨256 + r.val, by omega⟩)) 1536 (by omega) (fun d => m ((c : Thread nD τ).loc main_arg4) (ix1 d)) (pos t ⟨256 + r.val, by omega⟩).val ⟨32 + f.val, by omega⟩ := by
  refine (head17 (Q1 m c t) (View.ld (iblk m c 12 t) r0_40) (View.ld (iblk m c 13 t) r0_40) (View.ld (iblk m c 7 t) r0_41) f r).trans
    (high_eq _ _ _ _ _ _ 0 f (by show 32 + f.val = 0 * 64 + 32 + f.val; omega) _ _ _ _ (fun d => ?_) (fun d => ?_) ?_ ?_)
  · exact (Q1_at m c t r _).trans (congrArg _ (flipped_low _ _ (by show d.val < 512; omega) (by show 1536 + (0 * 64 + d.val) = 1536 + (d.val); omega)))
  · pointwise
    exact (w7_at m c t _ _).trans (congrArg (fun i => m ((c : Thread nD τ).loc main_arg4) (ix1 i)) (Fin.ext (by show (d.val) % 64 = d.val; omega)))
  · pointwise
    exact w12_at m c t f _
  · pointwise
    exact w13_at m c t f _

theorem query18 (c : Dev nD) (t : Fin cfg0.N) (f : Fin 32) (r : Fin 256) :
    k0_pay98 (k0_pay97 (Q1 m c t) (k0_pay84 (View.ld (iblk m c 12 t) r0_40)) (k0_pay85 (View.ld (iblk m c 13 t) r0_40)) (View.ld (iblk m c 7 t) r0_44)) (ix3 0 f r)
      = turned (P m c (bat t) (pos t ⟨256 + r.val, by omega⟩)) 1536 (by omega) (fun d => m ((c : Thread nD τ).loc main_arg4) (ix1 d)) (pos t ⟨256 + r.val, by omega⟩).val ⟨64 + f.val, by omega⟩ := by
  refine (head18 (Q1 m c t) (View.ld (iblk m c 12 t) r0_40) (View.ld (iblk m c 13 t) r0_40) (View.ld (iblk m c 7 t) r0_44) f r).trans
    (low_eq _ _ _ _ _ _ 1 f (by show 64 + f.val = 1 * 64 + f.val; omega) _ _ _ _ (fun d => ?_) (fun d => ?_) ?_ ?_)
  · exact (Q1_at m c t r _).trans (congrArg _ (flipped_low _ _ (by show 64 + d.val < 512; omega) (by show 1536 + (1 * 64 + d.val) = 1536 + (64 + d.val); omega)))
  · pointwise
    exact (w7_at m c t _ _).trans (congrArg (fun i => m ((c : Thread nD τ).loc main_arg4) (ix1 i)) (Fin.ext (by show (64 + d.val) % 64 = d.val; omega)))
  · pointwise
    exact w12_at m c t f _
  · pointwise
    exact w13_at m c t f _

theorem query19 (c : Dev nD) (t : Fin cfg0.N) (f : Fin 32) (r : Fin 256) :
    k0_pay99 (k0_pay96 (Q1 m c t) (k0_pay84 (View.ld (iblk m c 12 t) r0_40)) (k0_pay85 (View.ld (iblk m c 13 t) r0_40)) (View.ld (iblk m c 7 t) r0_44)) (ix3 0 f r)
      = turned (P m c (bat t) (pos t ⟨256 + r.val, by omega⟩)) 1536 (by omega) (fun d => m ((c : Thread nD τ).loc main_arg4) (ix1 d)) (pos t ⟨256 + r.val, by omega⟩).val ⟨96 + f.val, by omega⟩ := by
  refine (head19 (Q1 m c t) (View.ld (iblk m c 12 t) r0_40) (View.ld (iblk m c 13 t) r0_40) (View.ld (iblk m c 7 t) r0_44) f r).trans
    (high_eq _ _ _ _ _ _ 1 f (by show 96 + f.val = 1 * 64 + 32 + f.val; omega) _ _ _ _ (fun d => ?_) (fun d => ?_) ?_ ?_)
  · exact (Q1_at m c t r _).trans (congrArg _ (flipped_low _ _ (by show 64 + d.val < 512; omega) (by show 1536 + (1 * 64 + d.val) = 1536 + (64 + d.val); omega)))
  · pointwise
    exact (w7_at m c t _ _).trans (congrArg (fun i => m ((c : Thread nD τ).loc main_arg4) (ix1 i)) (Fin.ext (by show (64 + d.val) % 64 = d.val; omega)))
  · pointwise
    exact w12_at m c t f _
  · pointwise
    exact w13_at m c t f _

theorem query20 (c : Dev nD) (t : Fin cfg0.N) (f : Fin 32) (r : Fin 256) :
    k0_pay103 (Q1 m c t) (k0_pay84 (View.ld (iblk m c 12 t) r0_40)) (k0_pay85 (View.ld (iblk m c 13 t) r0_40)) (View.ld (iblk m c 7 t) r0_47) (ix3 0 f r)
      = turned (P m c (bat t) (pos t ⟨256 + r.val, by omega⟩)) 1536 (by omega) (fun d => m ((c : Thread nD τ).loc main_arg4) (ix1 d)) (pos t ⟨256 + r.val, by omega⟩).val ⟨128 + f.val, by omega⟩ := by
  refine (head20 (Q1 m c t) (View.ld (iblk m c 12 t) r0_40) (View.ld (iblk m c 13 t) r0_40) (View.ld (iblk m c 7 t) r0_47) f r).trans
    (low_eq _ _ _ _ _ _ 2 f (by show 128 + f.val = 2 * 64 + f.val; omega) _ _ _ _ (fun d => ?_) (fun d => ?_) ?_ ?_)
  · exact (Q1_at m c t r _).trans (congrArg _ (flipped_low _ _ (by show 128 + d.val < 512; omega) (by show 1536 + (2 * 64 + d.val) = 1536 + (128 + d.val); omega)))
  · pointwise
    exact (w7_at m c t _ _).trans (congrArg (fun i => m ((c : Thread nD τ).loc main_arg4) (ix1 i)) (Fin.ext (by show (128 + d.val) % 64 = d.val; omega)))
  · pointwise
    exact w12_at m c t f _
  · pointwise
    exact w13_at m c t f _

theorem query21 (c : Dev nD) (t : Fin cfg0.N) (f : Fin 32) (r : Fin 256) :
    k0_pay104 (Q1 m c t) (k0_pay84 (View.ld (iblk m c 12 t) r0_40)) (k0_pay85 (View.ld (iblk m c 13 t) r0_40)) (View.ld (iblk m c 7 t) r0_47) (ix3 0 f r)
      = turned (P m c (bat t) (pos t ⟨256 + r.val, by omega⟩)) 1536 (by omega) (fun d => m ((c : Thread nD τ).loc main_arg4) (ix1 d)) (pos t ⟨256 + r.val, by omega⟩).val ⟨160 + f.val, by omega⟩ := by
  refine (head21 (Q1 m c t) (View.ld (iblk m c 12 t) r0_40) (View.ld (iblk m c 13 t) r0_40) (View.ld (iblk m c 7 t) r0_47) f r).trans
    (high_eq _ _ _ _ _ _ 2 f (by show 160 + f.val = 2 * 64 + 32 + f.val; omega) _ _ _ _ (fun d => ?_) (fun d => ?_) ?_ ?_)
  · exact (Q1_at m c t r _).trans (congrArg _ (flipped_low _ _ (by show 128 + d.val < 512; omega) (by show 1536 + (2 * 64 + d.val) = 1536 + (128 + d.val); omega)))
  · pointwise
    exact (w7_at m c t _ _).trans (congrArg (fun i => m ((c : Thread nD τ).loc main_arg4) (ix1 i)) (Fin.ext (by show (128 + d.val) % 64 = d.val; omega)))
  · pointwise
    exact w12_at m c t f _
  · pointwise
    exact w13_at m c t f _

theorem query22 (c : Dev nD) (t : Fin cfg0.N) (f : Fin 32) (r : Fin 256) :
    k0_pay110 (k0_pay84 (View.ld (iblk m c 12 t) r0_40)) (k0_pay85 (View.ld (iblk m c 13 t) r0_40)) (k0_pay105 (Q1 m c t)) (k0_pay106 (Q1 m c t)) (View.ld (iblk m c 7 t) r0_50) (ix3 0 f r)
      = turned (P m c (bat t) (pos t ⟨256 + r.val, by omega⟩)) 1536 (by omega) (fun d => m ((c : Thread nD τ).loc main_arg4) (ix1 d)) (pos t ⟨256 + r.val, by omega⟩).val ⟨192 + f.val, by omega⟩ := by
  refine (head22 (Q1 m c t) (View.ld (iblk m c 12 t) r0_40) (View.ld (iblk m c 13 t) r0_40) (View.ld (iblk m c 7 t) r0_50) f r).trans
    (low_eq _ _ _ _ _ _ 3 f (by show 192 + f.val = 3 * 64 + f.val; omega) _ _ _ _ (fun d => ?_) (fun d => ?_) ?_ ?_)
  · exact (Q1_at m c t r _).trans (congrArg _ (flipped_low _ _ (by show 192 + d.val < 512; omega) (by show 1536 + (3 * 64 + d.val) = 1536 + (192 + d.val); omega)))
  · pointwise
    exact (w7_at m c t _ _).trans (congrArg (fun i => m ((c : Thread nD τ).loc main_arg4) (ix1 i)) (Fin.ext (by show (192 + d.val) % 64 = d.val; omega)))
  · pointwise
    exact w12_at m c t f _
  · pointwise
    exact w13_at m c t f _

theorem query23 (c : Dev nD) (t : Fin cfg0.N) (f : Fin 32) (r : Fin 256) :
    k0_pay111 (k0_pay84 (View.ld (iblk m c 12 t) r0_40)) (k0_pay85 (View.ld (iblk m c 13 t) r0_40)) (k0_pay105 (Q1 m c t)) (k0_pay106 (Q1 m c t)) (View.ld (iblk m c 7 t) r0_50) (ix3 0 f r)
      = turned (P m c (bat t) (pos t ⟨256 + r.val, by omega⟩)) 1536 (by omega) (fun d => m ((c : Thread nD τ).loc main_arg4) (ix1 d)) (pos t ⟨256 + r.val, by omega⟩).val ⟨224 + f.val, by omega⟩ := by
  refine (head23 (Q1 m c t) (View.ld (iblk m c 12 t) r0_40) (View.ld (iblk m c 13 t) r0_40) (View.ld (iblk m c 7 t) r0_50) f r).trans
    (high_eq _ _ _ _ _ _ 3 f (by show 224 + f.val = 3 * 64 + 32 + f.val; omega) _ _ _ _ (fun d => ?_) (fun d => ?_) ?_ ?_)
  · exact (Q1_at m c t r _).trans (congrArg _ (flipped_low _ _ (by show 192 + d.val < 512; omega) (by show 1536 + (3 * 64 + d.val) = 1536 + (192 + d.val); omega)))
  · pointwise
    exact (w7_at m c t _ _).trans (congrArg (fun i => m ((c : Thread nD τ).loc main_arg4) (ix1 i)) (Fin.ext (by show (192 + d.val) % 64 = d.val; omega)))
  · pointwise
    exact w12_at m c t f _
  · pointwise
    exact w13_at m c t f _

theorem query24 (c : Dev nD) (t : Fin cfg0.N) (f : Fin 32) (r : Fin 256) :
    k0_pay115 (k0_pay84 (View.ld (iblk m c 12 t) r0_40)) (k0_pay85 (View.ld (iblk m c 13 t) r0_40)) (k0_pay112 (Q1 m c t) (View.ld (iblk m c 7 t) r0_53)) (ix3 0 f r)
      = turned (P m c (bat t) (pos t ⟨256 + r.val, by omega⟩)) 1536 (by omega) (fun d => m ((c : Thread nD τ).loc main_arg4) (ix1 d)) (pos t ⟨256 + r.val, by omega⟩).val ⟨256 + f.val, by omega⟩ := by
  refine (head24 (Q1 m c t) (View.ld (iblk m c 12 t) r0_40) (View.ld (iblk m c 13 t) r0_40) (View.ld (iblk m c 7 t) r0_53) f r).trans
    (low_eq _ _ _ _ _ _ 4 f (by show 256 + f.val = 4 * 64 + f.val; omega) _ _ _ _ (fun d => ?_) (fun d => ?_) ?_ ?_)
  · exact (Q1_at m c t r _).trans (congrArg _ (flipped_low _ _ (by show 256 + d.val < 512; omega) (by show 1536 + (4 * 64 + d.val) = 1536 + (256 + d.val); omega)))
  · pointwise
    exact (w7_at m c t _ _).trans (congrArg (fun i => m ((c : Thread nD τ).loc main_arg4) (ix1 i)) (Fin.ext (by show (256 + d.val) % 64 = d.val; omega)))
  · pointwise
    exact w12_at m c t f _
  · pointwise
    exact w13_at m c t f _

theorem query25 (c : Dev nD) (t : Fin cfg0.N) (f : Fin 32) (r : Fin 256) :
    k0_pay116 (k0_pay84 (View.ld (iblk m c 12 t) r0_40)) (k0_pay85 (View.ld (iblk m c 13 t) r0_40)) (k0_pay112 (Q1 m c t) (View.ld (iblk m c 7 t) r0_53)) (ix3 0 f r)
      = turned (P m c (bat t) (pos t ⟨256 + r.val, by omega⟩)) 1536 (by omega) (fun d => m ((c : Thread nD τ).loc main_arg4) (ix1 d)) (pos t ⟨256 + r.val, by omega⟩).val ⟨288 + f.val, by omega⟩ := by
  refine (head25 (Q1 m c t) (View.ld (iblk m c 12 t) r0_40) (View.ld (iblk m c 13 t) r0_40) (View.ld (iblk m c 7 t) r0_53) f r).trans
    (high_eq _ _ _ _ _ _ 4 f (by show 288 + f.val = 4 * 64 + 32 + f.val; omega) _ _ _ _ (fun d => ?_) (fun d => ?_) ?_ ?_)
  · exact (Q1_at m c t r _).trans (congrArg _ (flipped_low _ _ (by show 256 + d.val < 512; omega) (by show 1536 + (4 * 64 + d.val) = 1536 + (256 + d.val); omega)))
  · pointwise
    exact (w7_at m c t _ _).trans (congrArg (fun i => m ((c : Thread nD τ).loc main_arg4) (ix1 i)) (Fin.ext (by show (256 + d.val) % 64 = d.val; omega)))
  · pointwise
    exact w12_at m c t f _
  · pointwise
    exact w13_at m c t f _

theorem query26 (c : Dev nD) (t : Fin cfg0.N) (f : Fin 32) (r : Fin 256) :
    k0_pay120 (Q1 m c t) (k0_pay84 (View.ld (iblk m c 12 t) r0_40)) (k0_pay85 (View.ld (iblk m c 13 t) r0_40)) (View.ld (iblk m c 7 t) r0_56) (ix3 0 f r)
      = turned (P m c (bat t) (pos t ⟨256 + r.val, by omega⟩)) 1536 (by omega) (fun d => m ((c : Thread nD τ).loc main_arg4) (ix1 d)) (pos t ⟨256 + r.val, by omega⟩).val ⟨320 + f.val, by omega⟩ := by
  refine (head26 (Q1 m c t) (View.ld (iblk m c 12 t) r0_40) (View.ld (iblk m c 13 t) r0_40) (View.ld (iblk m c 7 t) r0_56) f r).trans
    (low_eq _ _ _ _ _ _ 5 f (by show 320 + f.val = 5 * 64 + f.val; omega) _ _ _ _ (fun d => ?_) (fun d => ?_) ?_ ?_)
  · exact (Q1_at m c t r _).trans (congrArg _ (flipped_low _ _ (by show 320 + d.val < 512; omega) (by show 1536 + (5 * 64 + d.val) = 1536 + (320 + d.val); omega)))
  · pointwise
    exact (w7_at m c t _ _).trans (congrArg (fun i => m ((c : Thread nD τ).loc main_arg4) (ix1 i)) (Fin.ext (by show (320 + d.val) % 64 = d.val; omega)))
  · pointwise
    exact w12_at m c t f _
  · pointwise
    exact w13_at m c t f _

theorem query27 (c : Dev nD) (t : Fin cfg0.N) (f : Fin 32) (r : Fin 256) :
    k0_pay122 (k0_pay121 (Q1 m c t) (k0_pay84 (View.ld (iblk m c 12 t) r0_40)) (k0_pay85 (View.ld (iblk m c 13 t) r0_40)) (View.ld (iblk m c 7 t) r0_56)) (ix3 0 f r)
      = turned (P m c (bat t) (pos t ⟨256 + r.val, by omega⟩)) 1536 (by omega) (fun d => m ((c : Thread nD τ).loc main_arg4) (ix1 d)) (pos t ⟨256 + r.val, by omega⟩).val ⟨352 + f.val, by omega⟩ := by
  refine (head27 (Q1 m c t) (View.ld (iblk m c 12 t) r0_40) (View.ld (iblk m c 13 t) r0_40) (View.ld (iblk m c 7 t) r0_56) f r).trans
    (high_eq _ _ _ _ _ _ 5 f (by show 352 + f.val = 5 * 64 + 32 + f.val; omega) _ _ _ _ (fun d => ?_) (fun d => ?_) ?_ ?_)
  · exact (Q1_at m c t r _).trans (congrArg _ (flipped_low _ _ (by show 320 + d.val < 512; omega) (by show 1536 + (5 * 64 + d.val) = 1536 + (320 + d.val); omega)))
  · pointwise
    exact (w7_at m c t _ _).trans (congrArg (fun i => m ((c : Thread nD τ).loc main_arg4) (ix1 i)) (Fin.ext (by show (320 + d.val) % 64 = d.val; omega)))
  · pointwise
    exact w12_at m c t f _
  · pointwise
    exact w13_at m c t f _

theorem query28 (c : Dev nD) (t : Fin cfg0.N) (f : Fin 32) (r : Fin 256) :
    k0_pay126 (Q1 m c t) (k0_pay84 (View.ld (iblk m c 12 t) r0_40)) (k0_pay85 (View.ld (iblk m c 13 t) r0_40)) (View.ld (iblk m c 7 t) r0_59) (ix3 0 f r)
      = turned (P m c (bat t) (pos t ⟨256 + r.val, by omega⟩)) 1536 (by omega) (fun d => m ((c : Thread nD τ).loc main_arg4) (ix1 d)) (pos t ⟨256 + r.val, by omega⟩).val ⟨384 + f.val, by omega⟩ := by
  refine (head28 (Q1 m c t) (View.ld (iblk m c 12 t) r0_40) (View.ld (iblk m c 13 t) r0_40) (View.ld (iblk m c 7 t) r0_59) f r).trans
    (low_eq _ _ _ _ _ _ 6 f (by show 384 + f.val = 6 * 64 + f.val; omega) _ _ _ _ (fun d => ?_) (fun d => ?_) ?_ ?_)
  · exact (Q1_at m c t r _).trans (congrArg _ (flipped_low _ _ (by show 384 + d.val < 512; omega) (by show 1536 + (6 * 64 + d.val) = 1536 + (384 + d.val); omega)))
  · pointwise
    exact (w7_at m c t _ _).trans (congrArg (fun i => m ((c : Thread nD τ).loc main_arg4) (ix1 i)) (Fin.ext (by show (384 + d.val) % 64 = d.val; omega)))
  · pointwise
    exact w12_at m c t f _
  · pointwise
    exact w13_at m c t f _

theorem query29 (c : Dev nD) (t : Fin cfg0.N) (f : Fin 32) (r : Fin 256) :
    k0_pay127 (Q1 m c t) (k0_pay84 (View.ld (iblk m c 12 t) r0_40)) (k0_pay85 (View.ld (iblk m c 13 t) r0_40)) (View.ld (iblk m c 7 t) r0_59) (ix3 0 f r)
      = turned (P m c (bat t) (pos t ⟨256 + r.val, by omega⟩)) 1536 (by omega) (fun d => m ((c : Thread nD τ).loc main_arg4) (ix1 d)) (pos t ⟨256 + r.val, by omega⟩).val ⟨416 + f.val, by omega⟩ := by
  refine (head29 (Q1 m c t) (View.ld (iblk m c 12 t) r0_40) (View.ld (iblk m c 13 t) r0_40) (View.ld (iblk m c 7 t) r0_59) f r).trans
    (high_eq _ _ _ _ _ _ 6 f (by show 416 + f.val = 6 * 64 + 32 + f.val; omega) _ _ _ _ (fun d => ?_) (fun d => ?_) ?_ ?_)
  · exact (Q1_at m c t r _).trans (congrArg _ (flipped_low _ _ (by show 384 + d.val < 512; omega) (by show 1536 + (6 * 64 + d.val) = 1536 + (384 + d.val); omega)))
  · pointwise
    exact (w7_at m c t _ _).trans (congrArg (fun i => m ((c : Thread nD τ).loc main_arg4) (ix1 i)) (Fin.ext (by show (384 + d.val) % 64 = d.val; omega)))
  · pointwise
    exact w12_at m c t f _
  · pointwise
    exact w13_at m c t f _

theorem query30 (c : Dev nD) (t : Fin cfg0.N) (f : Fin 32) (r : Fin 256) :
    k0_pay134 (k0_pay84 (View.ld (iblk m c 12 t) r0_40)) (k0_pay85 (View.ld (iblk m c 13 t) r0_40)) (k0_pay128 (Q1 m c t)) (k0_pay129 (Q1 m c t)) (k0_pay130 (F := Ideal)) (View.ld (iblk m c 7 t) r0_62) (ix3 0 f r)
      = turned (P m c (bat t) (pos t ⟨256 + r.val, by omega⟩)) 1536 (by omega) (fun d => m ((c : Thread nD τ).loc main_arg4) (ix1 d)) (pos t ⟨256 + r.val, by omega⟩).val ⟨448 + f.val, by omega⟩ := by
  refine (head30 (Q1 m c t) (View.ld (iblk m c 12 t) r0_40) (View.ld (iblk m c 13 t) r0_40) (View.ld (iblk m c 7 t) r0_62) f r).trans
    (low_eq _ _ _ _ _ _ 7 f (by show 448 + f.val = 7 * 64 + f.val; omega) _ _ _ _ (fun d => ?_) (fun d => ?_) ?_ ?_)
  · exact (Q1_at m c t r _).trans (congrArg _ (flipped_low _ _ (by show 448 + d.val < 512; omega) (by show 1536 + (7 * 64 + d.val) = 1536 + (448 + d.val); omega)))
  · pointwise
    exact (w7_at m c t _ _).trans (congrArg (fun i => m ((c : Thread nD τ).loc main_arg4) (ix1 i)) (Fin.ext (by show (448 + d.val) % 64 = d.val; omega)))
  · pointwise
    exact w12_at m c t f _
  · pointwise
    exact w13_at m c t f _

theorem query31 (c : Dev nD) (t : Fin cfg0.N) (f : Fin 32) (r : Fin 256) :
    k0_pay135 (k0_pay84 (View.ld (iblk m c 12 t) r0_40)) (k0_pay85 (View.ld (iblk m c 13 t) r0_40)) (k0_pay128 (Q1 m c t)) (k0_pay129 (Q1 m c t)) (k0_pay130 (F := Ideal)) (View.ld (iblk m c 7 t) r0_62) (ix3 0 f r)
      = turned (P m c (bat t) (pos t ⟨256 + r.val, by omega⟩)) 1536 (by omega) (fun d => m ((c : Thread nD τ).loc main_arg4) (ix1 d)) (pos t ⟨256 + r.val, by omega⟩).val ⟨480 + f.val, by omega⟩ := by
  refine (head31 (Q1 m c t) (View.ld (iblk m c 12 t) r0_40) (View.ld (iblk m c 13 t) r0_40) (View.ld (iblk m c 7 t) r0_62) f r).trans
    (high_eq _ _ _ _ _ _ 7 f (by show 480 + f.val = 7 * 64 + 32 + f.val; omega) _ _ _ _ (fun d => ?_) (fun d => ?_) ?_ ?_)
  · exact (Q1_at m c t r _).trans (congrArg _ (flipped_low _ _ (by show 448 + d.val < 512; omega) (by show 1536 + (7 * 64 + d.val) = 1536 + (448 + d.val); omega)))
  · pointwise
    exact (w7_at m c t _ _).trans (congrArg (fun i => m ((c : Thread nD τ).loc main_arg4) (ix1 i)) (Fin.ext (by show (448 + d.val) % 64 = d.val; omega)))
  · pointwise
    exact w12_at m c t f _
  · pointwise
    exact w13_at m c t f _

theorem query32 (c : Dev nD) (t : Fin cfg0.N) (f : Fin 32) (r : Fin 256) :
    k0_pay158 (k0_pay152 (View.ld (iblk m c 12 t) r0_68)) (k0_pay153 (View.ld (iblk m c 13 t) r0_68)) (k0_pay154 (Q2 m c t)) (View.ld (iblk m c 7 t) r0_69) (ix3 0 f r)
      = turned (P m c (bat t) (pos t ⟨512 + r.val, by omega⟩)) 1536 (by omega) (fun d => m ((c : Thread nD τ).loc main_arg4) (ix1 d)) (pos t ⟨512 + r.val, by omega⟩).val ⟨f.val, by omega⟩ := by
  refine (head32 (Q2 m c t) (View.ld (iblk m c 12 t) r0_68) (View.ld (iblk m c 13 t) r0_68) (View.ld (iblk m c 7 t) r0_69) f r).trans
    (low_eq _ _ _ _ _ _ 0 f (by show f.val = 0 * 64 + f.val; omega) _ _ _ _ (fun d => ?_) (fun d => ?_) ?_ ?_)
  · exact (Q2_at m c t r _).trans (congrArg _ (flipped_low _ _ (by show d.val < 512; omega) (by show 1536 + (0 * 64 + d.val) = 1536 + (d.val); omega)))
  · pointwise
    exact (w7_at m c t _ _).trans (congrArg (fun i => m ((c : Thread nD τ).loc main_arg4) (ix1 i)) (Fin.ext (by show (d.val) % 64 = d.val; omega)))
  · pointwise
    exact w12_at m c t f _
  · pointwise
    exact w13_at m c t f _

theorem query33 (c : Dev nD) (t : Fin cfg0.N) (f : Fin 32) (r : Fin 256) :
    k0_pay159 (k0_pay152 (View.ld (iblk m c 12 t) r0_68)) (k0_pay153 (View.ld (iblk m c 13 t) r0_68)) (k0_pay154 (Q2 m c t)) (View.ld (iblk m c 7 t) r0_69) (ix3 0 f r)
      = turned (P m c (bat t) (pos t ⟨512 + r.val, by omega⟩)) 1536 (by omega) (fun d => m ((c : Thread nD τ).loc main_arg4) (ix1 d)) (pos t ⟨512 + r.val, by omega⟩).val ⟨32 + f.val, by omega⟩ := by
  refine (head33 (Q2 m c t) (View.ld (iblk m c 12 t) r0_68) (View.ld (iblk m c 13 t) r0_68) (View.ld (iblk m c 7 t) r0_69) f r).trans
    (high_eq _ _ _ _ _ _ 0 f (by show 32 + f.val = 0 * 64 + 32 + f.val; omega) _ _ _ _ (fun d => ?_) (fun d => ?_) ?_ ?_)
  · exact (Q2_at m c t r _).trans (congrArg _ (flipped_low _ _ (by show d.val < 512; omega) (by show 1536 + (0 * 64 + d.val) = 1536 + (d.val); omega)))
  · pointwise
    exact (w7_at m c t _ _).trans (congrArg (fun i => m ((c : Thread nD τ).loc main_arg4) (ix1 i)) (Fin.ext (by show (d.val) % 64 = d.val; omega)))
  · pointwise
    exact w12_at m c t f _
  · pointwise
    exact w13_at m c t f _

theorem query34 (c : Dev nD) (t : Fin cfg0.N) (f : Fin 32) (r : Fin 256) :
    k0_pay165 (k0_pay152 (View.ld (iblk m c 12 t) r0_68)) (k0_pay153 (View.ld (iblk m c 13 t) r0_68)) (k0_pay160 (Q2 m c t)) (k0_pay161 (View.ld (iblk m c 7 t) r0_72)) (ix3 0 f r)
      = turned (P m c (bat t) (pos t ⟨512 + r.val, by omega⟩)) 1536 (by omega) (fun d => m ((c : Thread nD τ).loc main_arg4) (ix1 d)) (pos t ⟨512 + r.val, by omega⟩).val ⟨64 + f.val, by omega⟩ := by
  refine (head34 (Q2 m c t) (View.ld (iblk m c 12 t) r0_68) (View.ld (iblk m c 13 t) r0_68) (View.ld (iblk m c 7 t) r0_72) f r).trans
    (low_eq _ _ _ _ _ _ 1 f (by show 64 + f.val = 1 * 64 + f.val; omega) _ _ _ _ (fun d => ?_) (fun d => ?_) ?_ ?_)
  · exact (Q2_at m c t r _).trans (congrArg _ (flipped_low _ _ (by show 64 + d.val < 512; omega) (by show 1536 + (1 * 64 + d.val) = 1536 + (64 + d.val); omega)))
  · pointwise
    exact (w7_at m c t _ _).trans (congrArg (fun i => m ((c : Thread nD τ).loc main_arg4) (ix1 i)) (Fin.ext (by show (64 + d.val) % 64 = d.val; omega)))
  · pointwise
    exact w12_at m c t f _
  · pointwise
    exact w13_at m c t f _

theorem query35 (c : Dev nD) (t : Fin cfg0.N) (f : Fin 32) (r : Fin 256) :
    k0_pay166 (k0_pay152 (View.ld (iblk m c 12 t) r0_68)) (k0_pay153 (View.ld (iblk m c 13 t) r0_68)) (k0_pay160 (Q2 m c t)) (k0_pay161 (View.ld (iblk m c 7 t) r0_72)) (ix3 0 f r)
      = turned (P m c (bat t) (pos t ⟨512 + r.val, by omega⟩)) 1536 (by omega) (fun d => m ((c : Thread nD τ).loc main_arg4) (ix1 d)) (pos t ⟨512 + r.val, by omega⟩).val ⟨96 + f.val, by omega⟩ := by
  refine (head35 (Q2 m c t) (View.ld (iblk m c 12 t) r0_68) (View.ld (iblk m c 13 t) r0_68) (View.ld (iblk m c 7 t) r0_72) f r).trans
    (high_eq _ _ _ _ _ _ 1 f (by show 96 + f.val = 1 * 64 + 32 + f.val; omega) _ _ _ _ (fun d => ?_) (fun d => ?_) ?_ ?_)
  · exact (Q2_at m c t r _).trans (congrArg _ (flipped_low _ _ (by show 64 + d.val < 512; omega) (by show 1536 + (1 * 64 + d.val) = 1536 + (64 + d.val); omega)))
  · pointwise
    exact (w7_at m c t _ _).trans (congrArg (fun i => m ((c : Thread nD τ).loc main_arg4) (ix1 i)) (Fin.ext (by show (64 + d.val) % 64 = d.val; omega)))
  · pointwise
    exact w12_at m c t f _
  · pointwise
    exact w13_at m c t f _

theorem query36 (c : Dev nD) (t : Fin cfg0.N) (f : Fin 32) (r : Fin 256) :
    k0_pay171 (Q2 m c t) (k0_pay152 (View.ld (iblk m c 12 t) r0_68)) (k0_pay153 (View.ld (iblk m c 13 t) r0_68)) (View.ld (iblk m c 7 t) r0_75) (ix3 0 f r)
      = turned (P m c (bat t) (pos t ⟨512 + r.val, by omega⟩)) 1536 (by omega) (fun d => m ((c : Thread nD τ).loc main_arg4) (ix1 d)) (pos t ⟨512 + r.val, by omega⟩).val ⟨128 + f.val, by omega⟩ := by
  refine (head36 (Q2 m c t) (View.ld (iblk m c 12 t) r0_68) (View.ld (iblk m c 13 t) r0_68) (View.ld (iblk m c 7 t) r0_75) f r).trans
    (low_eq _ _ _ _ _ _ 2 f (by show 128 + f.val = 2 * 64 + f.val; omega) _ _ _ _ (fun d => ?_) (fun d => ?_) ?_ ?_)
  · exact (Q2_at m c t r _).trans (congrArg _ (flipped_low _ _ (by show 128 + d.val < 512; omega) (by show 1536 + (2 * 64 + d.val) = 1536 + (128 + d.val); omega)))
  · pointwise
    exact (w7_at m c t _ _).trans (congrArg (fun i => m ((c : Thread nD τ).loc main_arg4) (ix1 i)) (Fin.ext (by show (128 + d.val) % 64 = d.val; omega)))
  · pointwise
    exact w12_at m c t f _
  · pointwise
    exact w13_at m c t f _

theorem query37 (c : Dev nD) (t : Fin cfg0.N) (f : Fin 32) (r : Fin 256) :
    k0_pay172 (k0_pay170 (Q2 m c t) (k0_pay152 (View.ld (iblk m c 12 t) r0_68)) (k0_pay153 (View.ld (iblk m c 13 t) r0_68)) (View.ld (iblk m c 7 t) r0_75)) (ix3 0 f r)
      = turned (P m c (bat t) (pos t ⟨512 + r.val, by omega⟩)) 1536 (by omega) (fun d => m ((c : Thread nD τ).loc main_arg4) (ix1 d)) (pos t ⟨512 + r.val, by omega⟩).val ⟨160 + f.val, by omega⟩ := by
  refine (head37 (Q2 m c t) (View.ld (iblk m c 12 t) r0_68) (View.ld (iblk m c 13 t) r0_68) (View.ld (iblk m c 7 t) r0_75) f r).trans
    (high_eq _ _ _ _ _ _ 2 f (by show 160 + f.val = 2 * 64 + 32 + f.val; omega) _ _ _ _ (fun d => ?_) (fun d => ?_) ?_ ?_)
  · exact (Q2_at m c t r _).trans (congrArg _ (flipped_low _ _ (by show 128 + d.val < 512; omega) (by show 1536 + (2 * 64 + d.val) = 1536 + (128 + d.val); omega)))
  · pointwise
    exact (w7_at m c t _ _).trans (congrArg (fun i => m ((c : Thread nD τ).loc main_arg4) (ix1 i)) (Fin.ext (by show (128 + d.val) % 64 = d.val; omega)))
  · pointwise
    exact w12_at m c t f _
  · pointwise
    exact w13_at m c t f _

theorem query38 (c : Dev nD) (t : Fin cfg0.N) (f : Fin 32) (r : Fin 256) :
    k0_pay176 (Q2 m c t) (k0_pay152 (View.ld (iblk m c 12 t) r0_68)) (k0_pay153 (View.ld (iblk m c 13 t) r0_68)) (View.ld (iblk m c 7 t) r0_78) (ix3 0 f r)
      = turned (P m c (bat t) (pos t ⟨512 + r.val, by omega⟩)) 1536 (by omega) (fun d => m ((c : Thread nD τ).loc main_arg4) (ix1 d)) (pos t ⟨512 + r.val, by omega⟩).val ⟨192 + f.val, by omega⟩ := by
  refine (head38 (Q2 m c t) (View.ld (iblk m c 12 t) r0_68) (View.ld (iblk m c 13 t) r0_68) (View.ld (iblk m c 7 t) r0_78) f r).trans
    (low_eq _ _ _ _ _ _ 3 f (by show 192 + f.val = 3 * 64 + f.val; omega) _ _ _ _ (fun d => ?_) (fun d => ?_) ?_ ?_)
  · exact (Q2_at m c t r _).trans (congrArg _ (flipped_low _ _ (by show 192 + d.val < 512; omega) (by show 1536 + (3 * 64 + d.val) = 1536 + (192 + d.val); omega)))
  · pointwise
    exact (w7_at m c t _ _).trans (congrArg (fun i => m ((c : Thread nD τ).loc main_arg4) (ix1 i)) (Fin.ext (by show (192 + d.val) % 64 = d.val; omega)))
  · pointwise
    exact w12_at m c t f _
  · pointwise
    exact w13_at m c t f _

theorem query39 (c : Dev nD) (t : Fin cfg0.N) (f : Fin 32) (r : Fin 256) :
    k0_pay177 (Q2 m c t) (k0_pay152 (View.ld (iblk m c 12 t) r0_68)) (k0_pay153 (View.ld (iblk m c 13 t) r0_68)) (View.ld (iblk m c 7 t) r0_78) (ix3 0 f r)
      = turned (P m c (bat t) (pos t ⟨512 + r.val, by omega⟩)) 1536 (by omega) (fun d => m ((c : Thread nD τ).loc main_arg4) (ix1 d)) (pos t ⟨512 + r.val, by omega⟩).val ⟨224 + f.val, by omega⟩ := by
  refine (head39 (Q2 m c t) (View.ld (iblk m c 12 t) r0_68) (View.ld (iblk m c 13 t) r0_68) (View.ld (iblk m c 7 t) r0_78) f r).trans
    (high_eq _ _ _ _ _ _ 3 f (by show 224 + f.val = 3 * 64 + 32 + f.val; omega) _ _ _ _ (fun d => ?_) (fun d => ?_) ?_ ?_)
  · exact (Q2_at m c t r _).trans (congrArg _ (flipped_low _ _ (by show 192 + d.val < 512; omega) (by show 1536 + (3 * 64 + d.val) = 1536 + (192 + d.val); omega)))
  · pointwise
    exact (w7_at m c t _ _).trans (congrArg (fun i => m ((c : Thread nD τ).loc main_arg4) (ix1 i)) (Fin.ext (by show (192 + d.val) % 64 = d.val; omega)))
  · pointwise
    exact w12_at m c t f _
  · pointwise
    exact w13_at m c t f _

theorem query40 (c : Dev nD) (t : Fin cfg0.N) (f : Fin 32) (r : Fin 256) :
    k0_pay183 (k0_pay152 (View.ld (iblk m c 12 t) r0_68)) (k0_pay153 (View.ld (iblk m c 13 t) r0_68)) (k0_pay178 (Q2 m c t)) (k0_pay179 (Q2 m c t)) (Scalar.ofBits .f32 0x358637BD#32) (View.ld (iblk m c 7 t) r0_81) (ix3 0 f r)
      = turned (P m c (bat t) (pos t ⟨512 + r.val, by omega⟩)) 1536 (by omega) (fun d => m ((c : Thread nD τ).loc main_arg4) (ix1 d)) (pos t ⟨512 + r.val, by omega⟩).val ⟨256 + f.val, by omega⟩ := by
  refine (head40 (Q2 m c t) (View.ld (iblk m c 12 t) r0_68) (View.ld (iblk m c 13 t) r0_68) (View.ld (iblk m c 7 t) r0_81) f r).trans
    (low_eq _ _ _ _ _ _ 4 f (by show 256 + f.val = 4 * 64 + f.val; omega) _ _ _ _ (fun d => ?_) (fun d => ?_) ?_ ?_)
  · exact (Q2_at m c t r _).trans (congrArg _ (flipped_low _ _ (by show 256 + d.val < 512; omega) (by show 1536 + (4 * 64 + d.val) = 1536 + (256 + d.val); omega)))
  · pointwise
    exact (w7_at m c t _ _).trans (congrArg (fun i => m ((c : Thread nD τ).loc main_arg4) (ix1 i)) (Fin.ext (by show (256 + d.val) % 64 = d.val; omega)))
  · pointwise
    exact w12_at m c t f _
  · pointwise
    exact w13_at m c t f _

theorem query41 (c : Dev nD) (t : Fin cfg0.N) (f : Fin 32) (r : Fin 256) :
    k0_pay184 (k0_pay152 (View.ld (iblk m c 12 t) r0_68)) (k0_pay153 (View.ld (iblk m c 13 t) r0_68)) (k0_pay178 (Q2 m c t)) (k0_pay179 (Q2 m c t)) (Scalar.ofBits .f32 0x358637BD#32) (View.ld (iblk m c 7 t) r0_81) (ix3 0 f r)
      = turned (P m c (bat t) (pos t ⟨512 + r.val, by omega⟩)) 1536 (by omega) (fun d => m ((c : Thread nD τ).loc main_arg4) (ix1 d)) (pos t ⟨512 + r.val, by omega⟩).val ⟨288 + f.val, by omega⟩ := by
  refine (head41 (Q2 m c t) (View.ld (iblk m c 12 t) r0_68) (View.ld (iblk m c 13 t) r0_68) (View.ld (iblk m c 7 t) r0_81) f r).trans
    (high_eq _ _ _ _ _ _ 4 f (by show 288 + f.val = 4 * 64 + 32 + f.val; omega) _ _ _ _ (fun d => ?_) (fun d => ?_) ?_ ?_)
  · exact (Q2_at m c t r _).trans (congrArg _ (flipped_low _ _ (by show 256 + d.val < 512; omega) (by show 1536 + (4 * 64 + d.val) = 1536 + (256 + d.val); omega)))
  · pointwise
    exact (w7_at m c t _ _).trans (congrArg (fun i => m ((c : Thread nD τ).loc main_arg4) (ix1 i)) (Fin.ext (by show (256 + d.val) % 64 = d.val; omega)))
  · pointwise
    exact w12_at m c t f _
  · pointwise
    exact w13_at m c t f _

theorem query42 (c : Dev nD) (t : Fin cfg0.N) (f : Fin 32) (r : Fin 256) :
    k0_pay191 (k0_pay188 (Q2 m c t) (k0_pay152 (View.ld (iblk m c 12 t) r0_68)) (k0_pay153 (View.ld (iblk m c 13 t) r0_68)) (View.ld (iblk m c 7 t) r0_84)) (ix3 0 f r)
      = turned (P m c (bat t) (pos t ⟨512 + r.val, by omega⟩)) 1536 (by omega) (fun d => m ((c : Thread nD τ).loc main_arg4) (ix1 d)) (pos t ⟨512 + r.val, by omega⟩).val ⟨320 + f.val, by omega⟩ := by
  refine (head42 (Q2 m c t) (View.ld (iblk m c 12 t) r0_68) (View.ld (iblk m c 13 t) r0_68) (View.ld (iblk m c 7 t) r0_84) f r).trans
    (low_eq _ _ _ _ _ _ 5 f (by show 320 + f.val = 5 * 64 + f.val; omega) _ _ _ _ (fun d => ?_) (fun d => ?_) ?_ ?_)
  · exact (Q2_at m c t r _).trans (congrArg _ (flipped_low _ _ (by show 320 + d.val < 512; omega) (by show 1536 + (5 * 64 + d.val) = 1536 + (320 + d.val); omega)))
  · pointwise
    exact (w7_at m c t _ _).trans (congrArg (fun i => m ((c : Thread nD τ).loc main_arg4) (ix1 i)) (Fin.ext (by show (320 + d.val) % 64 = d.val; omega)))
  · pointwise
    exact w12_at m c t f _
  · pointwise
    exact w13_at m c t f _

theorem query43 (c : Dev nD) (t : Fin cfg0.N) (f : Fin 32) (r : Fin 256) :
    k0_pay192 (k0_pay189 (Q2 m c t) (k0_pay153 (View.ld (iblk m c 13 t) r0_68)) (View.ld (iblk m c 7 t) r0_84)) (k0_pay190 (Q2 m c t) (k0_pay152 (View.ld (iblk m c 12 t) r0_68)) (View.ld (iblk m c 7 t) r0_84)) (ix3 0 f r)
      = turned (P m c (bat t) (pos t ⟨512 + r.val, by omega⟩)) 1536 (by omega) (fun d => m ((c : Thread nD τ).loc main_arg4) (ix1 d)) (pos t ⟨512 + r.val, by omega⟩).val ⟨352 + f.val, by omega⟩ := by
  refine (head43 (Q2 m c t) (View.ld (iblk m c 12 t) r0_68) (View.ld (iblk m c 13 t) r0_68) (View.ld (iblk m c 7 t) r0_84) f r).trans
    (high_eq _ _ _ _ _ _ 5 f (by show 352 + f.val = 5 * 64 + 32 + f.val; omega) _ _ _ _ (fun d => ?_) (fun d => ?_) ?_ ?_)
  · exact (Q2_at m c t r _).trans (congrArg _ (flipped_low _ _ (by show 320 + d.val < 512; omega) (by show 1536 + (5 * 64 + d.val) = 1536 + (320 + d.val); omega)))
  · pointwise
    exact (w7_at m c t _ _).trans (congrArg (fun i => m ((c : Thread nD τ).loc main_arg4) (ix1 i)) (Fin.ext (by show (320 + d.val) % 64 = d.val; omega)))
  · pointwise
    exact w12_at m c t f _
  · pointwise
    exact w13_at m c t f _

theorem query44 (c : Dev nD) (t : Fin cfg0.N) (f : Fin 32) (r : Fin 256) :
    k0_pay196 (Q2 m c t) (k0_pay152 (View.ld (iblk m c 12 t) r0_68)) (k0_pay153 (View.ld (iblk m c 13 t) r0_68)) (View.ld (iblk m c 7 t) r0_87) (ix3 0 f r)
      = turned (P m c (bat t) (pos t ⟨512 + r.val, by omega⟩)) 1536 (by omega) (fun d => m ((c : Thread nD τ).loc main_arg4) (ix1 d)) (pos t ⟨512 + r.val, by omega⟩).val ⟨384 + f.val, by omega⟩ := by
  refine (head44 (Q2 m c t) (View.ld (iblk m c 12 t) r0_68) (View.ld (iblk m c 13 t) r0_68) (View.ld (iblk m c 7 t) r0_87) f r).trans
    (low_eq _ _ _ _ _ _ 6 f (by show 384 + f.val = 6 * 64 + f.val; omega) _ _ _ _ (fun d => ?_) (fun d => ?_) ?_ ?_)
  · exact (Q2_at m c t r _).trans (congrArg _ (flipped_low _ _ (by show 384 + d.val < 512; omega) (by show 1536 + (6 * 64 + d.val) = 1536 + (384 + d.val); omega)))
  · pointwise
    exact (w7_at m c t _ _).trans (congrArg (fun i => m ((c : Thread nD τ).loc main_arg4) (ix1 i)) (Fin.ext (by show (384 + d.val) % 64 = d.val; omega)))
  · pointwise
    exact w12_at m c t f _
  · pointwise
    exact w13_at m c t f _

theorem query45 (c : Dev nD) (t : Fin cfg0.N) (f : Fin 32) (r : Fin 256) :
    k0_pay197 (Q2 m c t) (k0_pay152 (View.ld (iblk m c 12 t) r0_68)) (k0_pay153 (View.ld (iblk m c 13 t) r0_68)) (View.ld (iblk m c 7 t) r0_87) (ix3 0 f r)
      = turned (P m c (bat t) (pos t ⟨512 + r.val, by omega⟩)) 1536 (by omega) (fun d => m ((c : Thread nD τ).loc main_arg4) (ix1 d)) (pos t ⟨512 + r.val, by omega⟩).val ⟨416 + f.val, by omega⟩ := by
  refine (head45 (Q2 m c t) (View.ld (iblk m c 12 t) r0_68) (View.ld (iblk m c 13 t) r0_68) (View.ld (iblk m c 7 t) r0_87) f r).trans
    (high_eq _ _ _ _ _ _ 6 f (by show 416 + f.val = 6 * 64 + 32 + f.val; omega) _ _ _ _ (fun d => ?_) (fun d => ?_) ?_ ?_)
  · exact (Q2_at m c t r _).trans (congrArg _ (flipped_low _ _ (by show 384 + d.val < 512; omega) (by show 1536 + (6 * 64 + d.val) = 1536 + (384 + d.val); omega)))
  · pointwise
    exact (w7_at m c t _ _).trans (congrArg (fun i => m ((c : Thread nD τ).loc main_arg4) (ix1 i)) (Fin.ext (by show (384 + d.val) % 64 = d.val; omega)))
  · pointwise
    exact w12_at m c t f _
  · pointwise
    exact w13_at m c t f _

theorem query46 (c : Dev nD) (t : Fin cfg0.N) (f : Fin 32) (r : Fin 256) :
    k0_pay201 (Q2 m c t) (k0_pay152 (View.ld (iblk m c 12 t) r0_68)) (k0_pay153 (View.ld (iblk m c 13 t) r0_68)) (View.ld (iblk m c 7 t) r0_90) (ix3 0 f r)
      = turned (P m c (bat t) (pos t ⟨512 + r.val, by omega⟩)) 1536 (by omega) (fun d => m ((c : Thread nD τ).loc main_arg4) (ix1 d)) (pos t ⟨512 + r.val, by omega⟩).val ⟨448 + f.val, by omega⟩ := by
  refine (head46 (Q2 m c t) (View.ld (iblk m c 12 t) r0_68) (View.ld (iblk m c 13 t) r0_68) (View.ld (iblk m c 7 t) r0_90) f r).trans
    (low_eq _ _ _ _ _ _ 7 f (by show 448 + f.val = 7 * 64 + f.val; omega) _ _ _ _ (fun d => ?_) (fun d => ?_) ?_ ?_)
  · exact (Q2_at m c t r _).trans (congrArg _ (flipped_low _ _ (by show 448 + d.val < 512; omega) (by show 1536 + (7 * 64 + d.val) = 1536 + (448 + d.val); omega)))
  · pointwise
    exact (w7_at m c t _ _).trans (congrArg (fun i => m ((c : Thread nD τ).loc main_arg4) (ix1 i)) (Fin.ext (by show (448 + d.val) % 64 = d.val; omega)))
  · pointwise
    exact w12_at m c t f _
  · pointwise
    exact w13_at m c t f _

theorem query47 (c : Dev nD) (t : Fin cfg0.N) (f : Fin 32) (r : Fin 256) :
    k0_pay202 (Q2 m c t) (k0_pay152 (View.ld (iblk m c 12 t) r0_68)) (k0_pay153 (View.ld (iblk m c 13 t) r0_68)) (View.ld (iblk m c 7 t) r0_90) (ix3 0 f r)
      = turned (P m c (bat t) (pos t ⟨512 + r.val, by omega⟩)) 1536 (by omega) (fun d => m ((c : Thread nD τ).loc main_arg4) (ix1 d)) (pos t ⟨512 + r.val, by omega⟩).val ⟨480 + f.val, by omega⟩ := by
  refine (head47 (Q2 m c t) (View.ld (iblk m c 12 t) r0_68) (View.ld (iblk m c 13 t) r0_68) (View.ld (iblk m c 7 t) r0_90) f r).trans
    (high_eq _ _ _ _ _ _ 7 f (by show 480 + f.val = 7 * 64 + 32 + f.val; omega) _ _ _ _ (fun d => ?_) (fun d => ?_) ?_ ?_)
  · exact (Q2_at m c t r _).trans (congrArg _ (flipped_low _ _ (by show 448 + d.val < 512; omega) (by show 1536 + (7 * 64 + d.val) = 1536 + (448 + d.val); omega)))
  · pointwise
    exact (w7_at m c t _ _).trans (congrArg (fun i => m ((c : Thread nD τ).loc main_arg4) (ix1 i)) (Fin.ext (by show (448 + d.val) % 64 = d.val; omega)))
  · pointwise
    exact w12_at m c t f _
  · pointwise
    exact w13_at m c t f _

theorem query48 (c : Dev nD) (t : Fin cfg0.N) (f : Fin 32) (r : Fin 256) :
    k0_pay224 (Q3 m c t) (View.ld (iblk m c 12 t) r0_96) (View.ld (iblk m c 13 t) r0_96) (View.ld (iblk m c 7 t) r0_97) (ix3 0 f r)
      = turned (P m c (bat t) (pos t ⟨768 + r.val, by omega⟩)) 1536 (by omega) (fun d => m ((c : Thread nD τ).loc main_arg4) (ix1 d)) (pos t ⟨768 + r.val, by omega⟩).val ⟨f.val, by omega⟩ := by
  refine (head48 (Q3 m c t) (View.ld (iblk m c 12 t) r0_96) (View.ld (iblk m c 13 t) r0_96) (View.ld (iblk m c 7 t) r0_97) f r).trans
    (low_eq _ _ _ _ _ _ 0 f (by show f.val = 0 * 64 + f.val; omega) _ _ _ _ (fun d => ?_) (fun d => ?_) ?_ ?_)
  · exact (Q3_at m c t r _).trans (congrArg _ (flipped_low _ _ (by show d.val < 512; omega) (by show 1536 + (0 * 64 + d.val) = 1536 + (d.val); omega)))
  · pointwise
    exact (w7_at m c t _ _).trans (congrArg (fun i => m ((c : Thread nD τ).loc main_arg4) (ix1 i)) (Fin.ext (by show (d.val) % 64 = d.val; omega)))
  · pointwise
    exact w12_at m c t f _
  · pointwise
    exact w13_at m c t f _

theorem query49 (c : Dev nD) (t : Fin cfg0.N) (f : Fin 32) (r : Fin 256) :
    k0_pay225 (Q3 m c t) (View.ld (iblk m c 12 t) r0_96) (View.ld (iblk m c 13 t) r0_96) (View.ld (iblk m c 7 t) r0_97) (ix3 0 f r)
      = turned (P m c (bat t) (pos t ⟨768 + r.val, by omega⟩)) 1536 (by omega) (fun d => m ((c : Thread nD τ).loc main_arg4) (ix1 d)) (pos t ⟨768 + r.val, by omega⟩).val ⟨32 + f.val, by omega⟩ := by
  refine (head49 (Q3 m c t) (View.ld (iblk m c 12 t) r0_96) (View.ld (iblk m c 13 t) r0_96) (View.ld (iblk m c 7 t) r0_97) f r).trans
    (high_eq _ _ _ _ _ _ 0 f (by show 32 + f.val = 0 * 64 + 32 + f.val; omega) _ _ _ _ (fun d => ?_) (fun d => ?_) ?_ ?_)
  · exact (Q3_at m c t r _).trans (congrArg _ (flipped_low _ _ (by show d.val < 512; omega) (by show 1536 + (0 * 64 + d.val) = 1536 + (d.val); omega)))
  · pointwise
    exact (w7_at m c t _ _).trans (congrArg (fun i => m ((c : Thread nD τ).loc main_arg4) (ix1 i)) (Fin.ext (by show (d.val) % 64 = d.val; omega)))
  · pointwise
    exact w12_at m c t f _
  · pointwise
    exact w13_at m c t f _

theorem query50 (c : Dev nD) (t : Fin cfg0.N) (f : Fin 32) (r : Fin 256) :
    k0_pay231 (k0_pay219 (View.ld (iblk m c 12 t) r0_96)) (k0_pay220 (View.ld (iblk m c 13 t) r0_96)) (k0_pay226 (Q3 m c t)) (k0_pay227 (Q3 m c t)) (Scalar.ofBits .f32 0x358637BD#32) (View.ld (iblk m c 7 t) r0_100) (ix3 0 f r)
      = turned (P m c (bat t) (pos t ⟨768 + r.val, by omega⟩)) 1536 (by omega) (fun d => m ((c : Thread nD τ).loc main_arg4) (ix1 d)) (pos t ⟨768 + r.val, by omega⟩).val ⟨64 + f.val, by omega⟩ := by
  refine (head50 (Q3 m c t) (View.ld (iblk m c 12 t) r0_96) (View.ld (iblk m c 13 t) r0_96) (View.ld (iblk m c 7 t) r0_100) f r).trans
    (low_eq _ _ _ _ _ _ 1 f (by show 64 + f.val = 1 * 64 + f.val; omega) _ _ _ _ (fun d => ?_) (fun d => ?_) ?_ ?_)
  · exact (Q3_at m c t r _).trans (congrArg _ (flipped_low _ _ (by show 64 + d.val < 512; omega) (by show 1536 + (1 * 64 + d.val) = 1536 + (64 + d.val); omega)))
  · pointwise
    exact (w7_at m c t _ _).trans (congrArg (fun i => m ((c : Thread nD τ).loc main_arg4) (ix1 i)) (Fin.ext (by show (64 + d.val) % 64 = d.val; omega)))
  · pointwise
    exact w12_at m c t f _
  · pointwise
    exact w13_at m c t f _

theorem query51 (c : Dev nD) (t : Fin cfg0.N) (f : Fin 32) (r : Fin 256) :
    k0_pay232 (k0_pay219 (View.ld (iblk m c 12 t) r0_96)) (k0_pay220 (View.ld (iblk m c 13 t) r0_96)) (k0_pay226 (Q3 m c t)) (k0_pay227 (Q3 m c t)) (Scalar.ofBits .f32 0x358637BD#32) (View.ld (iblk m c 7 t) r0_100) (ix3 0 f r)
      = turned (P m c (bat t) (pos t ⟨768 + r.val, by omega⟩)) 1536 (by omega) (fun d => m ((c : Thread nD τ).loc main_arg4) (ix1 d)) (pos t ⟨768 + r.val, by omega⟩).val ⟨96 + f.val, by omega⟩ := by
  refine (head51 (Q3 m c t) (View.ld (iblk m c 12 t) r0_96) (View.ld (iblk m c 13 t) r0_96) (View.ld (iblk m c 7 t) r0_100) f r).trans
    (high_eq _ _ _ _ _ _ 1 f (by show 96 + f.val = 1 * 64 + 32 + f.val; omega) _ _ _ _ (fun d => ?_) (fun d => ?_) ?_ ?_)
  · exact (Q3_at m c t r _).trans (congrArg _ (flipped_low _ _ (by show 64 + d.val < 512; omega) (by show 1536 + (1 * 64 + d.val) = 1536 + (64 + d.val); omega)))
  · pointwise
    exact (w7_at m c t _ _).trans (congrArg (fun i => m ((c : Thread nD τ).loc main_arg4) (ix1 i)) (Fin.ext (by show (64 + d.val) % 64 = d.val; omega)))
  · pointwise
    exact w12_at m c t f _
  · pointwise
    exact w13_at m c t f _

theorem query52 (c : Dev nD) (t : Fin cfg0.N) (f : Fin 32) (r : Fin 256) :
    k0_pay239 (k0_pay236 (Q3 m c t) (k0_pay219 (View.ld (iblk m c 12 t) r0_96)) (k0_pay220 (View.ld (iblk m c 13 t) r0_96)) (View.ld (iblk m c 7 t) r0_103)) (ix3 0 f r)
      = turned (P m c (bat t) (pos t ⟨768 + r.val, by omega⟩)) 1536 (by omega) (fun d => m ((c : Thread nD τ).loc main_arg4) (ix1 d)) (pos t ⟨768 + r.val, by omega⟩).val ⟨128 + f.val, by omega⟩ := by
  refine (head52 (Q3 m c t) (View.ld (iblk m c 12 t) r0_96) (View.ld (iblk m c 13 t) r0_96) (View.ld (iblk m c 7 t) r0_103) f r).trans
    (low_eq _ _ _ _ _ _ 2 f (by show 128 + f.val = 2 * 64 + f.val; omega) _ _ _ _ (fun d => ?_) (fun d => ?_) ?_ ?_)
  · exact (Q3_at m c t r _).trans (congrArg _ (flipped_low _ _ (by show 128 + d.val < 512; omega) (by show 1536 + (2 * 64 + d.val) = 1536 + (128 + d.val); omega)))
  · pointwise
    exact (w7_at m c t _ _).trans (congrArg (fun i => m ((c : Thread nD τ).loc main_arg4) (ix1 i)) (Fin.ext (by show (128 + d.val) % 64 = d.val; omega)))
  · pointwise
    exact w12_at m c t f _
  · pointwise
    exact w13_at m c t f _

theorem query53 (c : Dev nD) (t : Fin cfg0.N) (f : Fin 32) (r : Fin 256) :
    k0_pay240 (k0_pay237 (Q3 m c t) (k0_pay220 (View.ld (iblk m c 13 t) r0_96)) (View.ld (iblk m c 7 t) r0_103)) (k0_pay238 (Q3 m c t) (k0_pay219 (View.ld (iblk m c 12 t) r0_96)) (View.ld (iblk m c 7 t) r0_103)) (ix3 0 f r)
      = turned (P m c (bat t) (pos t ⟨768 + r.val, by omega⟩)) 1536 (by omega) (fun d => m ((c : Thread nD τ).loc main_arg4) (ix1 d)) (pos t ⟨768 + r.val, by omega⟩).val ⟨160 + f.val, by omega⟩ := by
  refine (head53 (Q3 m c t) (View.ld (iblk m c 12 t) r0_96) (View.ld (iblk m c 13 t) r0_96) (View.ld (iblk m c 7 t) r0_103) f r).trans
    (high_eq _ _ _ _ _ _ 2 f (by show 160 + f.val = 2 * 64 + 32 + f.val; omega) _ _ _ _ (fun d => ?_) (fun d => ?_) ?_ ?_)
  · exact (Q3_at m c t r _).trans (congrArg _ (flipped_low _ _ (by show 128 + d.val < 512; omega) (by show 1536 + (2 * 64 + d.val) = 1536 + (128 + d.val); omega)))
  · pointwise
    exact (w7_at m c t _ _).trans (congrArg (fun i => m ((c : Thread nD τ).loc main_arg4) (ix1 i)) (Fin.ext (by show (128 + d.val) % 64 = d.val; omega)))
  · pointwise
    exact w12_at m c t f _
  · pointwise
    exact w13_at m c t f _

theorem query54 (c : Dev nD) (t : Fin cfg0.N) (f : Fin 32) (r : Fin 256) :
    k0_pay244 (Q3 m c t) (k0_pay219 (View.ld (iblk m c 12 t) r0_96)) (k0_pay220 (View.ld (iblk m c 13 t) r0_96)) (View.ld (iblk m c 7 t) r0_106) (ix3 0 f r)
      = turned (P m c (bat t) (pos t ⟨768 + r.val, by omega⟩)) 1536 (by omega) (fun d => m ((c : Thread nD τ).loc main_arg4) (ix1 d)) (pos t ⟨768 + r.val, by omega⟩).val ⟨192 + f.val, by omega⟩ := by
  refine (head54 (Q3 m c t) (View.ld (iblk m c 12 t) r0_96) (View.ld (iblk m c 13 t) r0_96) (View.ld (iblk m c 7 t) r0_106) f r).trans
    (low_eq _ _ _ _ _ _ 3 f (by show 192 + f.val = 3 * 64 + f.val; omega) _ _ _ _ (fun d => ?_) (fun d => ?_) ?_ ?_)
  · exact (Q3_at m c t r _).trans (congrArg _ (flipped_low _ _ (by show 192 + d.val < 512; omega) (by show 1536 + (3 * 64 + d.val) = 1536 + (192 + d.val); omega)))
  · pointwise
    exact (w7_at m c t _ _).trans (congrArg (fun i => m ((c : Thread nD τ).loc main_arg4) (ix1 i)) (Fin.ext (by show (192 + d.val) % 64 = d.val; omega)))
  · pointwise
    exact w12_at m c t f _
  · pointwise
    exact w13_at m c t f _

theorem query55 (c : Dev nD) (t : Fin cfg0.N) (f : Fin 32) (r : Fin 256) :
    k0_pay245 (Q3 m c t) (k0_pay219 (View.ld (iblk m c 12 t) r0_96)) (k0_pay220 (View.ld (iblk m c 13 t) r0_96)) (View.ld (iblk m c 7 t) r0_106) (ix3 0 f r)
      = turned (P m c (bat t) (pos t ⟨768 + r.val, by omega⟩)) 1536 (by omega) (fun d => m ((c : Thread nD τ).loc main_arg4) (ix1 d)) (pos t ⟨768 + r.val, by omega⟩).val ⟨224 + f.val, by omega⟩ := by
  refine (head55 (Q3 m c t) (View.ld (iblk m c 12 t) r0_96) (View.ld (iblk m c 13 t) r0_96) (View.ld (iblk m c 7 t) r0_106) f r).trans
    (high_eq _ _ _ _ _ _ 3 f (by show 224 + f.val = 3 * 64 + 32 + f.val; omega) _ _ _ _ (fun d => ?_) (fun d => ?_) ?_ ?_)
  · exact (Q3_at m c t r _).trans (congrArg _ (flipped_low _ _ (by show 192 + d.val < 512; omega) (by show 1536 + (3 * 64 + d.val) = 1536 + (192 + d.val); omega)))
  · pointwise
    exact (w7_at m c t _ _).trans (congrArg (fun i => m ((c : Thread nD τ).loc main_arg4) (ix1 i)) (Fin.ext (by show (192 + d.val) % 64 = d.val; omega)))
  · pointwise
    exact w12_at m c t f _
  · pointwise
    exact w13_at m c t f _

theorem query56 (c : Dev nD) (t : Fin cfg0.N) (f : Fin 32) (r : Fin 256) :
    k0_pay249 (Q3 m c t) (k0_pay219 (View.ld (iblk m c 12 t) r0_96)) (k0_pay220 (View.ld (iblk m c 13 t) r0_96)) (View.ld (iblk m c 7 t) r0_109) (ix3 0 f r)
      = turned (P m c (bat t) (pos t ⟨768 + r.val, by omega⟩)) 1536 (by omega) (fun d => m ((c : Thread nD τ).loc main_arg4) (ix1 d)) (pos t ⟨768 + r.val, by omega⟩).val ⟨256 + f.val, by omega⟩ := by
  refine (head56 (Q3 m c t) (View.ld (iblk m c 12 t) r0_96) (View.ld (iblk m c 13 t) r0_96) (View.ld (iblk m c 7 t) r0_109) f r).trans
    (low_eq _ _ _ _ _ _ 4 f (by show 256 + f.val = 4 * 64 + f.val; omega) _ _ _ _ (fun d => ?_) (fun d => ?_) ?_ ?_)
  · exact (Q3_at m c t r _).trans (congrArg _ (flipped_low _ _ (by show 256 + d.val < 512; omega) (by show 1536 + (4 * 64 + d.val) = 1536 + (256 + d.val); omega)))
  · pointwise
    exact (w7_at m c t _ _).trans (congrArg (fun i => m ((c : Thread nD τ).loc main_arg4) (ix1 i)) (Fin.ext (by show (256 + d.val) % 64 = d.val; omega)))
  · pointwise
    exact w12_at m c t f _
  · pointwise
    exact w13_at m c t f _

theorem query57 (c : Dev nD) (t : Fin cfg0.N) (f : Fin 32) (r : Fin 256) :
    k0_pay250 (Q3 m c t) (k0_pay219 (View.ld (iblk m c 12 t) r0_96)) (k0_pay220 (View.ld (iblk m c 13 t) r0_96)) (View.ld (iblk m c 7 t) r0_109) (ix3 0 f r)
      = turned (P m c (bat t) (pos t ⟨768 + r.val, by omega⟩)) 1536 (by omega) (fun d => m ((c : Thread nD τ).loc main_arg4) (ix1 d)) (pos t ⟨768 + r.val, by omega⟩).val ⟨288 + f.val, by omega⟩ := by
  refine (head57 (Q3 m c t) (View.ld (iblk m c 12 t) r0_96) (View.ld (iblk m c 13 t) r0_96) (View.ld (iblk m c 7 t) r0_109) f r).trans
    (high_eq _ _ _ _ _ _ 4 f (by show 288 + f.val = 4 * 64 + 32 + f.val; omega) _ _ _ _ (fun d => ?_) (fun d => ?_) ?_ ?_)
  · exact (Q3_at m c t r _).trans (congrArg _ (flipped_low _ _ (by show 256 + d.val < 512; omega) (by show 1536 + (4 * 64 + d.val) = 1536 + (256 + d.val); omega)))
  · pointwise
    exact (w7_at m c t _ _).trans (congrArg (fun i => m ((c : Thread nD τ).loc main_arg4) (ix1 i)) (Fin.ext (by show (256 + d.val) % 64 = d.val; omega)))
  · pointwise
    exact w12_at m c t f _
  · pointwise
    exact w13_at m c t f _

theorem query58 (c : Dev nD) (t : Fin cfg0.N) (f : Fin 32) (r : Fin 256) :
    k0_pay255 (k0_pay219 (View.ld (iblk m c 12 t) r0_96)) (k0_pay220 (View.ld (iblk m c 13 t) r0_96)) (k0_pay251 (Q3 m c t)) (View.ld (iblk m c 7 t) r0_112) (ix3 0 f r)
      = turned (P m c (bat t) (pos t ⟨768 + r.val, by omega⟩)) 1536 (by omega) (fun d => m ((c : Thread nD τ).loc main_arg4) (ix1 d)) (pos t ⟨768 + r.val, by omega⟩).val ⟨320 + f.val, by omega⟩ := by
  refine (head58 (Q3 m c t) (View.ld (iblk m c 12 t) r0_96) (View.ld (iblk m c 13 t) r0_96) (View.ld (iblk m c 7 t) r0_112) f r).trans
    (low_eq _ _ _ _ _ _ 5 f (by show 320 + f.val = 5 * 64 + f.val; omega) _ _ _ _ (fun d => ?_) (fun d => ?_) ?_ ?_)
  · exact (Q3_at m c t r _).trans (congrArg _ (flipped_low _ _ (by show 320 + d.val < 512; omega) (by show 1536 + (5 * 64 + d.val) = 1536 + (320 + d.val); omega)))
  · pointwise
    exact (w7_at m c t _ _).trans (congrArg (fun i => m ((c : Thread nD τ).loc main_arg4) (ix1 i)) (Fin.ext (by show (320 + d.val) % 64 = d.val; omega)))
  · pointwise
    exact w12_at m c t f _
  · pointwise
    exact w13_at m c t f _

theorem query59 (c : Dev nD) (t : Fin cfg0.N) (f : Fin 32) (r : Fin 256) :
    k0_pay256 (k0_pay219 (View.ld (iblk m c 12 t) r0_96)) (k0_pay220 (View.ld (iblk m c 13 t) r0_96)) (k0_pay251 (Q3 m c t)) (View.ld (iblk m c 7 t) r0_112) (ix3 0 f r)
      = turned (P m c (bat t) (pos t ⟨768 + r.val, by omega⟩)) 1536 (by omega) (fun d => m ((c : Thread nD τ).loc main_arg4) (ix1 d)) (pos t ⟨768 + r.val, by omega⟩).val ⟨352 + f.val, by omega⟩ := by
  refine (head59 (Q3 m c t) (View.ld (iblk m c 12 t) r0_96) (View.ld (iblk m c 13 t) r0_96) (View.ld (iblk m c 7 t) r0_112) f r).trans
    (high_eq _ _ _ _ _ _ 5 f (by show 352 + f.val = 5 * 64 + 32 + f.val; omega) _ _ _ _ (fun d => ?_) (fun d => ?_) ?_ ?_)
  · exact (Q3_at m c t r _).trans (congrArg _ (flipped_low _ _ (by show 320 + d.val < 512; omega) (by show 1536 + (5 * 64 + d.val) = 1536 + (320 + d.val); omega)))
  · pointwise
    exact (w7_at m c t _ _).trans (congrArg (fun i => m ((c : Thread nD τ).loc main_arg4) (ix1 i)) (Fin.ext (by show (320 + d.val) % 64 = d.val; omega)))
  · pointwise
    exact w12_at m c t f _
  · pointwise
    exact w13_at m c t f _

theorem query60 (c : Dev nD) (t : Fin cfg0.N) (f : Fin 32) (r : Fin 256) :
    k0_pay261 (Q3 m c t) (k0_pay219 (View.ld (iblk m c 12 t) r0_96)) (k0_pay220 (View.ld (iblk m c 13 t) r0_96)) (View.ld (iblk m c 7 t) r0_115) (ix3 0 f r)
      = turned (P m c (bat t) (pos t ⟨768 + r.val, by omega⟩)) 1536 (by omega) (fun d => m ((c : Thread nD τ).loc main_arg4) (ix1 d)) (pos t ⟨768 + r.val, by omega⟩).val ⟨384 + f.val, by omega⟩ := by
  refine (head60 (Q3 m c t) (View.ld (iblk m c 12 t) r0_96) (View.ld (iblk m c 13 t) r0_96) (View.ld (iblk m c 7 t) r0_115) f r).trans
    (low_eq _ _ _ _ _ _ 6 f (by show 384 + f.val = 6 * 64 + f.val; omega) _ _ _ _ (fun d => ?_) (fun d => ?_) ?_ ?_)
  · exact (Q3_at m c t r _).trans (congrArg _ (flipped_low _ _ (by show 384 + d.val < 512; omega) (by show 1536 + (6 * 64 + d.val) = 1536 + (384 + d.val); omega)))
  · pointwise
    exact (w7_at m c t _ _).trans (congrArg (fun i => m ((c : Thread nD τ).loc main_arg4) (ix1 i)) (Fin.ext (by show (384 + d.val) % 64 = d.val; omega)))
  · pointwise
    exact w12_at m c t f _
  · pointwise
    exact w13_at m c t f _

theorem query61 (c : Dev nD) (t : Fin cfg0.N) (f : Fin 32) (r : Fin 256) :
    k0_pay262 (k0_pay260 (Q3 m c t) (k0_pay219 (View.ld (iblk m c 12 t) r0_96)) (k0_pay220 (View.ld (iblk m c 13 t) r0_96)) (View.ld (iblk m c 7 t) r0_115)) (ix3 0 f r)
      = turned (P m c (bat t) (pos t ⟨768 + r.val, by omega⟩)) 1536 (by omega) (fun d => m ((c : Thread nD τ).loc main_arg4) (ix1 d)) (pos t ⟨768 + r.val, by omega⟩).val ⟨416 + f.val, by omega⟩ := by
  refine (head61 (Q3 m c t) (View.ld (iblk m c 12 t) r0_96) (View.ld (iblk m c 13 t) r0_96) (View.ld (iblk m c 7 t) r0_115) f r).trans
    (high_eq _ _ _ _ _ _ 6 f (by show 416 + f.val = 6 * 64 + 32 + f.val; omega) _ _ _ _ (fun d => ?_) (fun d => ?_) ?_ ?_)
  · exact (Q3_at m c t r _).trans (congrArg _ (flipped_low _ _ (by show 384 + d.val < 512; omega) (by show 1536 + (6 * 64 + d.val) = 1536 + (384 + d.val); omega)))
  · pointwise
    exact (w7_at m c t _ _).trans (congrArg (fun i => m ((c : Thread nD τ).loc main_arg4) (ix1 i)) (Fin.ext (by show (384 + d.val) % 64 = d.val; omega)))
  · pointwise
    exact w12_at m c t f _
  · pointwise
    exact w13_at m c t f _

theorem query62 (c : Dev nD) (t : Fin cfg0.N) (f : Fin 32) (r : Fin 256) :
    k0_pay266 (Q3 m c t) (k0_pay219 (View.ld (iblk m c 12 t) r0_96)) (k0_pay220 (View.ld (iblk m c 13 t) r0_96)) (View.ld (iblk m c 7 t) r0_118) (ix3 0 f r)
      = turned (P m c (bat t) (pos t ⟨768 + r.val, by omega⟩)) 1536 (by omega) (fun d => m ((c : Thread nD τ).loc main_arg4) (ix1 d)) (pos t ⟨768 + r.val, by omega⟩).val ⟨448 + f.val, by omega⟩ := by
  refine (head62 (Q3 m c t) (View.ld (iblk m c 12 t) r0_96) (View.ld (iblk m c 13 t) r0_96) (View.ld (iblk m c 7 t) r0_118) f r).trans
    (low_eq _ _ _ _ _ _ 7 f (by show 448 + f.val = 7 * 64 + f.val; omega) _ _ _ _ (fun d => ?_) (fun d => ?_) ?_ ?_)
  · exact (Q3_at m c t r _).trans (congrArg _ (flipped_low _ _ (by show 448 + d.val < 512; omega) (by show 1536 + (7 * 64 + d.val) = 1536 + (448 + d.val); omega)))
  · pointwise
    exact (w7_at m c t _ _).trans (congrArg (fun i => m ((c : Thread nD τ).loc main_arg4) (ix1 i)) (Fin.ext (by show (448 + d.val) % 64 = d.val; omega)))
  · pointwise
    exact w12_at m c t f _
  · pointwise
    exact w13_at m c t f _

theorem query63 (c : Dev nD) (t : Fin cfg0.N) (f : Fin 32) (r : Fin 256) :
    k0_pay267 (Q3 m c t) (k0_pay219 (View.ld (iblk m c 12 t) r0_96)) (k0_pay220 (View.ld (iblk m c 13 t) r0_96)) (View.ld (iblk m c 7 t) r0_118) (ix3 0 f r)
      = turned (P m c (bat t) (pos t ⟨768 + r.val, by omega⟩)) 1536 (by omega) (fun d => m ((c : Thread nD τ).loc main_arg4) (ix1 d)) (pos t ⟨768 + r.val, by omega⟩).val ⟨480 + f.val, by omega⟩ := by
  refine (head63 (Q3 m c t) (View.ld (iblk m c 12 t) r0_96) (View.ld (iblk m c 13 t) r0_96) (View.ld (iblk m c 7 t) r0_118) f r).trans
    (high_eq _ _ _ _ _ _ 7 f (by show 480 + f.val = 7 * 64 + 32 + f.val; omega) _ _ _ _ (fun d => ?_) (fun d => ?_) ?_ ?_)
  · exact (Q3_at m c t r _).trans (congrArg _ (flipped_low _ _ (by show 448 + d.val < 512; omega) (by show 1536 + (7 * 64 + d.val) = 1536 + (448 + d.val); omega)))
  · pointwise
    exact (w7_at m c t _ _).trans (congrArg (fun i => m ((c : Thread nD τ).loc main_arg4) (ix1 i)) (Fin.ext (by show (448 + d.val) % 64 = d.val; omega)))
  · pointwise
    exact w12_at m c t f _
  · pointwise
    exact w13_at m c t f _

end Cert.EvenInIdeal.RowValue

end
-- ==== Proof.EvenInReference.lean ====
/- The reference of the input projection with the convolution, read at one element: each of its four results is a
   function of InRow.lean of the arguments. -/
module

public import proofs.«01_k».proof.Defs
public import proofs.«01_k».proof.Proof.Gen.EvenInRefIdeal.Run
public import proofs.«01_k».proof.Proof.Gen.EvenInRefIdeal.Read
public import proofs.«01_k».proof.Proof.InRow
public import Idealize.ShloMosaic.Lib.KernelVsHost

@[expose] public section

set_option maxRecDepth 16384

noncomputable section

open Idealize.ShloMosaic Idealize.ShloMosaic.TcCoe Idealize.SL.Sem

namespace Cert.EvenInRefIdeal.RowValue

open Cert.EvenInRefIdeal Cert.EvenInRefIdeal.Read Cert.Layer

variable (x : FVec Ideal S2x16384x1024 .f32) (g : FVec Ideal S1024 .f32) (w : FVec Ideal S1024x3072 .f32)

/-- The projected rows of batch `b`. -/
abbrev P (b : Fin 2) : Fin 16384 → Fin 3072 → EReal :=
  rows (fun s k => x (ix3 b s k)) (fun k => g (ix1 k)) (fun k j => w (ix2 k j))

theorem proj_at (b : Fin 2) (s : Fin 16384) (j : Fin 3072) : val_main_v13 (F := Ideal) x g w (ix3 b s j) = P x g w b s j := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

theorem z_at (b : Fin 2) (s : Fin 16384) (j : Fin 512) : val_main_v20 (F := Ideal) x g w (ix3 b s j) = zcol (P x g w b s) j := by
  pointwise [val_main_v20, val_main_v16, val_main_v15]
  rw [proj_at, proj_at]
  rfl

/-- The padded input of the convolution. -/
theorem pad_at (b : Fin 2) (s : Fin 16386) (j : Fin 512) : val_main_v21 (F := Ideal) x g w (ix3 b s j) = zpad (P x g w b) s.val j := by
  unfold val_main_v21 zpad
  split
  · next h =>
    rw [pad_apply_of_inside _ _ _ _ _ _ _ _ (ix3 b ⟨s.val - 1, by omega⟩ j), z_at]
    intro a
    revert a
    rw [Fin.forall_fin_succ, Fin.forall_fin_succ, Fin.forall_fin_succ]
    refine ⟨?_, ?_, ?_, fun a => a.elim0⟩
    · show b.val = 0 + b.val * 1
      omega
    · show s.val = 1 + (s.val - 1) * 1
      omega
    · show j.val = 0 + j.val * 1
      omega
  · next h =>
    rw [pad_apply_of_not_inside _ _ _ _ _ _ _ _ 1 (by
      show ¬(1 ≤ s.val ∧ (s.val - 1) % 1 = 0 ∧ (s.val - 1) / 1 < 16384)
      omega)]
    pointwise [val_main_call0_v0, val_main_c]
    exact sitofp_zero (φ := .f32)

/-- The first result: the gated convolution. -/
theorem conv_at (cw : FVec Ideal S3x512 .f32) (b : Fin 2) (s : Fin 16384) (j : Fin 512) :
    val_main_v147 (F := Ideal) x g w cw (ix3 b s j) = conv (P x g w b) (fun a j => cw (ix2 a j)) s j := by
  pointwise [val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v14, val_main_v147]
  rw [proj_at, pad_at, pad_at, pad_at]
  rfl

theorem cos_at (s : Fin 16384) (f : Fin 32) : val_main_v74 (F := Ideal) (ix2 s f) = rcos s.val f.val := by
  pointwise [val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst_5, val_main_cst_6, val_main_cst_7, val_main_cst_8, val_main_cst_9]
  rfl

theorem sin_at (s : Fin 16384) (f : Fin 32) : val_main_v76 (F := Ideal) (ix2 s f) = rsin s.val f.val := by
  pointwise [val_main_v57, val_main_v58, val_main_v59, val_main_v60, val_main_v61, val_main_v62, val_main_v63, val_main_v64, val_main_v65, val_main_v66, val_main_v67, val_main_v68, val_main_v69, val_main_v70, val_main_v71, val_main_v72, val_main_v73, val_main_cst_5, val_main_cst_6, val_main_cst_7, val_main_cst_8, val_main_cst_9, val_main_v75, val_main_v76]
  rfl

/-- The query: a head of the projected row, -/
theorem query_raw_at (b : Fin 2) (s : Fin 16384) (h : Fin 4) (c : Fin 2) (d : Fin 64) :
    val_main_v43 (F := Ideal) x g w (ix5 b s h c d) = cut (P x g w b s) 1536 (by omega) ⟨h.val * 2 + c.val, by omega⟩ d := by
  pointwise [val_main_v43, val_main_v17]
  rw [proj_at]
  unfold cut
  exact congrArg _ (Fin.ext (by show 1536 + (h.val * 128 + c.val * 64 + d.val) = 1536 + ((h.val * 2 + c.val) * 64 + d.val); omega))

/-- scaled, -/
theorem query_norm_at (n : FVec Ideal S64 .f32) (b : Fin 2) (s : Fin 16384) (h : Fin 4) (c : Fin 2) (d : Fin 64) :
    val_main_v56 (F := Ideal) x g w n (ix5 b s h c d)
      = headNorm (cut (P x g w b s) 1536 (by omega) ⟨h.val * 2 + c.val, by omega⟩) (fun d => n (ix1 d)) d := by
  pointwise [val_main_v44, val_main_v45, val_main_v46, val_main_v47, val_main_v48, val_main_v49, val_main_v50, val_main_v51, val_main_v52, val_main_v53, val_main_v54, val_main_v55, val_main_v56, val_main_cst_2, val_main_cst_3, val_main_cst_4]
  simp only [query_raw_at]
  rfl

/-- turned, -/
theorem query_rope_at (n : FVec Ideal S64 .f32) (b : Fin 2) (s : Fin 16384) (h : Fin 4) (c : Fin 2) (d : Fin 64) :
    val_main_v94 (F := Ideal) x g w n (ix5 b s h c d)
      = rope (headNorm (cut (P x g w b s) 1536 (by omega) ⟨h.val * 2 + c.val, by omega⟩) (fun d => n (ix1 d))) s.val d := by
  pointwise [val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v75]
  simp only [query_norm_at, cos_at, sin_at]
  rfl

/-- and with its heads side by side. -/
theorem query_flat_at (n : FVec Ideal S64 .f32) (b : Fin 2) (s : Fin 16384) (j : Fin 512) :
    val_main_v148 (F := Ideal) x g w n (ix3 b s j) = turned (P x g w b s) 1536 (by omega) (fun d => n (ix1 d)) s.val j := by
  have e : idx_main_v148 (ix3 b s j) = ix5 b s ⟨j.val / 128, by omega⟩ ⟨j.val / 64 % 2, by omega⟩ ⟨j.val % 64, by omega⟩ := by
    funext a
    apply Fin.ext
    revert a
    rw [Fin.forall_fin_succ, Fin.forall_fin_succ, Fin.forall_fin_succ, Fin.forall_fin_succ, Fin.forall_fin_succ]
    refine ⟨?_, ?_, ?_, ?_, ?_, fun a => a.elim0⟩
    · show ((b.val * 16384 + s.val) * 512 + j.val) / 8388608 = b.val
      omega
    · show ((b.val * 16384 + s.val) * 512 + j.val) / 512 % 16384 = s.val
      omega
    · show ((b.val * 16384 + s.val) * 512 + j.val) / 128 % 4 = j.val / 128
      omega
    · show ((b.val * 16384 + s.val) * 512 + j.val) / 64 % 2 = j.val / 64 % 2
      omega
    · show ((b.val * 16384 + s.val) * 512 + j.val) % 64 = j.val % 64
      omega
  rw [val_main_v148_apply, e, query_rope_at]
  unfold turned
  have h : (⟨j.val / 128 * 2 + j.val / 64 % 2, by omega⟩ : Fin 8) = ⟨j.val / 64, by omega⟩ := Fin.ext (by show j.val / 128 * 2 + j.val / 64 % 2 = j.val / 64; omega)
  rw [h]

theorem cos_at' (s : Fin 16384) (f : Fin 32) : val_main_v126 (F := Ideal) (ix2 s f) = rcos s.val f.val := by
  pointwise [val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_cst_13, val_main_cst_14, val_main_cst_15, val_main_cst_16, val_main_cst_17]
  rfl

theorem sin_at' (s : Fin 16384) (f : Fin 32) : val_main_v128 (F := Ideal) (ix2 s f) = rsin s.val f.val := by
  pointwise [val_main_v109, val_main_v110, val_main_v111, val_main_v112, val_main_v113, val_main_v114, val_main_v115, val_main_v116, val_main_v117, val_main_v118, val_main_v119, val_main_v120, val_main_v121, val_main_v122, val_main_v123, val_main_v124, val_main_v125, val_main_cst_13, val_main_cst_14, val_main_cst_15, val_main_cst_16, val_main_cst_17, val_main_v127, val_main_v128]
  rfl

/-- The key: a head of the projected row, -/
theorem key_raw_at (b : Fin 2) (s : Fin 16384) (h : Fin 4) (c : Fin 2) (d : Fin 64) :
    val_main_v95 (F := Ideal) x g w (ix5 b s h c d) = cut (P x g w b s) 2048 (by omega) ⟨h.val * 2 + c.val, by omega⟩ d := by
  pointwise [val_main_v95, val_main_v18]
  rw [proj_at]
  unfold cut
  exact congrArg _ (Fin.ext (by show 2048 + (h.val * 128 + c.val * 64 + d.val) = 2048 + ((h.val * 2 + c.val) * 64 + d.val); omega))

/-- scaled, -/
theorem key_norm_at (n : FVec Ideal S64 .f32) (b : Fin 2) (s : Fin 16384) (h : Fin 4) (c : Fin 2) (d : Fin 64) :
    val_main_v108 (F := Ideal) x g w n (ix5 b s h c d)
      = headNorm (cut (P x g w b s) 2048 (by omega) ⟨h.val * 2 + c.val, by omega⟩) (fun d => n (ix1 d)) d := by
  pointwise [val_main_v96, val_main_v97, val_main_v98, val_main_v99, val_main_v100, val_main_v101, val_main_v102, val_main_v103, val_main_v104, val_main_v105, val_main_v106, val_main_v107, val_main_v108, val_main_cst_10, val_main_cst_11, val_main_cst_12]
  simp only [key_raw_at]
  rfl

/-- turned, -/
theorem key_rope_at (n : FVec Ideal S64 .f32) (b : Fin 2) (s : Fin 16384) (h : Fin 4) (c : Fin 2) (d : Fin 64) :
    val_main_v146 (F := Ideal) x g w n (ix5 b s h c d)
      = rope (headNorm (cut (P x g w b s) 2048 (by omega) ⟨h.val * 2 + c.val, by omega⟩) (fun d => n (ix1 d))) s.val d := by
  pointwise [val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v127]
  simp only [key_norm_at, cos_at', sin_at']
  rfl

/-- and with its heads side by side. -/
theorem key_flat_at (n : FVec Ideal S64 .f32) (b : Fin 2) (s : Fin 16384) (j : Fin 512) :
    val_main_v151 (F := Ideal) x g w n (ix3 b s j) = turned (P x g w b s) 2048 (by omega) (fun d => n (ix1 d)) s.val j := by
  have e : idx_main_v151 (ix3 b s j) = ix5 b s ⟨j.val / 128, by omega⟩ ⟨j.val / 64 % 2, by omega⟩ ⟨j.val % 64, by omega⟩ := by
    funext a
    apply Fin.ext
    revert a
    rw [Fin.forall_fin_succ, Fin.forall_fin_succ, Fin.forall_fin_succ, Fin.forall_fin_succ, Fin.forall_fin_succ]
    refine ⟨?_, ?_, ?_, ?_, ?_, fun a => a.elim0⟩
    · show ((b.val * 16384 + s.val) * 512 + j.val) / 8388608 = b.val
      omega
    · show ((b.val * 16384 + s.val) * 512 + j.val) / 512 % 16384 = s.val
      omega
    · show ((b.val * 16384 + s.val) * 512 + j.val) / 128 % 4 = j.val / 128
      omega
    · show ((b.val * 16384 + s.val) * 512 + j.val) / 64 % 2 = j.val / 64 % 2
      omega
    · show ((b.val * 16384 + s.val) * 512 + j.val) % 64 = j.val % 64
      omega
  rw [val_main_v151_apply, e, key_rope_at]
  unfold turned
  have h : (⟨j.val / 128 * 2 + j.val / 64 % 2, by omega⟩ : Fin 8) = ⟨j.val / 64, by omega⟩ := Fin.ext (by show j.val / 128 * 2 + j.val / 64 % 2 = j.val / 64; omega)
  rw [h]

/-- The second result: the turned queries, transposed, -/
theorem query_at (n : FVec Ideal S64 .f32) (b : Fin 2) (j : Fin 512) (s : Fin 16384) :
    val_main_v150 (F := Ideal) x g w n (ix3 b j s) = turned (P x g w b s) 1536 (by omega) (fun d => n (ix1 d)) s.val j := by
  have e : idx_main_v149 (ix3 b j s) = ix3 b s j := by
    funext a
    revert a
    rw [Fin.forall_fin_succ, Fin.forall_fin_succ, Fin.forall_fin_succ]
    exact ⟨rfl, rfl, rfl, fun a => a.elim0⟩
  rw [val_main_v150_apply, val_main_v149_apply, e, query_flat_at]
  rfl

/-- the third: the turned keys, -/
theorem key_at (n : FVec Ideal S64 .f32) (b : Fin 2) (s : Fin 16384) (j : Fin 512) :
    val_main_v152 (F := Ideal) x g w n (ix3 b s j) = turned (P x g w b s) 2048 (by omega) (fun d => n (ix1 d)) s.val j := by
  rw [val_main_v152_apply, key_flat_at]
  rfl

/-- and the fourth: the values, transposed. -/
theorem value_at (b : Fin 2) (j : Fin 512) (s : Fin 16384) :
    val_main_v154 (F := Ideal) x g w (ix3 b j s) = P x g w b s ⟨2560 + j.val, by omega⟩ := by
  pointwise [val_main_v154, val_main_v153, val_main_v19]
  rw [proj_at]

end Cert.EvenInRefIdeal.RowValue

end
-- ==== Proof.EvenInValue.lean ====
/- The input projection with the convolution: the kernel's four result arrays and the reference's four results are the
   functions of InRow.lean of the arguments, so the two programs end at the same arrays. -/
module

public import proofs.«01_k».proof.Defs
public import proofs.«01_k».proof.Proof.Gen.EvenInIdeal.Value
public import proofs.«01_k».proof.Proof.InRow
public import proofs.«01_k».proof.Proof.EvenInStores
public import proofs.«01_k».proof.Proof.EvenInQueries
public import proofs.«01_k».proof.Proof.EvenInReference

@[expose] public section

set_option maxRecDepth 16384

noncomputable section

open Idealize.ShloMosaic Idealize.ShloMosaic.TcCoe Idealize.SL.Sem

namespace Cert.EvenInIdeal.RowValue

open Cert.EvenInIdeal Cert.EvenInIdeal.Gen Cert.Layer

variable (m : (ℓ : Loc nD τ sig) → Buf (Elt Ideal) ℓ)

/-! What the four result arrays end holding, as functions of the arguments. -/

abbrev conved (c : Dev nD) : Buf (Elt Ideal) ((c : Thread nD τ).loc main_v56_0) := fun i =>
  conv (P m c (i 0)) (fun a j => m ((c : Thread nD τ).loc main_arg3) (ix2 a j)) (i 1) (i 2)

abbrev queries (c : Dev nD) : Buf (Elt Ideal) ((c : Thread nD τ).loc main_v56_1) := fun i =>
  turned (P m c (i 0) (i 2)) 1536 (by omega) (fun d => m ((c : Thread nD τ).loc main_arg4) (ix1 d)) (i 2).val (i 1)

abbrev keysOf (c : Dev nD) : Buf (Elt Ideal) ((c : Thread nD τ).loc main_v56_2) := fun i =>
  turned (P m c (i 0) (i 1)) 2048 (by omega) (fun d => m ((c : Thread nD τ).loc main_arg5) (ix1 d)) (i 1).val (i 2)

abbrev values (c : Dev nD) : Buf (Elt Ideal) ((c : Thread nD τ).loc main_v56_3) := fun i =>
  P m c (i 0) (i 2) ⟨2560 + (i 1).val, by have := (show (i 1).val < 512 from (i 1).isLt); omega⟩

/-- A load of the whole block is the block. -/
theorem whole0 {e : EltTy} (X : S1x1024.Idx → Elt Ideal e) : View.ld X r0_0 = X := by
  funext x
  rw [View.ld_apply]
  refine congrArg X (funext fun a => Fin.ext ?_)
  exact (Rect.idx_unit_val _ _ _ _ _).trans (by fin_cases a <;> exact Nat.zero_add _)

/-- A load of the whole block is the block. -/
theorem whole1 {e : EltTy} (X : S3x512.Idx → Elt Ideal e) : View.ld X r0_1 = X := by
  funext x
  rw [View.ld_apply]
  refine congrArg X (funext fun a => Fin.ext ?_)
  exact (Rect.idx_unit_val _ _ _ _ _).trans (by fin_cases a <;> exact Nat.zero_add _)

/-- A load of the whole block is the block. -/
theorem whole2 {e : EltTy} (X : S1x8x1024.Idx → Elt Ideal e) : View.ld X r0_2 = X := by
  funext x
  rw [View.ld_apply]
  refine congrArg X (funext fun a => Fin.ext ?_)
  exact (Rect.idx_unit_val _ _ _ _ _).trans (by fin_cases a <;> exact Nat.zero_add _)

/-- A load of the whole block is the block. -/
theorem whole37 {e : EltTy} (X : S1x512.Idx → Elt Ideal e) : View.ld X r0_37 = X := by
  funext x
  rw [View.ld_apply]
  refine congrArg X (funext fun a => Fin.ext ?_)
  exact (Rect.idx_unit_val _ _ _ _ _).trans (by fin_cases a <;> exact Nat.zero_add _)

set_option maxHeartbeats 1000000 in
theorem final14 (c : Dev nD) : (dats m 0 c).arrAt 14 cfg0.N = conved m c := by
  refine (dats m 0 c).arrAt_eq_of_covers 14 _ (by decide +kernel) fun t hf y => ?_
  clear hf
  obtain ⟨J, hJ⟩ : ∃ J : Fin 512, J.val = (y 2).val := ⟨⟨_, (y 2).isLt⟩, rfl⟩
  obtain ⟨R, hR⟩ : ∃ R : Fin 1024, R.val = (y 1).val := ⟨⟨_, (y 1).isLt⟩, rfl⟩
  have e : ((cfg0.win 14).blk t).view.emb y = (ix3 (bat t) (pos t R) J : S2x16384x512.Idx) := by
    have ⟨_, _, _, _, _, _, _, _, _, _, _, _, _, _, h0, _⟩ := idx t
    blk_ext [h0, hJ, hR]
  rw [e]
  clear e
  have e : conved m c (ix3 (bat t) (pos t R) J) = conv (P m c (bat t)) (fun a j => m ((c : Thread nD τ).loc main_arg3) (ix2 a j)) (pos t R) J := rfl
  refine Eq.trans ?_ e.symm
  clear e
  blk_simp
  rw [after0_14]
  frame_out
  canon_tiles y h
  · idx_vars y
    obtain rfl : y0 = 0 := Subsingleton.elim _ _
    obtain rfl : J = y2 := Fin.ext (hJ.trans h2)
    obtain rfl : R = ⟨768 + y1.val, by clear * -; omega⟩ := Fin.ext (hR.trans h1)
    have q := row3 m c t y1 J
    simp only [whole0, whole1, whole2, whole37] at q
    exact q
  · idx_vars y
    obtain rfl : y0 = 0 := Subsingleton.elim _ _
    obtain rfl : J = y2 := Fin.ext (hJ.trans h2)
    obtain rfl : R = ⟨512 + y1.val, by clear * -; omega⟩ := Fin.ext (hR.trans h1)
    have q := row2 m c t y1 J
    simp only [whole0, whole1, whole2, whole37] at q
    exact q
  · idx_vars y
    obtain rfl : y0 = 0 := Subsingleton.elim _ _
    obtain rfl : J = y2 := Fin.ext (hJ.trans h2)
    obtain rfl : R = ⟨256 + y1.val, by clear * -; omega⟩ := Fin.ext (hR.trans h1)
    have q := row1 m c t y1 J
    simp only [whole0, whole1, whole2, whole37] at q
    exact q
  · idx_vars y
    obtain rfl : y0 = 0 := Subsingleton.elim _ _
    obtain rfl : J = y2 := Fin.ext (hJ.trans h2)
    obtain rfl : R = ⟨y1.val, by clear * -; omega⟩ := Fin.ext (hR.trans h1)
    have q := row0 m c t y1 J
    simp only [whole0, whole1, whole2, whole37] at q
    exact q

set_option maxHeartbeats 16000000 in
theorem final15 (c : Dev nD) : (dats m 0 c).arrAt 15 cfg0.N = queries m c := by
  refine (dats m 0 c).arrAt_eq_of_covers 15 _ (by decide +kernel) fun t hf y => ?_
  clear hf
  obtain ⟨J, hJ⟩ : ∃ J : Fin 512, J.val = (y 1).val := ⟨⟨_, (y 1).isLt⟩, rfl⟩
  obtain ⟨R, hR⟩ : ∃ R : Fin 1024, R.val = (y 2).val := ⟨⟨_, (y 2).isLt⟩, rfl⟩
  have e : ((cfg0.win 15).blk t).view.emb y = (ix3 (bat t) J (pos t R) : S2x512x16384.Idx) := by
    have ⟨_, _, _, _, _, _, _, _, _, _, _, _, _, _, _, h0, _⟩ := idx t
    blk_ext [h0, hJ, hR]
  rw [e]
  clear e
  have e : queries m c (ix3 (bat t) J (pos t R)) = turned (P m c (bat t) (pos t R)) 1536 (by omega) (fun d => m ((c : Thread nD τ).loc main_arg4) (ix1 d)) (pos t R).val J := rfl
  refine Eq.trans ?_ e.symm
  clear e
  blk_simp
  rw [after0_15]
  frame_out
  canon_tiles y h
  · idx_vars y
    obtain rfl : y0 = 0 := Subsingleton.elim _ _
    obtain rfl : J = ⟨480 + y1.val, by clear * -; omega⟩ := Fin.ext (hJ.trans h1)
    obtain rfl : R = ⟨768 + y2.val, by clear * -; omega⟩ := Fin.ext (hR.trans h2)
    exact query63 m c t y1 y2
  · idx_vars y
    obtain rfl : y0 = 0 := Subsingleton.elim _ _
    obtain rfl : J = ⟨448 + y1.val, by clear * -; omega⟩ := Fin.ext (hJ.trans h1)
    obtain rfl : R = ⟨768 + y2.val, by clear * -; omega⟩ := Fin.ext (hR.trans h2)
    exact query62 m c t y1 y2
  · idx_vars y
    obtain rfl : y0 = 0 := Subsingleton.elim _ _
    obtain rfl : J = ⟨416 + y1.val, by clear * -; omega⟩ := Fin.ext (hJ.trans h1)
    obtain rfl : R = ⟨768 + y2.val, by clear * -; omega⟩ := Fin.ext (hR.trans h2)
    exact query61 m c t y1 y2
  · idx_vars y
    obtain rfl : y0 = 0 := Subsingleton.elim _ _
    obtain rfl : J = ⟨384 + y1.val, by clear * -; omega⟩ := Fin.ext (hJ.trans h1)
    obtain rfl : R = ⟨768 + y2.val, by clear * -; omega⟩ := Fin.ext (hR.trans h2)
    exact query60 m c t y1 y2
  · idx_vars y
    obtain rfl : y0 = 0 := Subsingleton.elim _ _
    obtain rfl : J = ⟨352 + y1.val, by clear * -; omega⟩ := Fin.ext (hJ.trans h1)
    obtain rfl : R = ⟨768 + y2.val, by clear * -; omega⟩ := Fin.ext (hR.trans h2)
    exact query59 m c t y1 y2
  · idx_vars y
    obtain rfl : y0 = 0 := Subsingleton.elim _ _
    obtain rfl : J = ⟨320 + y1.val, by clear * -; omega⟩ := Fin.ext (hJ.trans h1)
    obtain rfl : R = ⟨768 + y2.val, by clear * -; omega⟩ := Fin.ext (hR.trans h2)
    exact query58 m c t y1 y2
  · idx_vars y
    obtain rfl : y0 = 0 := Subsingleton.elim _ _
    obtain rfl : J = ⟨288 + y1.val, by clear * -; omega⟩ := Fin.ext (hJ.trans h1)
    obtain rfl : R = ⟨768 + y2.val, by clear * -; omega⟩ := Fin.ext (hR.trans h2)
    exact query57 m c t y1 y2
  · idx_vars y
    obtain rfl : y0 = 0 := Subsingleton.elim _ _
    obtain rfl : J = ⟨256 + y1.val, by clear * -; omega⟩ := Fin.ext (hJ.trans h1)
    obtain rfl : R = ⟨768 + y2.val, by clear * -; omega⟩ := Fin.ext (hR.trans h2)
    exact query56 m c t y1 y2
  · idx_vars y
    obtain rfl : y0 = 0 := Subsingleton.elim _ _
    obtain rfl : J = ⟨224 + y1.val, by clear * -; omega⟩ := Fin.ext (hJ.trans h1)
    obtain rfl : R = ⟨768 + y2.val, by clear * -; omega⟩ := Fin.ext (hR.trans h2)
    exact query55 m c t y1 y2
  · idx_vars y
    obtain rfl : y0 = 0 := Subsingleton.elim _ _
    obtain rfl : J = ⟨192 + y1.val, by clear * -; omega⟩ := Fin.ext (hJ.trans h1)
    obtain rfl : R = ⟨768 + y2.val, by clear * -; omega⟩ := Fin.ext (hR.trans h2)
    exact query54 m c t y1 y2
  · idx_vars y
    obtain rfl : y0 = 0 := Subsingleton.elim _ _
    obtain rfl : J = ⟨160 + y1.val, by clear * -; omega⟩ := Fin.ext (hJ.trans h1)
    obtain rfl : R = ⟨768 + y2.val, by clear * -; omega⟩ := Fin.ext (hR.trans h2)
    exact query53 m c t y1 y2
  · idx_vars y
    obtain rfl : y0 = 0 := Subsingleton.elim _ _
    obtain rfl : J = ⟨128 + y1.val, by clear * -; omega⟩ := Fin.ext (hJ.trans h1)
    obtain rfl : R = ⟨768 + y2.val, by clear * -; omega⟩ := Fin.ext (hR.trans h2)
    exact query52 m c t y1 y2
  · idx_vars y
    obtain rfl : y0 = 0 := Subsingleton.elim _ _
    obtain rfl : J = ⟨96 + y1.val, by clear * -; omega⟩ := Fin.ext (hJ.trans h1)
    obtain rfl : R = ⟨768 + y2.val, by clear * -; omega⟩ := Fin.ext (hR.trans h2)
    exact query51 m c t y1 y2
  · idx_vars y
    obtain rfl : y0 = 0 := Subsingleton.elim _ _
    obtain rfl : J = ⟨64 + y1.val, by clear * -; omega⟩ := Fin.ext (hJ.trans h1)
    obtain rfl : R = ⟨768 + y2.val, by clear * -; omega⟩ := Fin.ext (hR.trans h2)
    exact query50 m c t y1 y2
  · idx_vars y
    obtain rfl : y0 = 0 := Subsingleton.elim _ _
    obtain rfl : J = ⟨32 + y1.val, by clear * -; omega⟩ := Fin.ext (hJ.trans h1)
    obtain rfl : R = ⟨768 + y2.val, by clear * -; omega⟩ := Fin.ext (hR.trans h2)
    exact query49 m c t y1 y2
  · idx_vars y
    obtain rfl : y0 = 0 := Subsingleton.elim _ _
    obtain rfl : J = ⟨y1.val, by clear * -; omega⟩ := Fin.ext (hJ.trans h1)
    obtain rfl : R = ⟨768 + y2.val, by clear * -; omega⟩ := Fin.ext (hR.trans h2)
    exact query48 m c t y1 y2
  · idx_vars y
    obtain rfl : y0 = 0 := Subsingleton.elim _ _
    obtain rfl : J = ⟨480 + y1.val, by clear * -; omega⟩ := Fin.ext (hJ.trans h1)
    obtain rfl : R = ⟨512 + y2.val, by clear * -; omega⟩ := Fin.ext (hR.trans h2)
    exact query47 m c t y1 y2
  · idx_vars y
    obtain rfl : y0 = 0 := Subsingleton.elim _ _
    obtain rfl : J = ⟨448 + y1.val, by clear * -; omega⟩ := Fin.ext (hJ.trans h1)
    obtain rfl : R = ⟨512 + y2.val, by clear * -; omega⟩ := Fin.ext (hR.trans h2)
    exact query46 m c t y1 y2
  · idx_vars y
    obtain rfl : y0 = 0 := Subsingleton.elim _ _
    obtain rfl : J = ⟨416 + y1.val, by clear * -; omega⟩ := Fin.ext (hJ.trans h1)
    obtain rfl : R = ⟨512 + y2.val, by clear * -; omega⟩ := Fin.ext (hR.trans h2)
    exact query45 m c t y1 y2
  · idx_vars y
    obtain rfl : y0 = 0 := Subsingleton.elim _ _
    obtain rfl : J = ⟨384 + y1.val, by clear * -; omega⟩ := Fin.ext (hJ.trans h1)
    obtain rfl : R = ⟨512 + y2.val, by clear * -; omega⟩ := Fin.ext (hR.trans h2)
    exact query44 m c t y1 y2
  · idx_vars y
    obtain rfl : y0 = 0 := Subsingleton.elim _ _
    obtain rfl : J = ⟨352 + y1.val, by clear * -; omega⟩ := Fin.ext (hJ.trans h1)
    obtain rfl : R = ⟨512 + y2.val, by clear * -; omega⟩ := Fin.ext (hR.trans h2)
    exact query43 m c t y1 y2
  · idx_vars y
    obtain rfl : y0 = 0 := Subsingleton.elim _ _
    obtain rfl : J = ⟨320 + y1.val, by clear * -; omega⟩ := Fin.ext (hJ.trans h1)
    obtain rfl : R = ⟨512 + y2.val, by clear * -; omega⟩ := Fin.ext (hR.trans h2)
    exact query42 m c t y1 y2
  · idx_vars y
    obtain rfl : y0 = 0 := Subsingleton.elim _ _
    obtain rfl : J = ⟨288 + y1.val, by clear * -; omega⟩ := Fin.ext (hJ.trans h1)
    obtain rfl : R = ⟨512 + y2.val, by clear * -; omega⟩ := Fin.ext (hR.trans h2)
    exact query41 m c t y1 y2
  · idx_vars y
    obtain rfl : y0 = 0 := Subsingleton.elim _ _
    obtain rfl : J = ⟨256 + y1.val, by clear * -; omega⟩ := Fin.ext (hJ.trans h1)
    obtain rfl : R = ⟨512 + y2.val, by clear * -; omega⟩ := Fin.ext (hR.trans h2)
    exact query40 m c t y1 y2
  · idx_vars y
    obtain rfl : y0 = 0 := Subsingleton.elim _ _
    obtain rfl : J = ⟨224 + y1.val, by clear * -; omega⟩ := Fin.ext (hJ.trans h1)
    obtain rfl : R = ⟨512 + y2.val, by clear * -; omega⟩ := Fin.ext (hR.trans h2)
    exact query39 m c t y1 y2
  · idx_vars y
    obtain rfl : y0 = 0 := Subsingleton.elim _ _
    obtain rfl : J = ⟨192 + y1.val, by clear * -; omega⟩ := Fin.ext (hJ.trans h1)
    obtain rfl : R = ⟨512 + y2.val, by clear * -; omega⟩ := Fin.ext (hR.trans h2)
    exact query38 m c t y1 y2
  · idx_vars y
    obtain rfl : y0 = 0 := Subsingleton.elim _ _
    obtain rfl : J = ⟨160 + y1.val, by clear * -; omega⟩ := Fin.ext (hJ.trans h1)
    obtain rfl : R = ⟨512 + y2.val, by clear * -; omega⟩ := Fin.ext (hR.trans h2)
    exact query37 m c t y1 y2
  · idx_vars y
    obtain rfl : y0 = 0 := Subsingleton.elim _ _
    obtain rfl : J = ⟨128 + y1.val, by clear * -; omega⟩ := Fin.ext (hJ.trans h1)
    obtain rfl : R = ⟨512 + y2.val, by clear * -; omega⟩ := Fin.ext (hR.trans h2)
    exact query36 m c t y1 y2
  · idx_vars y
    obtain rfl : y0 = 0 := Subsingleton.elim _ _
    obtain rfl : J = ⟨96 + y1.val, by clear * -; omega⟩ := Fin.ext (hJ.trans h1)
    obtain rfl : R = ⟨512 + y2.val, by clear * -; omega⟩ := Fin.ext (hR.trans h2)
    exact query35 m c t y1 y2
  · idx_vars y
    obtain rfl : y0 = 0 := Subsingleton.elim _ _
    obtain rfl : J = ⟨64 + y1.val, by clear * -; omega⟩ := Fin.ext (hJ.trans h1)
    obtain rfl : R = ⟨512 + y2.val, by clear * -; omega⟩ := Fin.ext (hR.trans h2)
    exact query34 m c t y1 y2
  · idx_vars y
    obtain rfl : y0 = 0 := Subsingleton.elim _ _
    obtain rfl : J = ⟨32 + y1.val, by clear * -; omega⟩ := Fin.ext (hJ.trans h1)
    obtain rfl : R = ⟨512 + y2.val, by clear * -; omega⟩ := Fin.ext (hR.trans h2)
    exact query33 m c t y1 y2
  · idx_vars y
    obtain rfl : y0 = 0 := Subsingleton.elim _ _
    obtain rfl : J = ⟨y1.val, by clear * -; omega⟩ := Fin.ext (hJ.trans h1)
    obtain rfl : R = ⟨512 + y2.val, by clear * -; omega⟩ := Fin.ext (hR.trans h2)
    exact query32 m c t y1 y2
  · idx_vars y
    obtain rfl : y0 = 0 := Subsingleton.elim _ _
    obtain rfl : J = ⟨480 + y1.val, by clear * -; omega⟩ := Fin.ext (hJ.trans h1)
    obtain rfl : R = ⟨256 + y2.val, by clear * -; omega⟩ := Fin.ext (hR.trans h2)
    exact query31 m c t y1 y2
  · idx_vars y
    obtain rfl : y0 = 0 := Subsingleton.elim _ _
    obtain rfl : J = ⟨448 + y1.val, by clear * -; omega⟩ := Fin.ext (hJ.trans h1)
    obtain rfl : R = ⟨256 + y2.val, by clear * -; omega⟩ := Fin.ext (hR.trans h2)
    exact query30 m c t y1 y2
  · idx_vars y
    obtain rfl : y0 = 0 := Subsingleton.elim _ _
    obtain rfl : J = ⟨416 + y1.val, by clear * -; omega⟩ := Fin.ext (hJ.trans h1)
    obtain rfl : R = ⟨256 + y2.val, by clear * -; omega⟩ := Fin.ext (hR.trans h2)
    exact query29 m c t y1 y2
  · idx_vars y
    obtain rfl : y0 = 0 := Subsingleton.elim _ _
    obtain rfl : J = ⟨384 + y1.val, by clear * -; omega⟩ := Fin.ext (hJ.trans h1)
    obtain rfl : R = ⟨256 + y2.val, by clear * -; omega⟩ := Fin.ext (hR.trans h2)
    exact query28 m c t y1 y2
  · idx_vars y
    obtain rfl : y0 = 0 := Subsingleton.elim _ _
    obtain rfl : J = ⟨352 + y1.val, by clear * -; omega⟩ := Fin.ext (hJ.trans h1)
    obtain rfl : R = ⟨256 + y2.val, by clear * -; omega⟩ := Fin.ext (hR.trans h2)
    exact query27 m c t y1 y2
  · idx_vars y
    obtain rfl : y0 = 0 := Subsingleton.elim _ _
    obtain rfl : J = ⟨320 + y1.val, by clear * -; omega⟩ := Fin.ext (hJ.trans h1)
    obtain rfl : R = ⟨256 + y2.val, by clear * -; omega⟩ := Fin.ext (hR.trans h2)
    exact query26 m c t y1 y2
  · idx_vars y
    obtain rfl : y0 = 0 := Subsingleton.elim _ _
    obtain rfl : J = ⟨288 + y1.val, by clear * -; omega⟩ := Fin.ext (hJ.trans h1)
    obtain rfl : R = ⟨256 + y2.val, by clear * -; omega⟩ := Fin.ext (hR.trans h2)
    exact query25 m c t y1 y2
  · idx_vars y
    obtain rfl : y0 = 0 := Subsingleton.elim _ _
    obtain rfl : J = ⟨256 + y1.val, by clear * -; omega⟩ := Fin.ext (hJ.trans h1)
    obtain rfl : R = ⟨256 + y2.val, by clear * -; omega⟩ := Fin.ext (hR.trans h2)
    exact query24 m c t y1 y2
  · idx_vars y
    obtain rfl : y0 = 0 := Subsingleton.elim _ _
    obtain rfl : J = ⟨224 + y1.val, by clear * -; omega⟩ := Fin.ext (hJ.trans h1)
    obtain rfl : R = ⟨256 + y2.val, by clear * -; omega⟩ := Fin.ext (hR.trans h2)
    exact query23 m c t y1 y2
  · idx_vars y
    obtain rfl : y0 = 0 := Subsingleton.elim _ _
    obtain rfl : J = ⟨192 + y1.val, by clear * -; omega⟩ := Fin.ext (hJ.trans h1)
    obtain rfl : R = ⟨256 + y2.val, by clear * -; omega⟩ := Fin.ext (hR.trans h2)
    exact query22 m c t y1 y2
  · idx_vars y
    obtain rfl : y0 = 0 := Subsingleton.elim _ _
    obtain rfl : J = ⟨160 + y1.val, by clear * -; omega⟩ := Fin.ext (hJ.trans h1)
    obtain rfl : R = ⟨256 + y2.val, by clear * -; omega⟩ := Fin.ext (hR.trans h2)
    exact query21 m c t y1 y2
  · idx_vars y
    obtain rfl : y0 = 0 := Subsingleton.elim _ _
    obtain rfl : J = ⟨128 + y1.val, by clear * -; omega⟩ := Fin.ext (hJ.trans h1)
    obtain rfl : R = ⟨256 + y2.val, by clear * -; omega⟩ := Fin.ext (hR.trans h2)
    exact query20 m c t y1 y2
  · idx_vars y
    obtain rfl : y0 = 0 := Subsingleton.elim _ _
    obtain rfl : J = ⟨96 + y1.val, by clear * -; omega⟩ := Fin.ext (hJ.trans h1)
    obtain rfl : R = ⟨256 + y2.val, by clear * -; omega⟩ := Fin.ext (hR.trans h2)
    exact query19 m c t y1 y2
  · idx_vars y
    obtain rfl : y0 = 0 := Subsingleton.elim _ _
    obtain rfl : J = ⟨64 + y1.val, by clear * -; omega⟩ := Fin.ext (hJ.trans h1)
    obtain rfl : R = ⟨256 + y2.val, by clear * -; omega⟩ := Fin.ext (hR.trans h2)
    exact query18 m c t y1 y2
  · idx_vars y
    obtain rfl : y0 = 0 := Subsingleton.elim _ _
    obtain rfl : J = ⟨32 + y1.val, by clear * -; omega⟩ := Fin.ext (hJ.trans h1)
    obtain rfl : R = ⟨256 + y2.val, by clear * -; omega⟩ := Fin.ext (hR.trans h2)
    exact query17 m c t y1 y2
  · idx_vars y
    obtain rfl : y0 = 0 := Subsingleton.elim _ _
    obtain rfl : J = ⟨y1.val, by clear * -; omega⟩ := Fin.ext (hJ.trans h1)
    obtain rfl : R = ⟨256 + y2.val, by clear * -; omega⟩ := Fin.ext (hR.trans h2)
    exact query16 m c t y1 y2
  · idx_vars y
    obtain rfl : y0 = 0 := Subsingleton.elim _ _
    obtain rfl : J = ⟨480 + y1.val, by clear * -; omega⟩ := Fin.ext (hJ.trans h1)
    obtain rfl : R = ⟨y2.val, by clear * -; omega⟩ := Fin.ext (hR.trans h2)
    exact query15 m c t y1 y2
  · idx_vars y
    obtain rfl : y0 = 0 := Subsingleton.elim _ _
    obtain rfl : J = ⟨448 + y1.val, by clear * -; omega⟩ := Fin.ext (hJ.trans h1)
    obtain rfl : R = ⟨y2.val, by clear * -; omega⟩ := Fin.ext (hR.trans h2)
    exact query14 m c t y1 y2
  · idx_vars y
    obtain rfl : y0 = 0 := Subsingleton.elim _ _
    obtain rfl : J = ⟨416 + y1.val, by clear * -; omega⟩ := Fin.ext (hJ.trans h1)
    obtain rfl : R = ⟨y2.val, by clear * -; omega⟩ := Fin.ext (hR.trans h2)
    exact query13 m c t y1 y2
  · idx_vars y
    obtain rfl : y0 = 0 := Subsingleton.elim _ _
    obtain rfl : J = ⟨384 + y1.val, by clear * -; omega⟩ := Fin.ext (hJ.trans h1)
    obtain rfl : R = ⟨y2.val, by clear * -; omega⟩ := Fin.ext (hR.trans h2)
    exact query12 m c t y1 y2
  · idx_vars y
    obtain rfl : y0 = 0 := Subsingleton.elim _ _
    obtain rfl : J = ⟨352 + y1.val, by clear * -; omega⟩ := Fin.ext (hJ.trans h1)
    obtain rfl : R = ⟨y2.val, by clear * -; omega⟩ := Fin.ext (hR.trans h2)
    exact query11 m c t y1 y2
  · idx_vars y
    obtain rfl : y0 = 0 := Subsingleton.elim _ _
    obtain rfl : J = ⟨320 + y1.val, by clear * -; omega⟩ := Fin.ext (hJ.trans h1)
    obtain rfl : R = ⟨y2.val, by clear * -; omega⟩ := Fin.ext (hR.trans h2)
    exact query10 m c t y1 y2
  · idx_vars y
    obtain rfl : y0 = 0 := Subsingleton.elim _ _
    obtain rfl : J = ⟨288 + y1.val, by clear * -; omega⟩ := Fin.ext (hJ.trans h1)
    obtain rfl : R = ⟨y2.val, by clear * -; omega⟩ := Fin.ext (hR.trans h2)
    exact query9 m c t y1 y2
  · idx_vars y
    obtain rfl : y0 = 0 := Subsingleton.elim _ _
    obtain rfl : J = ⟨256 + y1.val, by clear * -; omega⟩ := Fin.ext (hJ.trans h1)
    obtain rfl : R = ⟨y2.val, by clear * -; omega⟩ := Fin.ext (hR.trans h2)
    exact query8 m c t y1 y2
  · idx_vars y
    obtain rfl : y0 = 0 := Subsingleton.elim _ _
    obtain rfl : J = ⟨224 + y1.val, by clear * -; omega⟩ := Fin.ext (hJ.trans h1)
    obtain rfl : R = ⟨y2.val, by clear * -; omega⟩ := Fin.ext (hR.trans h2)
    exact query7 m c t y1 y2
  · idx_vars y
    obtain rfl : y0 = 0 := Subsingleton.elim _ _
    obtain rfl : J = ⟨192 + y1.val, by clear * -; omega⟩ := Fin.ext (hJ.trans h1)
    obtain rfl : R = ⟨y2.val, by clear * -; omega⟩ := Fin.ext (hR.trans h2)
    exact query6 m c t y1 y2
  · idx_vars y
    obtain rfl : y0 = 0 := Subsingleton.elim _ _
    obtain rfl : J = ⟨160 + y1.val, by clear * -; omega⟩ := Fin.ext (hJ.trans h1)
    obtain rfl : R = ⟨y2.val, by clear * -; omega⟩ := Fin.ext (hR.trans h2)
    exact query5 m c t y1 y2
  · idx_vars y
    obtain rfl : y0 = 0 := Subsingleton.elim _ _
    obtain rfl : J = ⟨128 + y1.val, by clear * -; omega⟩ := Fin.ext (hJ.trans h1)
    obtain rfl : R = ⟨y2.val, by clear * -; omega⟩ := Fin.ext (hR.trans h2)
    exact query4 m c t y1 y2
  · idx_vars y
    obtain rfl : y0 = 0 := Subsingleton.elim _ _
    obtain rfl : J = ⟨96 + y1.val, by clear * -; omega⟩ := Fin.ext (hJ.trans h1)
    obtain rfl : R = ⟨y2.val, by clear * -; omega⟩ := Fin.ext (hR.trans h2)
    exact query3 m c t y1 y2
  · idx_vars y
    obtain rfl : y0 = 0 := Subsingleton.elim _ _
    obtain rfl : J = ⟨64 + y1.val, by clear * -; omega⟩ := Fin.ext (hJ.trans h1)
    obtain rfl : R = ⟨y2.val, by clear * -; omega⟩ := Fin.ext (hR.trans h2)
    exact query2 m c t y1 y2
  · idx_vars y
    obtain rfl : y0 = 0 := Subsingleton.elim _ _
    obtain rfl : J = ⟨32 + y1.val, by clear * -; omega⟩ := Fin.ext (hJ.trans h1)
    obtain rfl : R = ⟨y2.val, by clear * -; omega⟩ := Fin.ext (hR.trans h2)
    exact query1 m c t y1 y2
  · idx_vars y
    obtain rfl : y0 = 0 := Subsingleton.elim _ _
    obtain rfl : J = ⟨y1.val, by clear * -; omega⟩ := Fin.ext (hJ.trans h1)
    obtain rfl : R = ⟨y2.val, by clear * -; omega⟩ := Fin.ext (hR.trans h2)
    exact query0 m c t y1 y2

set_option maxHeartbeats 1000000 in
theorem final16 (c : Dev nD) : (dats m 0 c).arrAt 16 cfg0.N = keysOf m c := by
  refine (dats m 0 c).arrAt_eq_of_covers 16 _ (by decide +kernel) fun t hf y => ?_
  clear hf
  obtain ⟨J, hJ⟩ : ∃ J : Fin 512, J.val = (y 2).val := ⟨⟨_, (y 2).isLt⟩, rfl⟩
  obtain ⟨R, hR⟩ : ∃ R : Fin 1024, R.val = (y 1).val := ⟨⟨_, (y 1).isLt⟩, rfl⟩
  have e : ((cfg0.win 16).blk t).view.emb y = (ix3 (bat t) (pos t R) J : S2x16384x512.Idx) := by
    have ⟨_, _, _, _, _, _, _, _, _, _, _, _, _, _, _, _, h0, _⟩ := idx t
    blk_ext [h0, hJ, hR]
  rw [e]
  clear e
  have e : keysOf m c (ix3 (bat t) (pos t R) J) = turned (P m c (bat t) (pos t R)) 2048 (by omega) (fun d => m ((c : Thread nD τ).loc main_arg5) (ix1 d)) (pos t R).val J := rfl
  refine Eq.trans ?_ e.symm
  clear e
  blk_simp
  rw [after0_16]
  frame_out
  canon_tiles y h
  · idx_vars y
    obtain rfl : y0 = 0 := Subsingleton.elim _ _
    obtain rfl : J = y2 := Fin.ext (hJ.trans h2)
    obtain rfl : R = ⟨768 + y1.val, by clear * -; omega⟩ := Fin.ext (hR.trans h1)
    have q := key3 m c t y1 J
    simp only [whole0, whole1, whole2, whole37] at q
    exact q
  · idx_vars y
    obtain rfl : y0 = 0 := Subsingleton.elim _ _
    obtain rfl : J = y2 := Fin.ext (hJ.trans h2)
    obtain rfl : R = ⟨512 + y1.val, by clear * -; omega⟩ := Fin.ext (hR.trans h1)
    have q := key2 m c t y1 J
    simp only [whole0, whole1, whole2, whole37] at q
    exact q
  · idx_vars y
    obtain rfl : y0 = 0 := Subsingleton.elim _ _
    obtain rfl : J = y2 := Fin.ext (hJ.trans h2)
    obtain rfl : R = ⟨256 + y1.val, by clear * -; omega⟩ := Fin.ext (hR.trans h1)
    have q := key1 m c t y1 J
    simp only [whole0, whole1, whole2, whole37] at q
    exact q
  · idx_vars y
    obtain rfl : y0 = 0 := Subsingleton.elim _ _
    obtain rfl : J = y2 := Fin.ext (hJ.trans h2)
    obtain rfl : R = ⟨y1.val, by clear * -; omega⟩ := Fin.ext (hR.trans h1)
    have q := key0 m c t y1 J
    simp only [whole0, whole1, whole2, whole37] at q
    exact q

set_option maxHeartbeats 1000000 in
theorem final17 (c : Dev nD) : (dats m 0 c).arrAt 17 cfg0.N = values m c := by
  refine (dats m 0 c).arrAt_eq_of_covers 17 _ (by decide +kernel) fun t hf y => ?_
  clear hf
  obtain ⟨J, hJ⟩ : ∃ J : Fin 512, J.val = (y 1).val := ⟨⟨_, (y 1).isLt⟩, rfl⟩
  obtain ⟨R, hR⟩ : ∃ R : Fin 1024, R.val = (y 2).val := ⟨⟨_, (y 2).isLt⟩, rfl⟩
  have e : ((cfg0.win 17).blk t).view.emb y = (ix3 (bat t) J (pos t R) : S2x512x16384.Idx) := by
    have ⟨_, _, _, _, _, _, _, _, _, _, _, _, _, _, _, _, _, h0⟩ := idx t
    blk_ext [h0, hJ, hR]
  rw [e]
  clear e
  have e : values m c (ix3 (bat t) J (pos t R)) = P m c (bat t) (pos t R) ⟨2560 + J.val, by omega⟩ := rfl
  refine Eq.trans ?_ e.symm
  clear e
  blk_simp
  rw [after0_17]
  frame_out
  canon_tiles y h
  · idx_vars y
    obtain rfl : y0 = 0 := Subsingleton.elim _ _
    obtain rfl : J = y1 := Fin.ext (hJ.trans h1)
    obtain rfl : R = ⟨768 + y2.val, by clear * -; omega⟩ := Fin.ext (hR.trans h2)
    exact value3 m c t J y2
  · idx_vars y
    obtain rfl : y0 = 0 := Subsingleton.elim _ _
    obtain rfl : J = y1 := Fin.ext (hJ.trans h1)
    obtain rfl : R = ⟨512 + y2.val, by clear * -; omega⟩ := Fin.ext (hR.trans h2)
    exact value2 m c t J y2
  · idx_vars y
    obtain rfl : y0 = 0 := Subsingleton.elim _ _
    obtain rfl : J = y1 := Fin.ext (hJ.trans h1)
    obtain rfl : R = ⟨256 + y2.val, by clear * -; omega⟩ := Fin.ext (hR.trans h2)
    exact value1 m c t J y2
  · idx_vars y
    obtain rfl : y0 = 0 := Subsingleton.elim _ _
    obtain rfl : J = y1 := Fin.ext (hJ.trans h1)
    obtain rfl : R = ⟨y2.val, by clear * -; omega⟩ := Fin.ext (hR.trans h2)
    exact value0 m c t J y2

theorem algebraic : Cert.algebraic_EvenInIdeal_EvenInRefIdeal := by
  intro m g m' g' hp hag
  refine ⟨conved m, queries m, keysOf m, values m,
    (θ_run _ _ _).mono (fun _ h c => ⟨(h c).1.trans (final14 m c), (h c).2.1.trans (final15 m c), (h c).2.2.1.trans (final16 m c), (h c).2.2.2.1.trans (final17 m c),
      (h c).2.2.2.2⟩) (Value.run_blocks m g),
    (θ_run _ _ _).mono (fun _ h c => ⟨(h c).1.trans ?_, (h c).2.1.trans ?_, (h c).2.2.1.trans ?_, (h c).2.2.2.1.trans ?_, (h c).2.2.2.2⟩)
      (Cert.EvenInRefIdeal.Value.run m' g')⟩
  · rw [Cert.EvenInRefIdeal.Read.val_main_v147_eq]
    obtain ⟨e0, e1, e2, e3, e4, e5⟩ := hag c
    rw [e0, e1, e2, e3]
    funext i
    idx_vars i
    exact Cert.EvenInRefIdeal.RowValue.conv_at _ _ _ _ i0 i1 i2
  · rw [Cert.EvenInRefIdeal.Read.val_main_v150_eq]
    obtain ⟨e0, e1, e2, e3, e4, e5⟩ := hag c
    rw [e0, e1, e2, e4]
    funext i
    idx_vars i
    exact Cert.EvenInRefIdeal.RowValue.query_at _ _ _ _ i0 i1 i2
  · rw [Cert.EvenInRefIdeal.Read.val_main_v152_eq]
    obtain ⟨e0, e1, e2, e3, e4, e5⟩ := hag c
    rw [e0, e1, e2, e5]
    funext i
    idx_vars i
    exact Cert.EvenInRefIdeal.RowValue.key_at _ _ _ _ i0 i1 i2
  · rw [Cert.EvenInRefIdeal.Read.val_main_v154_eq]
    obtain ⟨e0, e1, e2, e3, e4, e5⟩ := hag c
    rw [e0, e1, e2]
    funext i
    idx_vars i
    exact Cert.EvenInRefIdeal.RowValue.value_at _ _ _ i0 i1 i2

end Cert.EvenInIdeal.RowValue

end
-- ==== Proof.lean ====
module

public import proofs.«01_k».proof.Defs
public import proofs.«01_k».proof.Proof.Gen.Mla
public import proofs.«01_k».proof.Proof.Gen.Mla.Frame
public import proofs.«01_k».proof.Proof.Gen.MlaIdeal
public import proofs.«01_k».proof.Proof.Gen.MlaIdeal.Frame
public import proofs.«01_k».proof.Proof.Gen.MlaRefIdeal
public import proofs.«01_k».proof.Proof.Gen.MlaRefIdeal.Run
public import proofs.«01_k».proof.Proof.Gen.Diff
public import proofs.«01_k».proof.Proof.Gen.Diff.Frame
public import proofs.«01_k».proof.Proof.Gen.DiffIdeal
public import proofs.«01_k».proof.Proof.Gen.DiffIdeal.Frame
public import proofs.«01_k».proof.Proof.Gen.DiffRefIdeal
public import proofs.«01_k».proof.Proof.Gen.DiffRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.MlaFfn
public import proofs.«01_k».proof.Proof.Gen.MlaFfn.Frame
public import proofs.«01_k».proof.Proof.Gen.MlaFfnIdeal
public import proofs.«01_k».proof.Proof.Gen.MlaFfnIdeal.Frame
public import proofs.«01_k».proof.Proof.Gen.MlaFfnRefIdeal
public import proofs.«01_k».proof.Proof.Gen.MlaFfnRefIdeal.Run
public import proofs.«01_k».proof.Proof.Gen.EvenFfn
public import proofs.«01_k».proof.Proof.Gen.EvenFfn.Frame
public import proofs.«01_k».proof.Proof.Gen.EvenFfnIdeal
public import proofs.«01_k».proof.Proof.Gen.EvenFfnIdeal.Frame
public import proofs.«01_k».proof.Proof.Gen.EvenFfnRefIdeal
public import proofs.«01_k».proof.Proof.Gen.EvenFfnRefIdeal.Run
public import proofs.«01_k».proof.Proof.Gen.EvenIn
public import proofs.«01_k».proof.Proof.Gen.EvenIn.Frame
public import proofs.«01_k».proof.Proof.Gen.EvenInIdeal
public import proofs.«01_k».proof.Proof.Gen.EvenInIdeal.Frame
public import proofs.«01_k».proof.Proof.Gen.EvenInRefIdeal
public import proofs.«01_k».proof.Proof.Gen.EvenInRefIdeal.Run
public import proofs.«01_k».proof.Proof.MlaValue
public import proofs.«01_k».proof.Proof.DiffValue
public import proofs.«01_k».proof.Proof.FfnValue
public import proofs.«01_k».proof.Proof.MlaFfnValue
public import proofs.«01_k».proof.Proof.EvenFfnValue
public import proofs.«01_k».proof.Proof.EvenInValue

@[expose] public section

noncomputable section

namespace Cert.Proof

open Idealize.ShloMosaic Idealize.SL.Sem

/-- The reference of `Mla` ends with its arguments unchanged; it declares no semaphore. -/
theorem frame_MlaRef : Cert.quiescent_MlaRefIdeal := fun m ρ _ =>
  (θ_run Cert.MlaRefIdeal.defs _ _).mono (fun r h => ⟨fun c => (h c).2,
      Idealize.ShloMosaic.sem_eq_zero_of_no_sems (by decide) r.2⟩) (Cert.MlaRefIdeal.Value.run (F := Ideal) m ρ)

/-- The reference of `Diff` ends with its arguments unchanged; it declares no semaphore. -/
theorem frame_DiffRef : Cert.quiescent_DiffRefIdeal := fun m ρ _ =>
  (θ_run Cert.DiffRefIdeal.defs _ _).mono (fun r h => ⟨fun c => (h c).2,
      Idealize.ShloMosaic.sem_eq_zero_of_no_sems (by decide) r.2⟩) (Cert.DiffRefIdeal.Value.run (F := Ideal) m ρ)

/-- The reference of `Ffn` ends with its arguments unchanged; it declares no semaphore. -/
theorem frame_FfnRef : Cert.quiescent_FfnRefIdeal := fun m ρ _ =>
  (θ_run Cert.FfnRefIdeal.defs _ _).mono (fun r h => ⟨fun c => (h c).2,
      Idealize.ShloMosaic.sem_eq_zero_of_no_sems (by decide) r.2⟩) (Cert.FfnRefIdeal.Value.run (F := Ideal) m ρ)

/-- The reference of `MlaFfn` ends with its arguments unchanged; it declares no semaphore. -/
theorem frame_MlaFfnRef : Cert.quiescent_MlaFfnRefIdeal := fun m ρ _ =>
  (θ_run Cert.MlaFfnRefIdeal.defs _ _).mono (fun r h => ⟨fun c => (h c).2,
      Idealize.ShloMosaic.sem_eq_zero_of_no_sems (by decide) r.2⟩) (Cert.MlaFfnRefIdeal.Value.run (F := Ideal) m ρ)

/-- The reference of `EvenFfn` ends with its arguments unchanged; it declares no semaphore. -/
theorem frame_EvenFfnRef : Cert.quiescent_EvenFfnRefIdeal := fun m ρ _ =>
  (θ_run Cert.EvenFfnRefIdeal.defs _ _).mono (fun r h => ⟨fun c => (h c).2,
      Idealize.ShloMosaic.sem_eq_zero_of_no_sems (by decide) r.2⟩) (Cert.EvenFfnRefIdeal.Value.run (F := Ideal) m ρ)

/-- The reference of `EvenIn` ends with its arguments unchanged; it declares no semaphore. -/
theorem frame_EvenInRef : Cert.quiescent_EvenInRefIdeal := fun m ρ _ =>
  (θ_run Cert.EvenInRefIdeal.defs _ _).mono (fun r h => ⟨fun c => (h c).2.2.2.2,
      Idealize.ShloMosaic.sem_eq_zero_of_no_sems (by decide) r.2⟩) (Cert.EvenInRefIdeal.Value.run (F := Ideal) m ρ)

theorem claim : Cert.Claim := ⟨Cert.Mla.Gen.facts, Cert.MlaIdeal.Gen.facts, Cert.MlaRefIdeal.Gen.facts,
  Cert.Diff.Gen.facts, Cert.DiffIdeal.Gen.facts, Cert.DiffRefIdeal.Gen.facts,
  Cert.Ffn.Gen.facts, Cert.FfnIdeal.Gen.facts, Cert.FfnRefIdeal.Gen.facts,
  Cert.MlaFfn.Gen.facts, Cert.MlaFfnIdeal.Gen.facts, Cert.MlaFfnRefIdeal.Gen.facts,
  Cert.EvenFfn.Gen.facts, Cert.EvenFfnIdeal.Gen.facts, Cert.EvenFfnRefIdeal.Gen.facts,
  Cert.EvenIn.Gen.facts, Cert.EvenInIdeal.Gen.facts, Cert.EvenInRefIdeal.Gen.facts,
  Cert.Pre_mla_finite.Gen.facts,
  Cert.DiffIdeal.RowValue.finiteFacts,
  fun m ρ _ => Cert.Mla.Gen.frame m ρ, fun m ρ _ => Cert.MlaIdeal.Gen.frame m ρ, fun m ρ _ => Cert.MlaIdeal.Gen.frame m ρ, frame_MlaRef, fun m ρ _ => frame_MlaRef m ρ True.intro,
  fun m ρ _ => Cert.Diff.Gen.frame m ρ, fun m ρ _ => Cert.DiffIdeal.Gen.frame m ρ, fun m ρ _ => Cert.DiffIdeal.Gen.frame m ρ, frame_DiffRef, fun m ρ _ => frame_DiffRef m ρ True.intro,
  fun m ρ _ => Cert.Ffn.Gen.frame m ρ, fun m ρ _ => Cert.FfnIdeal.Gen.frame m ρ, frame_FfnRef,
  fun m ρ _ => Cert.MlaFfn.Gen.frame m ρ, fun m ρ _ => Cert.MlaFfnIdeal.Gen.frame m ρ, frame_MlaFfnRef,
  fun m ρ _ => Cert.EvenFfn.Gen.frame m ρ, fun m ρ _ => Cert.EvenFfnIdeal.Gen.frame m ρ, frame_EvenFfnRef,
  fun m ρ _ => Cert.EvenIn.Gen.frame m ρ, fun m ρ _ => Cert.EvenInIdeal.Gen.frame m ρ, frame_EvenInRef,
  IdealRules.named_const.statement Cert.MlaIdeal.κ "qscale" .f32 0x3DD53B95#32 (((Real.sqrt 192)⁻¹ * (Real.log 2)⁻¹ : ℝ) : EReal) rfl, Cert.MlaIdeal.RowValue.algebraic,
  IdealRules.named_const.statement Cert.DiffIdeal.κ "qscale" .f32 0x3E38AA3B#32 (((Real.sqrt 64)⁻¹ * (Real.log 2)⁻¹ : ℝ) : EReal) rfl, Cert.DiffIdeal.RowValue.algebraic,
  trivial, Cert.FfnIdeal.RowValue.algebraic,
  trivial, Cert.MlaFfnIdeal.RowValue.algebraic,
  trivial, Cert.EvenFfnIdeal.RowValue.algebraic,
  trivial, Cert.EvenInIdeal.RowValue.algebraic⟩

end Cert.Proof

end
